-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_head_parameters [hPre_finite_head_parameters : Cert.Pre_finite_head_parameters.Facts] (m : (ℓ : Loc Cert.KernelIdeal.nD Cert.KernelIdeal.τ Cert.KernelIdeal.sig) → Buf (Elt Ideal) ℓ) : Prop :=
  ∀ c : Dev Cert.KernelIdeal.nD,
    (Cert.Pre_finite_head_parameters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_head_parameters [hPre_finite_head_parameters : Cert.Pre_finite_head_parameters.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_head_parameters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_head_parameters [hKernelIdeal : Cert.KernelIdeal.Facts] [hPre_finite_head_parameters : Cert.Pre_finite_head_parameters.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_head_parameters m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_head_parameters [hReferenceIdeal : Cert.ReferenceIdeal.Facts] [hPre_finite_head_parameters : Cert.Pre_finite_head_parameters.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_head_parameters m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_finite_head_parameters [hKernelIdeal : Cert.KernelIdeal.Facts] [hReferenceIdeal : Cert.ReferenceIdeal.Facts] [hPre_finite_head_parameters : Cert.Pre_finite_head_parameters.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_head_parameters m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v310) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_head_parameters : Cert.Pre_finite_head_parameters.Facts),
    quiescent_Kernel (hKernel := hKernel)
    ∧ quiescent_KernelIdeal (hKernelIdeal := hKernelIdeal)
    ∧ quiescent_KernelIdeal_pre_finite_head_parameters (hKernelIdeal := hKernelIdeal) (hPre_finite_head_parameters := hPre_finite_head_parameters)
    ∧ quiescent_ReferenceIdeal (hReferenceIdeal := hReferenceIdeal)
    ∧ quiescent_ReferenceIdeal_pre_finite_head_parameters (hReferenceIdeal := hReferenceIdeal) (hPre_finite_head_parameters := hPre_finite_head_parameters)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_head_parameters (hKernelIdeal := hKernelIdeal) (hReferenceIdeal := hReferenceIdeal) (hPre_finite_head_parameters := hPre_finite_head_parameters)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_head_parameters.lean ====
abbrev S8192x2048 : Shape := ⟨2, ![8192, 2048]⟩
abbrev S1x2048 : Shape := ⟨2, ![1, 2048]⟩
abbrev S2048x5632 : Shape := ⟨2, ![2048, 5632]⟩
abbrev S2048x2048 : Shape := ⟨2, ![2048, 2048]⟩
abbrev S8 : Shape := ⟨1, ![8]⟩
abbrev S1x128 : Shape := ⟨2, ![1, 128]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S8192x2048 .f32) (main_arg1 : FVec F S1x2048 .f32) (main_arg2 : FVec F S2048x5632 .bf16) (main_arg3 : FVec F S2048x2048 .bf16) (main_arg4 : FVec F S8 .f32) (main_arg5 : FVec F S1x128 .f32) (main_arg6 : FVec F S1x128 .f32) : IVec S_ 1 :=
  let main_v0 : FVec F S8 .f32 := Host.absf main_arg4
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S1x128 .f32 := Host.absf main_arg5
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg6
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Kernel.lean ====
abbrev S8192x2048 : Shape := ⟨2, ![8192, 2048]⟩
abbrev S1x2048 : Shape := ⟨2, ![1, 2048]⟩
abbrev S2048x5632 : Shape := ⟨2, ![2048, 5632]⟩
abbrev S2048x2048 : Shape := ⟨2, ![2048, 2048]⟩
abbrev S8 : Shape := ⟨1, ![8]⟩
abbrev S1x128 : Shape := ⟨2, ![1, 128]⟩
abbrev S256 : Shape := ⟨1, ![256]⟩
abbrev S256x1 : Shape := ⟨2, ![256, 1]⟩
abbrev S32 : Shape := ⟨1, ![32]⟩
abbrev S_ : Shape := ⟨0, ![]⟩
abbrev S32x1 : Shape := ⟨2, ![32, 1]⟩
abbrev S64 : Shape := ⟨1, ![64]⟩
abbrev S128 : Shape := ⟨1, ![128]⟩
abbrev S16 : Shape := ⟨1, ![16]⟩
abbrev S96 : Shape := ⟨1, ![96]⟩
abbrev S32x128 : Shape := ⟨2, ![32, 128]⟩
abbrev S32x1x128 : Shape := ⟨3, ![32, 1, 128]⟩
abbrev S32x4x128 : Shape := ⟨3, ![32, 4, 128]⟩
abbrev S8x128 : Shape := ⟨2, ![8, 128]⟩
abbrev S1x8 : Shape := ⟨2, ![1, 8]⟩
abbrev S2x8 : Shape := ⟨2, ![2, 8]⟩
abbrev S256x128 : Shape := ⟨2, ![256, 128]⟩
abbrev S256x2048 : Shape := ⟨2, ![256, 2048]⟩
abbrev S1x4x128 : Shape := ⟨3, ![1, 4, 128]⟩
abbrev S256x4352 : Shape := ⟨2, ![256, 4352]⟩
abbrev S256x1280 : Shape := ⟨2, ![256, 1280]⟩
abbrev S8x128x128 : Shape := ⟨3, ![8, 128, 128]⟩
abbrev S2x128x128 : Shape := ⟨3, ![2, 128, 128]⟩
abbrev S2048x256 : Shape := ⟨2, ![2048, 256]⟩
abbrev S256x256 : Shape := ⟨2, ![256, 256]⟩
abbrev S4x128 : Shape := ⟨2, ![4, 128]⟩
abbrev S128x128 : Shape := ⟨2, ![128, 128]⟩
abbrev S1x1 : Shape := ⟨2, ![1, 1]⟩
abbrev S1x128x128 : Shape := ⟨3, ![1, 128, 128]⟩
abbrev S128x256 : Shape := ⟨2, ![128, 256]⟩
abbrev S128x1 : Shape := ⟨2, ![128, 1]⟩
abbrev S512x128 : Shape := ⟨2, ![512, 128]⟩
abbrev S512x256 : Shape := ⟨2, ![512, 256]⟩
abbrev S1 : Shape := ⟨1, ![1]⟩

abbrev nBuf : Space → Nat
  | .hbm => 150
  | .vmem => 26
  | .smem => 2
  | _ => 0

abbrev hbmTy0_0 (i : Nat) : BufTy := match i % 128 with
  | 0 => ⟨S8192x2048, .f32⟩
  | 1 => ⟨S1x2048, .f32⟩
  | 2 => ⟨S2048x5632, .bf16⟩
  | 3 => ⟨S2048x2048, .bf16⟩
  | 4 => ⟨S8, .f32⟩
  | 5 => ⟨S1x128, .f32⟩
  | 6 => ⟨S1x128, .f32⟩
  | 7 => ⟨S256, .f32⟩
  | 8 => ⟨S256x1, .f32⟩
  | 9 => ⟨S32, .f32⟩
  | 10 => ⟨S_, .f32⟩
  | 11 => ⟨S32, .f32⟩
  | 12 => ⟨S32, .f32⟩
  | 13 => ⟨S32x1, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S64, .f32⟩
  | 22 => ⟨S_, .f32⟩
  | 23 => ⟨S64, .f32⟩
  | 24 => ⟨S64, .f32⟩
  | 25 => ⟨S_, .f32⟩
  | 26 => ⟨S64, .f32⟩
  | 27 => ⟨S64, .f32⟩
  | 28 => ⟨S128, .f32⟩
  | 29 => ⟨S16, .f32⟩
  | 30 => ⟨S_, .f32⟩
  | 31 => ⟨S16, .f32⟩
  | 32 => ⟨S16, .f32⟩
  | 33 => ⟨S_, .f32⟩
  | 34 => ⟨S16, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S_, .f32⟩
  | 44 => ⟨S96, .f32⟩
  | 45 => ⟨S128, .f32⟩
  | 46 => ⟨S1x128, .f32⟩
  | 47 => ⟨S32x128, .f32⟩
  | 48 => ⟨S32x128, .f32⟩
  | 49 => ⟨S32x128, .f32⟩
  | 50 => ⟨S32x128, .f32⟩
  | 51 => ⟨S1x128, .f32⟩
  | 52 => ⟨S32x128, .f32⟩
  | 53 => ⟨S32x128, .f32⟩
  | 54 => ⟨S32x128, .f32⟩
  | 55 => ⟨S32x128, .f32⟩
  | 56 => ⟨S1x128, .f32⟩
  | 57 => ⟨S32x128, .f32⟩
  | 58 => ⟨S32x128, .f32⟩
  | 59 => ⟨S32x128, .f32⟩
  | 60 => ⟨S32x128, .f32⟩
  | 61 => ⟨S1x128, .f32⟩
  | 62 => ⟨S32x128, .f32⟩
  | 63 => ⟨S32x128, .f32⟩
  | 64 => ⟨S32x128, .f32⟩
  | 65 => ⟨S32x128, .f32⟩
  | 66 => ⟨S32x1x128, .f32⟩
  | 67 => ⟨S32x1x128, .f32⟩
  | 68 => ⟨S32x1x128, .f32⟩
  | 69 => ⟨S32x1x128, .f32⟩
  | 70 => ⟨S32x4x128, .f32⟩
  | 71 => ⟨S8x128, .i32⟩
  | 72 => ⟨S8x128, .i32⟩
  | 73 => ⟨S_, .i32⟩
  | 74 => ⟨S8x128, .i32⟩
  | 75 => ⟨S8x128, .i1⟩
  | 76 => ⟨S_, .f32⟩
  | 77 => ⟨S_, .f32⟩
  | 78 => ⟨S8x128, .f32⟩
  | 79 => ⟨S8x128, .f32⟩
  | 80 => ⟨S8x128, .f32⟩
  | 81 => ⟨S8x128, .f32⟩
  | 82 => ⟨S_, .i32⟩
  | 83 => ⟨S8x128, .i32⟩
  | 84 => ⟨S8x128, .i1⟩
  | 85 => ⟨S_, .f32⟩
  | 86 => ⟨S_, .f32⟩
  | 87 => ⟨S8x128, .f32⟩
  | 88 => ⟨S8x128, .f32⟩
  | 89 => ⟨S8x128, .f32⟩
  | 90 => ⟨S8x128, .f32⟩
  | 91 => ⟨S_, .i32⟩
  | 92 => ⟨S8x128, .i32⟩
  | 93 => ⟨S8x128, .i1⟩
  | 94 => ⟨S_, .i32⟩
  | 95 => ⟨S8x128, .i32⟩
  | 96 => ⟨S8x128, .i1⟩
  | 97 => ⟨S8x128, .i1⟩
  | 98 => ⟨S_, .f32⟩
  | 99 => ⟨S_, .f32⟩
  | 100 => ⟨S8x128, .f32⟩
  | 101 => ⟨S8x128, .f32⟩
  | 102 => ⟨S8x128, .f32⟩
  | 103 => ⟨S8x128, .f32⟩
  | 104 => ⟨S_, .i32⟩
  | 105 => ⟨S8x128, .i32⟩
  | 106 => ⟨S8x128, .i1⟩
  | 107 => ⟨S_, .i32⟩
  | 108 => ⟨S8x128, .i32⟩
  | 109 => ⟨S8x128, .i1⟩
  | 110 => ⟨S8x128, .f32⟩
  | 111 => ⟨S8x128, .f32⟩
  | 112 => ⟨S8, .f32⟩
  | 113 => ⟨S_, .f32⟩
  | 114 => ⟨S8, .f32⟩
  | 115 => ⟨S8, .f32⟩
  | 116 => ⟨S_, .f32⟩
  | 117 => ⟨S8, .f32⟩
  | 118 => ⟨S8, .f32⟩
  | 119 => ⟨S8, .f32⟩
  | 120 => ⟨S8, .f32⟩
  | 121 => ⟨S8, .f32⟩
  | 122 => ⟨S_, .f32⟩
  | 123 => ⟨S8, .f32⟩
  | 124 => ⟨S8, .f32⟩
  | 125 => ⟨S8, .f32⟩
  | 126 => ⟨S1x8, .f32⟩
  | 127 => ⟨S1x8, .f32⟩
  | _ => ⟨S8192x2048, .f32⟩

abbrev hbmTy0_1 (i : Nat) : BufTy := match i % 128 with
  | 0 => ⟨S2x8, .f32⟩
  | 1 => ⟨S1x128, .f32⟩
  | 2 => ⟨S256x128, .f32⟩
  | 3 => ⟨S256x128, .f32⟩
  | 4 => ⟨S256x128, .f32⟩
  | 5 => ⟨S256x128, .f32⟩
  | 6 => ⟨S1x128, .f32⟩
  | 7 => ⟨S256x128, .f32⟩
  | 8 => ⟨S256x128, .f32⟩
  | 9 => ⟨S256x128, .f32⟩
  | 10 => ⟨S256x128, .f32⟩
  | 11 => ⟨S1x128, .f32⟩
  | 12 => ⟨S256x128, .f32⟩
  | 13 => ⟨S256x128, .f32⟩
  | 14 => ⟨S256x128, .f32⟩
  | 15 => ⟨S256x128, .f32⟩
  | 16 => ⟨S1x128, .f32⟩
  | 17 => ⟨S256x128, .f32⟩
  | 18 => ⟨S256x128, .f32⟩
  | 19 => ⟨S256x128, .f32⟩
  | 20 => ⟨S256x128, .f32⟩
  | 21 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x5632, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x4x128, .f32⟩
  | .local _ .vmem, ⟨9, _⟩ => ⟨S1x4x128, .f32⟩
  | .local _ .vmem, ⟨10, _⟩ => ⟨S8x128, .f32⟩
  | .local _ .vmem, ⟨11, _⟩ => ⟨S1x128, .f32⟩
  | .local _ .vmem, ⟨12, _⟩ => ⟨S1x128, .f32⟩
  | .local _ .vmem, ⟨13, _⟩ => ⟨S2048x2048, .bf16⟩
  | .local _ .vmem, ⟨14, _⟩ => ⟨S256x2048, .f32⟩
  | .local _ .vmem, ⟨15, _⟩ => ⟨S256x2048, .f32⟩
  | .local _ .vmem, ⟨16, _⟩ => ⟨S256x4352, .f32⟩
  | .local _ .vmem, ⟨17, _⟩ => ⟨S256x1280, .bf16⟩
  | .local _ .vmem, ⟨18, _⟩ => ⟨S256x4352, .f32⟩
  | .local _ .vmem, ⟨19, _⟩ => ⟨S256x1280, .bf16⟩
  | .local _ .vmem, ⟨20, _⟩ => ⟨S256x2048, .bf16⟩
  | .local _ .vmem, ⟨21, _⟩ => ⟨S256x2048, .f32⟩
  | .local _ .vmem, ⟨22, _⟩ => ⟨S256x2048, .bf16⟩
  | .local _ .vmem, ⟨23, _⟩ => ⟨S8x128x128, .f32⟩
  | .local _ .vmem, ⟨24, _⟩ => ⟨S2x128x128, .bf16⟩
  | .local _ .vmem, ⟨25, _⟩ => ⟨S2x128x128, .bf16⟩
  | .local _ .smem, ⟨0, _⟩ => ⟨S8, .f32⟩
  | .local _ .smem, ⟨1, _⟩ => ⟨S2x8, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_cst_10 : Ref sig .tc := ⟨.hbm, 77, rfl⟩
abbrev main_call0_v0 : Ref sig .tc := ⟨.hbm, 78, rfl⟩
abbrev main_call0_v1 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_cst_17 : Ref sig .tc := ⟨.hbm, 99, rfl⟩
abbrev main_call2_v0 : Ref sig .tc := ⟨.hbm, 100, rfl⟩
abbrev main_call2_v1 : Ref sig .tc := ⟨.hbm, 101, rfl⟩
abbrev main_v69 : Ref sig .tc := ⟨.hbm, 102, rfl⟩
abbrev main_v70 : Ref sig .tc := ⟨.hbm, 103, rfl⟩
abbrev main_c_18 : Ref sig .tc := ⟨.hbm, 104, rfl⟩
abbrev main_v71 : Ref sig .tc := ⟨.hbm, 105, rfl⟩
abbrev main_v72 : Ref sig .tc := ⟨.hbm, 106, rfl⟩
abbrev main_c_19 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_20 : Ref sig .tc := ⟨.hbm, 113, rfl⟩
abbrev main_v78 : Ref sig .tc := ⟨.hbm, 114, rfl⟩
abbrev main_v79 : Ref sig .tc := ⟨.hbm, 115, rfl⟩
abbrev main_cst_21 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_22 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg14_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c32_i32 : BitVec 32 := 32#32
  let v4 : BitVec 1 := Scalar.cmpi .slt arg0 c32_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c32_i32_3 : BitVec 32 := 32#32
  let v8 : BitVec 1 := Scalar.cmpi .eq arg0 c32_i32_3
  let v9 : BitVec 32 := Scalar.extui v8
  let c0_i32_4 : BitVec 32 := 0#32
  let v10 : BitVec 1 := Scalar.cmpi .ne v9 c0_i32_4
  v10

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S8192x2048 : Shape := ⟨2, ![8192, 2048]⟩
abbrev S1x2048 : Shape := ⟨2, ![1, 2048]⟩
abbrev S2048x5632 : Shape := ⟨2, ![2048, 5632]⟩
abbrev S2048x2048 : Shape := ⟨2, ![2048, 2048]⟩
abbrev S8 : Shape := ⟨1, ![8]⟩
abbrev S1x128 : Shape := ⟨2, ![1, 128]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S64 : Shape := ⟨1, ![64]⟩
abbrev S1x64 : Shape := ⟨2, ![1, 64]⟩
abbrev S8192x64 : Shape := ⟨2, ![8192, 64]⟩
abbrev S8192x128 : Shape := ⟨2, ![8192, 128]⟩
abbrev S8192x5632 : Shape := ⟨2, ![8192, 5632]⟩
abbrev S8192x1024 : Shape := ⟨2, ![8192, 1024]⟩
abbrev S8192x256 : Shape := ⟨2, ![8192, 256]⟩
abbrev S8192x8x128 : Shape := ⟨3, ![8192, 8, 128]⟩
abbrev S8192x1x128 : Shape := ⟨3, ![8192, 1, 128]⟩
abbrev S8192x8x64 : Shape := ⟨3, ![8192, 8, 64]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S64x128x8x128 : Shape := ⟨4, ![64, 128, 8, 128]⟩
abbrev S64x8x128x128 : Shape := ⟨4, ![64, 8, 128, 128]⟩
abbrev S1x8x128x128 : Shape := ⟨4, ![1, 8, 128, 128]⟩
abbrev S1x8 : Shape := ⟨2, ![1, 8]⟩
abbrev S128x8 : Shape := ⟨2, ![128, 8]⟩
abbrev S128x8x1 : Shape := ⟨3, ![128, 8, 1]⟩
abbrev S1x128x8x1 : Shape := ⟨4, ![1, 128, 8, 1]⟩
abbrev S64x1 : Shape := ⟨2, ![64, 1]⟩
abbrev S64x64 : Shape := ⟨2, ![64, 64]⟩
abbrev S1x64x64 : Shape := ⟨3, ![1, 64, 64]⟩
abbrev S8x64x64 : Shape := ⟨3, ![8, 64, 64]⟩
abbrev S8x128x128x64 : Shape := ⟨4, ![8, 128, 128, 64]⟩
abbrev S8192x8 : Shape := ⟨2, ![8192, 8]⟩
abbrev S8192x8x1 : Shape := ⟨3, ![8192, 8, 1]⟩
abbrev S1x1x128 : Shape := ⟨3, ![1, 1, 128]⟩
abbrev S8192x2x128 : Shape := ⟨3, ![8192, 2, 128]⟩
abbrev S8192x2 : Shape := ⟨2, ![8192, 2]⟩
abbrev S8192x2x1 : Shape := ⟨3, ![8192, 2, 1]⟩
abbrev S8192x8x32 : Shape := ⟨3, ![8192, 8, 32]⟩
abbrev S8192x1x32 : Shape := ⟨3, ![8192, 1, 32]⟩
abbrev S8192x8x16 : Shape := ⟨3, ![8192, 8, 16]⟩
abbrev S8192x8x96 : Shape := ⟨3, ![8192, 8, 96]⟩
abbrev S8192x2x32 : Shape := ⟨3, ![8192, 2, 32]⟩
abbrev S8192x2x16 : Shape := ⟨3, ![8192, 2, 16]⟩
abbrev S8192x2x96 : Shape := ⟨3, ![8192, 2, 96]⟩
abbrev S64x128x2x4x128 : Shape := ⟨5, ![64, 128, 2, 4, 128]⟩
abbrev S64x128x2x128 : Shape := ⟨4, ![64, 128, 2, 128]⟩
abbrev S1x128x2x128 : Shape := ⟨4, ![1, 128, 2, 128]⟩
abbrev S63x128x2x128 : Shape := ⟨4, ![63, 128, 2, 128]⟩
abbrev S64x256x2x128 : Shape := ⟨4, ![64, 256, 2, 128]⟩
abbrev S64x2x256x128x4 : Shape := ⟨5, ![64, 2, 256, 128, 4]⟩
abbrev S64x2x4x128x256 : Shape := ⟨5, ![64, 2, 4, 128, 256]⟩
abbrev S64x1x1 : Shape := ⟨3, ![64, 1, 1]⟩
abbrev S1x128x1 : Shape := ⟨3, ![1, 128, 1]⟩
abbrev S256 : Shape := ⟨1, ![256]⟩
abbrev S1x1x256 : Shape := ⟨3, ![1, 1, 256]⟩
abbrev S1x128x256 : Shape := ⟨3, ![1, 128, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S1x2x4x1x1 : Shape := ⟨5, ![1, 2, 4, 1, 1]⟩
abbrev S64x2x4x128x1 : Shape := ⟨5, ![64, 2, 4, 128, 1]⟩
abbrev S64x2x4x128x257 : Shape := ⟨5, ![64, 2, 4, 128, 257]⟩
abbrev S64x2x4x128 : Shape := ⟨4, ![64, 2, 4, 128]⟩
abbrev S64x2x128x4x128 : Shape := ⟨5, ![64, 2, 128, 4, 128]⟩

abbrev nBuf : Space → Nat
  | .hbm => 379
  | .vmem => 0
  | .smem => 0
  | _ => 0

abbrev hbmTy0_0 (i : Nat) : BufTy := match i % 128 with
  | 0 => ⟨S8192x2048, .f32⟩
  | 1 => ⟨S1x2048, .f32⟩
  | 2 => ⟨S2048x5632, .bf16⟩
  | 3 => ⟨S2048x2048, .bf16⟩
  | 4 => ⟨S8, .f32⟩
  | 5 => ⟨S1x128, .f32⟩
  | 6 => ⟨S1x128, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S8192, .f32⟩
  | 22 => ⟨S8192x1, .f32⟩
  | 23 => ⟨S1x16, .f32⟩
  | 24 => ⟨S8192x16, .f32⟩
  | 25 => ⟨S8192x16, .f32⟩
  | 26 => ⟨S8192x16, .f32⟩
  | 27 => ⟨S8192x32, .f32⟩
  | 28 => ⟨S8192x32, .f32⟩
  | 29 => ⟨S8192x32, .f32⟩
  | 30 => ⟨S64, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S64, .f32⟩
  | 38 => ⟨S_, .f32⟩
  | 39 => ⟨S64, .f32⟩
  | 40 => ⟨S64, .f32⟩
  | 41 => ⟨S_, .f32⟩
  | 42 => ⟨S64, .f32⟩
  | 43 => ⟨S64, .f32⟩
  | 44 => ⟨S8192, .f32⟩
  | 45 => ⟨S8192x1, .f32⟩
  | 46 => ⟨S1x64, .f32⟩
  | 47 => ⟨S8192x64, .f32⟩
  | 48 => ⟨S8192x64, .f32⟩
  | 49 => ⟨S8192x64, .f32⟩
  | 50 => ⟨S8192x128, .f32⟩
  | 51 => ⟨S8192x128, .f32⟩
  | 52 => ⟨S8192x128, .f32⟩
  | 53 => ⟨S8192x2048, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1, .f32⟩
  | 64 => ⟨S8192x2048, .f32⟩
  | 65 => ⟨S8192x2048, .f32⟩
  | 66 => ⟨S8192x2048, .f32⟩
  | 67 => ⟨S8192x2048, .f32⟩
  | 68 => ⟨S2048x5632, .f32⟩
  | 69 => ⟨S8192x5632, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x256, .f32⟩
  | 76 => ⟨S8192x256, .f32⟩
  | 77 => ⟨S8192x8x128, .f32⟩
  | 78 => ⟨S8192x1x128, .f32⟩
  | 79 => ⟨S8192x1x128, .f32⟩
  | 80 => ⟨S8192x8x64, .f32⟩
  | 81 => ⟨S8192x8x64, .f32⟩
  | 82 => ⟨S8192x8x128, .f32⟩
  | 83 => ⟨S8192x8x128, .f32⟩
  | 84 => ⟨S8192x8x64, .f32⟩
  | 85 => ⟨S8192x8x128, .f32⟩
  | 86 => ⟨S8192x8x128, .f32⟩
  | 87 => ⟨S8192x8x128, .f32⟩
  | 88 => ⟨S8192x8x128, .f32⟩
  | 89 => ⟨S8192x8x128, .f32⟩
  | 90 => ⟨S8192x1x128, .f32⟩
  | 91 => ⟨S8192x1x128, .f32⟩
  | 92 => ⟨S8192x8x64, .f32⟩
  | 93 => ⟨S8192x8x64, .f32⟩
  | 94 => ⟨S8192x8x128, .f32⟩
  | 95 => ⟨S8192x8x128, .f32⟩
  | 96 => ⟨S8192x8x64, .f32⟩
  | 97 => ⟨S8192x8x128, .f32⟩
  | 98 => ⟨S8192x8x128, .f32⟩
  | 99 => ⟨S8192x8x128, .f32⟩
  | 100 => ⟨S8192x8x128, .f32⟩
  | 101 => ⟨S8192x8x128, .f32⟩
  | 102 => ⟨S_, .f32⟩
  | 103 => ⟨S8192x8x128, .f32⟩
  | 104 => ⟨S8192x8x128, .f32⟩
  | 105 => ⟨S8, .f32⟩
  | 106 => ⟨S_, .f32⟩
  | 107 => ⟨S8, .f32⟩
  | 108 => ⟨S8, .f32⟩
  | 109 => ⟨S_, .f32⟩
  | 110 => ⟨S8, .f32⟩
  | 111 => ⟨S8, .f32⟩
  | 112 => ⟨S8, .f32⟩
  | 113 => ⟨S8, .f32⟩
  | 114 => ⟨S8, .f32⟩
  | 115 => ⟨S128, .f32⟩
  | 116 => ⟨S128x1, .f32⟩
  | 117 => ⟨S1x128, .f32⟩
  | 118 => ⟨S128x128, .f32⟩
  | 119 => ⟨S128x128, .f32⟩
  | 120 => ⟨S128x128, .f32⟩
  | 121 => ⟨S1x128x128, .f32⟩
  | 122 => ⟨S_, .f32⟩
  | 123 => ⟨S1x128x128, .f32⟩
  | 124 => ⟨S1x128x128, .i1⟩
  | 125 => ⟨S_, .f32⟩
  | 126 => ⟨S128x128, .f32⟩
  | 127 => ⟨S128x128, .f32⟩
  | _ => ⟨S8192x2048, .f32⟩

abbrev hbmTy0_1 (i : Nat) : BufTy := match i % 128 with
  | 0 => ⟨S1x128x128, .f32⟩
  | 1 => ⟨S8x1x1, .f32⟩
  | 2 => ⟨S8x128x128, .f32⟩
  | 3 => ⟨S8x128x128, .f32⟩
  | 4 => ⟨S8x128x128, .f32⟩
  | 5 => ⟨S8x128x128, .f32⟩
  | 6 => ⟨S_, .f32⟩
  | 7 => ⟨S_, .f32⟩
  | 8 => ⟨S8x128x128, .i1⟩
  | 9 => ⟨S8x128x128, .f32⟩
  | 10 => ⟨S8x128x128, .f32⟩
  | 11 => ⟨S64x128x8x128, .f32⟩
  | 12 => ⟨S64x128x8x128, .f32⟩
  | 13 => ⟨S64x128x8x128, .f32⟩
  | 14 => ⟨S64x8x128x128, .f32⟩
  | 15 => ⟨S1x8x128x128, .f32⟩
  | 16 => ⟨S64x8x128x128, .f32⟩
  | 17 => ⟨S64x8x128x128, .f32⟩
  | 18 => ⟨S64x8x128x128, .f32⟩
  | 19 => ⟨S64x128x8x128, .f32⟩
  | 20 => ⟨S_, .f32⟩
  | 21 => ⟨S128, .f32⟩
  | 22 => ⟨S128, .f32⟩
  | 23 => ⟨S128x1, .f32⟩
  | 24 => ⟨S1x8, .f32⟩
  | 25 => ⟨S128x8, .f32⟩
  | 26 => ⟨S128x8, .f32⟩
  | 27 => ⟨S128x8, .f32⟩
  | 28 => ⟨S128x8, .f32⟩
  | 29 => ⟨S128x8x1, .f32⟩
  | 30 => ⟨S1x128x8x1, .f32⟩
  | 31 => ⟨S64x128x8x128, .f32⟩
  | 32 => ⟨S64x128x8x128, .f32⟩
  | 33 => ⟨S64x8x128x128, .f32⟩
  | 34 => ⟨S64, .f32⟩
  | 35 => ⟨S64x1, .f32⟩
  | 36 => ⟨S_, .f32⟩
  | 37 => ⟨S64x1, .f32⟩
  | 38 => ⟨S64x1, .f32⟩
  | 39 => ⟨S1x64, .f32⟩
  | 40 => ⟨S64x64, .f32⟩
  | 41 => ⟨S64x64, .f32⟩
  | 42 => ⟨S64x64, .f32⟩
  | 43 => ⟨S1x64x64, .f32⟩
  | 44 => ⟨S_, .f32⟩
  | 45 => ⟨S1x64x64, .f32⟩
  | 46 => ⟨S1x64x64, .i1⟩
  | 47 => ⟨S1x64x64, .f32⟩
  | 48 => ⟨S_, .f32⟩
  | 49 => ⟨S8, .f32⟩
  | 50 => ⟨S8, .f32⟩
  | 51 => ⟨S8x1x1, .f32⟩
  | 52 => ⟨S8x64x64, .f32⟩
  | 53 => ⟨S8x64x64, .f32⟩
  | 54 => ⟨S8x64x64, .f32⟩
  | 55 => ⟨S8x64x64, .f32⟩
  | 56 => ⟨S_, .f32⟩
  | 57 => ⟨S_, .f32⟩
  | 58 => ⟨S8x64x64, .i1⟩
  | 59 => ⟨S8x64x64, .f32⟩
  | 60 => ⟨S8x64x64, .f32⟩
  | 61 => ⟨S8x128x128x64, .f32⟩
  | 62 => ⟨S64x8x128x128, .f32⟩
  | 63 => ⟨S_, .f32⟩
  | 64 => ⟨S128, .f32⟩
  | 65 => ⟨S128, .f32⟩
  | 66 => ⟨S128x1, .f32⟩
  | 67 => ⟨S1x8, .f32⟩
  | 68 => ⟨S128x8, .f32⟩
  | 69 => ⟨S128x8, .f32⟩
  | 70 => ⟨S128x8, .f32⟩
  | 71 => ⟨S128x8, .f32⟩
  | 72 => ⟨S128x8x1, .f32⟩
  | 73 => ⟨S1x128x8x1, .f32⟩
  | 74 => ⟨S64x128x8x128, .f32⟩
  | 75 => ⟨S64x128x8x128, .f32⟩
  | 76 => ⟨S64x8x128x128, .f32⟩
  | 77 => ⟨S64x128x8x128, .f32⟩
  | 78 => ⟨S64x128x8x128, .f32⟩
  | 79 => ⟨S8192x8x128, .f32⟩
  | 80 => ⟨S8192x8x128, .f32⟩
  | 81 => ⟨S_, .f32⟩
  | 82 => ⟨S8192x8, .f32⟩
  | 83 => ⟨S8192x8x1, .f32⟩
  | 84 => ⟨S_, .f32⟩
  | 85 => ⟨S8192x8x1, .f32⟩
  | 86 => ⟨S8192x8x1, .f32⟩
  | 87 => ⟨S_, .f32⟩
  | 88 => ⟨S8192x8x1, .f32⟩
  | 89 => ⟨S8192x8x1, .f32⟩
  | 90 => ⟨S8192x8x1, .f32⟩
  | 91 => ⟨S8192x8x128, .f32⟩
  | 92 => ⟨S8192x8x128, .f32⟩
  | 93 => ⟨S8192x1024, .f32⟩
  | 94 => ⟨S8192x1024, .f32⟩
  | 95 => ⟨S_, .f32⟩
  | 96 => ⟨S8192x1024, .f32⟩
  | 97 => ⟨S8192x1024, .f32⟩
  | 98 => ⟨S_, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x8x128, .f32⟩
  | 105 => ⟨S8192x8x128, .f32⟩
  | 106 => ⟨S_, .f32⟩
  | 107 => ⟨S8192x8, .f32⟩
  | 108 => ⟨S8192x8x1, .f32⟩
  | 109 => ⟨S_, .f32⟩
  | 110 => ⟨S8192x8x1, .f32⟩
  | 111 => ⟨S8192x8x1, .f32⟩
  | 112 => ⟨S_, .f32⟩
  | 113 => ⟨S8192x8x1, .f32⟩
  | 114 => ⟨S8192x8x1, .f32⟩
  | 115 => ⟨S8192x8x1, .f32⟩
  | 116 => ⟨S8192x8x128, .f32⟩
  | 117 => ⟨S8192x8x128, .f32⟩
  | 118 => ⟨S1x1x128, .f32⟩
  | 119 => ⟨S8192x8x128, .f32⟩
  | 120 => ⟨S8192x8x128, .f32⟩
  | 121 => ⟨S8192x2x128, .f32⟩
  | 122 => ⟨S8192x2x128, .f32⟩
  | 123 => ⟨S_, .f32⟩
  | 124 => ⟨S8192x2, .f32⟩
  | 125 => ⟨S8192x2x1, .f32⟩
  | 126 => ⟨S_, .f32⟩
  | 127 => ⟨S8192x2x1, .f32⟩
  | _ => ⟨S8192x2048, .f32⟩

abbrev hbmTy0_2 (i : Nat) : BufTy := match i % 128 with
  | 0 => ⟨S8192x2x1, .f32⟩
  | 1 => ⟨S_, .f32⟩
  | 2 => ⟨S8192x2x1, .f32⟩
  | 3 => ⟨S8192x2x1, .f32⟩
  | 4 => ⟨S8192x2x1, .f32⟩
  | 5 => ⟨S8192x2x128, .f32⟩
  | 6 => ⟨S8192x2x128, .f32⟩
  | 7 => ⟨S1x1x128, .f32⟩
  | 8 => ⟨S8192x2x128, .f32⟩
  | 9 => ⟨S8192x2x128, .f32⟩
  | 10 => ⟨S8192x8x32, .f32⟩
  | 11 => ⟨S8192x1x32, .f32⟩
  | 12 => ⟨S8192x1x32, .f32⟩
  | 13 => ⟨S8192x8x16, .f32⟩
  | 14 => ⟨S8192x8x16, .f32⟩
  | 15 => ⟨S8192x8x32, .f32⟩
  | 16 => ⟨S8192x8x32, .f32⟩
  | 17 => ⟨S8192x8x16, .f32⟩
  | 18 => ⟨S8192x8x32, .f32⟩
  | 19 => ⟨S8192x8x32, .f32⟩
  | 20 => ⟨S8192x8x32, .f32⟩
  | 21 => ⟨S8192x8x32, .f32⟩
  | 22 => ⟨S8192x8x96, .f32⟩
  | 23 => ⟨S8192x8x128, .f32⟩
  | 24 => ⟨S8192x2x32, .f32⟩
  | 25 => ⟨S8192x1x32, .f32⟩
  | 26 => ⟨S8192x1x32, .f32⟩
  | 27 => ⟨S8192x2x16, .f32⟩
  | 28 => ⟨S8192x2x16, .f32⟩
  | 29 => ⟨S8192x2x32, .f32⟩
  | 30 => ⟨S8192x2x32, .f32⟩
  | 31 => ⟨S8192x2x16, .f32⟩
  | 32 => ⟨S8192x2x32, .f32⟩
  | 33 => ⟨S8192x2x32, .f32⟩
  | 34 => ⟨S8192x2x32, .f32⟩
  | 35 => ⟨S8192x2x32, .f32⟩
  | 36 => ⟨S8192x2x96, .f32⟩
  | 37 => ⟨S8192x2x128, .f32⟩
  | 38 => ⟨S8192x2x128, .f32⟩
  | 39 => ⟨S64x128x2x4x128, .f32⟩
  | 40 => ⟨S64x128x2x128, .f32⟩
  | 41 => ⟨S64x128x2x128, .f32⟩
  | 42 => ⟨S1x128x2x128, .f32⟩
  | 43 => ⟨S_, .f32⟩
  | 44 => ⟨S1x128x2x128, .f32⟩
  | 45 => ⟨S63x128x2x128, .f32⟩
  | 46 => ⟨S64x128x2x128, .f32⟩
  | 47 => ⟨S64x256x2x128, .f32⟩
  | 48 => ⟨S1x128x2x128, .f32⟩
  | 49 => ⟨S_, .f32⟩
  | 50 => ⟨S1x128x2x128, .f32⟩
  | 51 => ⟨S63x128x2x128, .f32⟩
  | 52 => ⟨S64x128x2x128, .f32⟩
  | 53 => ⟨S64x256x2x128, .f32⟩
  | 54 => ⟨S64x2x256x128x4, .f32⟩
  | 55 => ⟨S64x2x4x128x256, .f32⟩
  | 56 => ⟨S_, .f32⟩
  | 57 => ⟨S64x2x4x128x256, .f32⟩
  | 58 => ⟨S64x2x4x128x256, .f32⟩
  | 59 => ⟨S64, .i32⟩
  | 60 => ⟨S64x1x1, .i32⟩
  | 61 => ⟨S128, .i32⟩
  | 62 => ⟨S1x128x1, .i32⟩
  | 63 => ⟨S256, .i32⟩
  | 64 => ⟨S1x1x256, .i32⟩
  | 65 => ⟨S_, .i32⟩
  | 66 => ⟨S1x128x1, .i32⟩
  | 67 => ⟨S1x128x1, .i32⟩
  | 68 => ⟨S1x128x256, .i32⟩
  | 69 => ⟨S1x128x256, .i32⟩
  | 70 => ⟨S1x128x256, .i32⟩
  | 71 => ⟨S_, .i32⟩
  | 72 => ⟨S64x1x1, .i32⟩
  | 73 => ⟨S64x1x1, .i32⟩
  | 74 => ⟨S_, .i32⟩
  | 75 => ⟨S64x1x1, .i32⟩
  | 76 => ⟨S64x1x1, .i32⟩
  | 77 => ⟨S64x1x256, .i32⟩
  | 78 => ⟨S64x1x256, .i32⟩
  | 79 => ⟨S64x1x256, .i32⟩
  | 80 => ⟨S_, .i32⟩
  | 81 => ⟨S1x128x256, .i32⟩
  | 82 => ⟨S1x128x256, .i1⟩
  | 83 => ⟨S_, .i32⟩
  | 84 => ⟨S1x128x256, .i32⟩
  | 85 => ⟨S1x128x256, .i1⟩
  | 86 => ⟨S1x128x256, .i1⟩
  | 87 => ⟨S_, .i32⟩
  | 88 => ⟨S64x1x256, .i32⟩
  | 89 => ⟨S64x1x256, .i1⟩
  | 90 => ⟨S64x128x256, .i1⟩
  | 91 => ⟨S64x128x256, .i1⟩
  | 92 => ⟨S64x128x256, .i1⟩
  | 93 => ⟨S64x1x1x128x256, .i1⟩
  | 94 => ⟨S_, .f32⟩
  | 95 => ⟨S64x2x4x128x256, .i1⟩
  | 96 => ⟨S64x2x4x128x256, .f32⟩
  | 97 => ⟨S64x2x4x128x256, .f32⟩
  | 98 => ⟨S1x2x4x1x1, .f32⟩
  | 99 => ⟨S64x2x4x128x1, .f32⟩
  | 100 => ⟨S64x2x4x128x257, .f32⟩
  | 101 => ⟨S_, .f32⟩
  | 102 => ⟨S64x2x4x128, .f32⟩
  | 103 => ⟨S_, .f32⟩
  | 104 => ⟨S64x2x4x128, .f32⟩
  | 105 => ⟨S64x2x4x128, .f32⟩
  | 106 => ⟨S64x2x4x128x1, .f32⟩
  | 107 => ⟨S64x2x4x128x257, .f32⟩
  | 108 => ⟨S64x2x4x128x257, .f32⟩
  | 109 => ⟨S64x2x4x128x257, .f32⟩
  | 110 => ⟨S_, .f32⟩
  | 111 => ⟨S64x2x4x128, .f32⟩
  | 112 => ⟨S64x2x4x128x1, .f32⟩
  | 113 => ⟨S64x2x4x128x257, .f32⟩
  | 114 => ⟨S64x2x4x128x257, .f32⟩
  | 115 => ⟨S64x2x4x128x256, .f32⟩
  | 116 => ⟨S64x2x128x4x128, .f32⟩
  | 117 => ⟨S64x128x2x4x128, .f32⟩
  | 118 => ⟨S8192x1024, .f32⟩
  | 119 => ⟨S8192x2048, .f32⟩
  | 120 => ⟨S2048x2048, .f32⟩
  | 121 => ⟨S8192x2048, .f32⟩
  | 122 => ⟨S8192x2048, .f32⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_10 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_11 : Ref sig .tc := ⟨.hbm, 106, rfl⟩
abbrev main_v87 : Ref sig .tc := ⟨.hbm, 107, rfl⟩
abbrev main_v88 : Ref sig .tc := ⟨.hbm, 108, rfl⟩
abbrev main_cst_12 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_13 : Ref sig .tc := ⟨.hbm, 122, rfl⟩
abbrev main_v101 : Ref sig .tc := ⟨.hbm, 123, rfl⟩
abbrev main_v102 : Ref sig .tc := ⟨.hbm, 124, rfl⟩
abbrev main_cst_14 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_15 : Ref sig .tc := ⟨.hbm, 134, rfl⟩
abbrev main_call0_v0 : Ref sig .tc := ⟨.hbm, 135, rfl⟩
abbrev main_call0_v1 : Ref sig .tc := ⟨.hbm, 136, rfl⟩
abbrev main_call0_v2 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_16 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_17 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_cst_18 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_cst_19 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_cst_20 : Ref sig .tc := ⟨.hbm, 184, rfl⟩
abbrev main_call1_v0 : Ref sig .tc := ⟨.hbm, 185, rfl⟩
abbrev main_call1_v1 : Ref sig .tc := ⟨.hbm, 186, rfl⟩
abbrev main_call1_v2 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_cst_21 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_cst_22 : Ref sig .tc := ⟨.hbm, 209, rfl⟩
abbrev main_v173 : Ref sig .tc := ⟨.hbm, 210, rfl⟩
abbrev main_v174 : Ref sig .tc := ⟨.hbm, 211, rfl⟩
abbrev main_cst_23 : Ref sig .tc := ⟨.hbm, 212, rfl⟩
abbrev main_v175 : Ref sig .tc := ⟨.hbm, 213, rfl⟩
abbrev main_v176 : Ref sig .tc := ⟨.hbm, 214, rfl⟩
abbrev main_cst_24 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_call2_v0 : Ref sig .tc := ⟨.hbm, 221, rfl⟩
abbrev main_call2_v1 : Ref sig .tc := ⟨.hbm, 222, rfl⟩
abbrev main_call2_cst : Ref sig .tc := ⟨.hbm, 223, rfl⟩
abbrev main_call2_v2 : Ref sig .tc := ⟨.hbm, 224, rfl⟩
abbrev main_call2_v3 : Ref sig .tc := ⟨.hbm, 225, rfl⟩
abbrev main_call2_cst_0 : Ref sig .tc := ⟨.hbm, 226, rfl⟩
abbrev main_call2_v4 : Ref sig .tc := ⟨.hbm, 227, rfl⟩
abbrev main_call2_v5 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_cst_25 : Ref sig .tc := ⟨.hbm, 234, rfl⟩
abbrev main_v187 : Ref sig .tc := ⟨.hbm, 235, rfl⟩
abbrev main_v188 : Ref sig .tc := ⟨.hbm, 236, rfl⟩
abbrev main_cst_26 : Ref sig .tc := ⟨.hbm, 237, rfl⟩
abbrev main_v189 : Ref sig .tc := ⟨.hbm, 238, rfl⟩
abbrev main_v190 : Ref sig .tc := ⟨.hbm, 239, rfl⟩
abbrev main_cst_27 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_cst_28 : Ref sig .tc := ⟨.hbm, 251, rfl⟩
abbrev main_v201 : Ref sig .tc := ⟨.hbm, 252, rfl⟩
abbrev main_v202 : Ref sig .tc := ⟨.hbm, 253, rfl⟩
abbrev main_cst_29 : Ref sig .tc := ⟨.hbm, 254, rfl⟩
abbrev main_v203 : Ref sig .tc := ⟨.hbm, 255, rfl⟩
abbrev main_v204 : Ref sig .tc := ⟨.hbm, 256, rfl⟩
abbrev main_cst_30 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_cst_31 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_cst_32 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_cst_33 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_c : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_c_34 : Ref sig .tc := ⟨.hbm, 327, rfl⟩
abbrev main_v270 : Ref sig .tc := ⟨.hbm, 328, rfl⟩
abbrev main_v271 : Ref sig .tc := ⟨.hbm, 329, rfl⟩
abbrev main_c_35 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_c_36 : Ref sig .tc := ⟨.hbm, 336, rfl⟩
abbrev main_v277 : Ref sig .tc := ⟨.hbm, 337, rfl⟩
abbrev main_v278 : Ref sig .tc := ⟨.hbm, 338, rfl⟩
abbrev main_c_37 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_c_38 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_cst_39 : Ref sig .tc := ⟨.hbm, 350, rfl⟩
abbrev main_call3_v0 : Ref sig .tc := ⟨.hbm, 351, rfl⟩
abbrev main_call3_v1 : Ref sig .tc := ⟨.hbm, 352, rfl⟩
abbrev main_v288 : Ref sig .tc := ⟨.hbm, 353, rfl⟩
abbrev main_v289 : Ref sig .tc := ⟨.hbm, 354, rfl⟩
abbrev main_v290 : Ref sig .tc := ⟨.hbm, 355, rfl⟩
abbrev main_v291 : Ref sig .tc := ⟨.hbm, 356, rfl⟩
abbrev main_cst_40 : Ref sig .tc := ⟨.hbm, 357, rfl⟩
abbrev main_v292 : Ref sig .tc := ⟨.hbm, 358, rfl⟩
abbrev main_cst_41 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_v298 : Ref sig .tc := ⟨.hbm, 365, rfl⟩
abbrev main_cst_42 : Ref sig .tc := ⟨.hbm, 366, rfl⟩
abbrev main_v299 : Ref sig .tc := ⟨.hbm, 367, rfl⟩
abbrev main_v300 : Ref sig .tc := ⟨.hbm, 368, rfl⟩
abbrev main_v301 : Ref sig .tc := ⟨.hbm, 369, rfl⟩
abbrev main_v302 : Ref sig .tc := ⟨.hbm, 370, rfl⟩
abbrev main_v303 : Ref sig .tc := ⟨.hbm, 371, rfl⟩
abbrev main_v304 : Ref sig .tc := ⟨.hbm, 372, rfl⟩
abbrev main_v305 : Ref sig .tc := ⟨.hbm, 373, rfl⟩
abbrev main_v306 : Ref sig .tc := ⟨.hbm, 374, rfl⟩
abbrev main_v307 : Ref sig .tc := ⟨.hbm, 375, rfl⟩
abbrev main_v308 : Ref sig .tc := ⟨.hbm, 376, rfl⟩
abbrev main_v309 : Ref sig .tc := ⟨.hbm, 377, rfl⟩
abbrev main_v310 : Ref sig .tc := ⟨.hbm, 378, rfl⟩

abbrev nD : Nat := 1
abbrev τ : Topo := Topo.v7x

variable {F : FTy → Type} [FloatOps F]
-- ==== Kernel2.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S2048x512 : Shape := ⟨2, ![2048, 512]⟩
abbrev S512x2048 : Shape := ⟨2, ![512, 2048]⟩
abbrev S1024x2048 : Shape := ⟨2, ![1024, 2048]⟩
abbrev S_ : Shape := ⟨0, ![]⟩
abbrev S128x2048 : Shape := ⟨2, ![128, 2048]⟩
abbrev S128 : Shape := ⟨1, ![128]⟩
abbrev S128x1 : Shape := ⟨2, ![128, 1]⟩
abbrev S1024x512 : Shape := ⟨2, ![1024, 512]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .f32⟩
  | .local _ .vmem, ⟨0, _⟩ => ⟨S1x2048, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S512x2048, .f32⟩
  | .local _ .vmem, ⟨6, _⟩ => ⟨S512x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | .local _ .vmem, ⟨10, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) (c0_i32_19 : BitVec 32) : Fin 2 → Nat :=
  let arg0 : BitVec 32 := BitVec.ofNat 32 (i 0).val
  let c1024_i32 : BitVec 32 := 1024#32
  let v36 : BitVec 32 := Scalar.muli arg0 c1024_i32
  let v37 : BitVec 32 := Scalar.addi v36 c0_i32_19
  let c0_i32_22 : BitVec 32 := 0#32
  ![v37.toNat, 0]
def k0_cond3 (i : grid0.Coords) : BitVec 1 :=
  let arg1 : BitVec 32 := BitVec.ofNat 32 (i 1).val
  let c2_i32 : BitVec 32 := 2#32
  let v8 : BitVec 1 := Scalar.cmpi .sge arg1 c2_i32
  let c10_i32 : BitVec 32 := 10#32
  let v9 : BitVec 1 := Scalar.cmpi .slt arg1 c10_i32
  let v10 : BitVec 1 := Scalar.andi v8 v9
  let arg0 : BitVec 32 := BitVec.ofNat 32 (i 0).val
  let c1_i32 : BitVec 32 := 1#32
  let v11 : BitVec 32 := Scalar.addi arg0 c1_i32
  let c8_i32 : BitVec 32 := 8#32
  let v12 : BitVec 1 := Scalar.cmpi .slt v11 c8_i32
  let v13 : BitVec 1 := Scalar.andi v10 v12
  let v14 : BitVec 32 := Scalar.extui v13
  let c0_i32_4 : BitVec 32 := 0#32
  let v15 : BitVec 1 := Scalar.cmpi .ne v14 c0_i32_4
  v15

def k0_mult1 (i : grid0.Coords) : BitVec 32 :=
  let arg1 : BitVec 32 := BitVec.ofNat 32 (i 1).val
  let c2_i32_20 : BitVec 32 := 2#32
  let v37 : BitVec 32 := Scalar.subi arg1 c2_i32_20
  let c128_i32 : BitVec 32 := 128#32
  let v38 : BitVec 32 := Scalar.muli v37 c128_i32
  v38
def k0_off2 (i : grid0.Coords) : Fin 2 → Nat :=
  let arg1 : BitVec 32 := BitVec.ofNat 32 (i 1).val
  let c2_i32_20 : BitVec 32 := 2#32
  let v37 : BitVec 32 := Scalar.subi arg1 c2_i32_20
  let c128_i32 : BitVec 32 := 128#32
  let v38 : BitVec 32 := Scalar.muli v37 c128_i32
  let v39 : BitVec 32 := v38
  let c0_i32_21 : BitVec 32 := 0#32
  ![v39.toNat, 0]
def k0_off3 (i : grid0.Coords) : Fin 2 → Nat :=
  let arg0 : BitVec 32 := BitVec.ofNat 32 (i 0).val
  let c1_i32_19 : BitVec 32 := 1#32
  let v36 : BitVec 32 := Scalar.addi arg0 c1_i32_19
  let c1024_i32 : BitVec 32 := 1024#32
  let v40 : BitVec 32 := Scalar.muli v36 c1024_i32
  let arg1 : BitVec 32 := BitVec.ofNat 32 (i 1).val
  let c2_i32_20 : BitVec 32 := 2#32
  let v37 : BitVec 32 := Scalar.subi arg1 c2_i32_20
  let c128_i32 : BitVec 32 := 128#32
  let v38 : BitVec 32 := Scalar.muli v37 c128_i32
  let v39 : BitVec 32 := v38
  let v41 : BitVec 32 := Scalar.addi v40 v39
  let c0_i32_22 : BitVec 32 := 0#32
  ![v41.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S_, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S2048x2048 : Shape := ⟨2, ![2048, 2048]⟩
abbrev S2048x512 : Shape := ⟨2, ![2048, 512]⟩
abbrev S512x2048 : Shape := ⟨2, ![512, 2048]⟩
abbrev S32x5632 : Shape := ⟨2, ![32, 5632]⟩
abbrev S32x2048 : Shape := ⟨2, ![32, 2048]⟩
abbrev S1024x2048 : Shape := ⟨2, ![1024, 2048]⟩
abbrev S_ : Shape := ⟨0, ![]⟩
abbrev S128x2048 : Shape := ⟨2, ![128, 2048]⟩
abbrev S128 : Shape := ⟨1, ![128]⟩
abbrev S128x1 : Shape := ⟨2, ![128, 1]⟩
abbrev S1024x512 : Shape := ⟨2, ![1024, 512]⟩

abbrev nBuf : Space → Nat
  | .hbm => 10
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .f32⟩
  | .hbm, ⟨6, _⟩ => ⟨S2048x2048, .f32⟩
  | .hbm, ⟨7, _⟩ => ⟨S8192x2048, .f32⟩
  | .hbm, ⟨8, _⟩ => ⟨S2048x5632, .bf16⟩
  | .hbm, ⟨9, _⟩ => ⟨S2048x2048, .bf16⟩
  | .local _ .vmem, ⟨0, _⟩ => ⟨S1x2048, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S512x2048, .f32⟩
  | .local _ .vmem, ⟨6, _⟩ => ⟨S512x2048, .f32⟩
  | .local _ .vmem, ⟨7, _⟩ => ⟨S32x5632, .f32⟩
  | .local _ .vmem, ⟨8, _⟩ => ⟨S32x5632, .f32⟩
  | .local _ .vmem, ⟨9, _⟩ => ⟨S32x2048, .f32⟩
  | .local _ .vmem, ⟨10, _⟩ => ⟨S32x2048, .f32⟩
  | .local _ .vmem, ⟨11, _⟩ => ⟨S1024x2048, .f32⟩
  | .local _ .vmem, ⟨12, _⟩ => ⟨S1024x2048, .f32⟩
  | .local _ .vmem, ⟨13, _⟩ => ⟨S32x5632, .bf16⟩
  | .local _ .vmem, ⟨14, _⟩ => ⟨S32x5632, .bf16⟩
  | .local _ .vmem, ⟨15, _⟩ => ⟨S32x2048, .bf16⟩
  | .local _ .vmem, ⟨16, _⟩ => ⟨S32x2048, .bf16⟩
  | .local _ .vmem, ⟨17, _⟩ => ⟨S1024x2048, .bf16⟩
  | .local _ .vmem, ⟨18, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) (c0_i32_27 : BitVec 32) : Fin 2 → Nat :=
  let arg0 : BitVec 32 := BitVec.ofNat 32 (i 0).val
  let c1024_i32 : BitVec 32 := 1024#32
  let v42 : BitVec 32 := Scalar.muli arg0 c1024_i32
  let v43 : BitVec 32 := Scalar.addi v42 c0_i32_27
  let c0_i32_30 : BitVec 32 := 0#32
  ![v43.toNat, 0]
def k0_cond3 (i : grid0.Coords) : BitVec 1 :=
  let arg1 : BitVec 32 := BitVec.ofNat 32 (i 1).val
  let c2_i32 : BitVec 32 := 2#32
  let v8 : BitVec 1 := Scalar.cmpi .sge arg1 c2_i32
  let c10_i32 : BitVec 32 := 10#32
  let v9 : BitVec 1 := Scalar.cmpi .slt arg1 c10_i32
  let v10 : BitVec 1 := Scalar.andi v8 v9
  let arg0 : BitVec 32 := BitVec.ofNat 32 (i 0).val
  let c1_i32 : BitVec 32 := 1#32
  let v11 : BitVec 32 := Scalar.addi arg0 c1_i32
  let c8_i32 : BitVec 32 := 8#32
  let v12 : BitVec 1 := Scalar.cmpi .slt v11 c8_i32
  let v13 : BitVec 1 := Scalar.andi v10 v12
  let v14 : BitVec 32 := Scalar.extui v13
  let c0_i32_4 : BitVec 32 := 0#32
  let v15 : BitVec 1 := Scalar.cmpi .ne v14 c0_i32_4
  v15

def k0_mult1 (i : grid0.Coords) : BitVec 32 :=
  let arg1 : BitVec 32 := BitVec.ofNat 32 (i 1).val
  let c2_i32_28 : BitVec 32 := 2#32
  let v43 : BitVec 32 := Scalar.subi arg1 c2_i32_28
  let c128_i32 : BitVec 32 := 128#32
  let v44 : BitVec 32 := Scalar.muli v43 c128_i32
  v44
def k0_off2 (i : grid0.Coords) : Fin 2 → Nat :=
  let arg1 : BitVec 32 := BitVec.ofNat 32 (i 1).val
  let c2_i32_28 : BitVec 32 := 2#32
  let v43 : BitVec 32 := Scalar.subi arg1 c2_i32_28
  let c128_i32 : BitVec 32 := 128#32
  let v44 : BitVec 32 := Scalar.muli v43 c128_i32
  let v45 : BitVec 32 := v44
  let c0_i32_29 : BitVec 32 := 0#32
  ![v45.toNat, 0]
def k0_off3 (i : grid0.Coords) : Fin 2 → Nat :=
  let arg0 : BitVec 32 := BitVec.ofNat 32 (i 0).val
  let c1_i32_27 : BitVec 32 := 1#32
  let v42 : BitVec 32 := Scalar.addi arg0 c1_i32_27
  let c1024_i32 : BitVec 32 := 1024#32
  let v46 : BitVec 32 := Scalar.muli v42 c1024_i32
  let arg1 : BitVec 32 := BitVec.ofNat 32 (i 1).val
  let c2_i32_28 : BitVec 32 := 2#32
  let v43 : BitVec 32 := Scalar.subi arg1 c2_i32_28
  let c128_i32 : BitVec 32 := 128#32
  let v44 : BitVec 32 := Scalar.muli v43 c128_i32
  let v45 : BitVec 32 := v44
  let v47 : BitVec 32 := Scalar.addi v46 v45
  let c0_i32_30 : BitVec 32 := 0#32
  ![v47.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .f32⟩
  | .hbm, ⟨6, _⟩ => ⟨S2048x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S_, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S2048x5632, .bf16⟩
  | .hbm, ⟨40, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Proof.Algebra.lean ====
/- The algebra on the extended reals that the comparison of the two programs rests on. Nothing here is about a
   program: sums scaled by a real number, a decayed sum that obeys a recurrence, the angle-addition formulas, the
   rows that are divided by their root mean square, and a softmax with a sink. -/
module

public import Idealize.ShloMosaic.Lib.Pointwise
public import Idealize.ShloMosaic.Lib.IdealHost

@[expose] public section

noncomputable section

namespace Cert.Mix

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type*} (s : Finset ι) {f : ι → EReal} (h : ∀ i, IsReal (f i)) : IsReal (∑ i ∈ s, f i) := by
  classical
  induction s using Finset.induction_on with
  | empty => simpa using IsReal.zero
  | insert a s ha ih => rw [Finset.sum_insert ha]; exact (h a).add ih
theorem IsReal.sup {x y : EReal} (hx : IsReal x) (hy : IsReal y) : IsReal (x ⊔ y) := by
  rcases le_total x y with h | h
  · rwa [sup_eq_right.2 h]
  · rwa [sup_eq_left.2 h]
/-- Neither infinity, so a real number. -/
theorem IsReal.of_ne {x : EReal} (ht : x ≠ ⊤) (hb : x ≠ ⊥) : IsReal x := ⟨x.toReal, (EReal.coe_toReal ht hb).symm⟩
/-- A number whose magnitude is below infinity is real. -/
theorem IsReal.of_abs_lt {x : EReal} (h : x ⊔ -x < ⊤) : IsReal x := by
  refine .of_ne (fun e => ?_) (fun e => ?_) <;> subst e <;> simp at h

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum scaled by a nonnegative real number is the sum of the scaled terms, infinities included. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The recurrence `S 0 = 0`, `S (c + 1) = S c · g + u c` read as a function of `c`. -/
def decayed (u : ℕ → EReal) (g : EReal) : ℕ → EReal
  | 0 => 0
  | c + 1 => decayed u g c * g + u c

/-- The recurrence in closed form: `u b` is decayed once for each step between `b` and `c`. -/
theorem decayed_eq_sum (u : ℕ → EReal) (L : ℝ) (N : ℕ) : ∀ c, c ≤ N →
    decayed u (Real.exp L : ℝ) c
      = ∑ b : Fin N, u b * (if b.val < c then ((Real.exp (((c : ℝ) - 1 - b) * L) : ℝ) : EReal) else 0) := by
  intro c
  induction c with
  | zero => intro _; simp [decayed]
  | succ c ih =>
    intro hc
    rw [decayed, ih (by omega), sum_mul_real _ _ (Real.exp_pos L).le]
    have hu : u c = ∑ b : Fin N, (if b = (⟨c, by omega⟩ : Fin N) then u c else 0) := by simp
    rw [hu, ← Finset.sum_add_distrib]
    refine Finset.sum_congr rfl fun b _ => ?_
    rcases lt_trichotomy b.val c with h | h | h
    · have hb : b ≠ (⟨c, by omega⟩ : Fin N) := fun e => by simp [e] at h
      rw [if_pos h, if_neg hb, if_pos (by omega), add_zero, mul_assoc, ← EReal.coe_mul, ← Real.exp_add]
      congr 3; push_cast; ring
    · have hb : b = (⟨c, by omega⟩ : Fin N) := Fin.ext h
      rw [if_neg (by omega), if_pos hb, if_pos (by omega), h]; simp
    · have hb : b ≠ (⟨c, by omega⟩ : Fin N) := fun e => by simp [e] at h
      rw [if_neg (by omega), if_neg hb, if_neg (by omega)]; simp

/-! Trigonometric tables -/

/-- The cosine of a sum of two angles, from the tables of each. -/
theorem cos_add_table (a b : ℝ) :
    Ideal.cos (a : EReal) * Ideal.cos (b : EReal) - Ideal.sin (a : EReal) * Ideal.sin (b : EReal) = Ideal.cos ((a + b : ℝ) : EReal) := by
  show ((Real.cos a : ℝ) : EReal) * ((Real.cos b : ℝ) : EReal) - ((Real.sin a : ℝ) : EReal) * ((Real.sin b : ℝ) : EReal)
    = ((Real.cos (a + b) : ℝ) : EReal)
  rw [Real.cos_add]; push_cast; rfl

/-- The sine of a sum of two angles, from the tables of each. -/
theorem sin_add_table (a b : ℝ) :
    Ideal.sin (a : EReal) * Ideal.cos (b : EReal) + Ideal.cos (a : EReal) * Ideal.sin (b : EReal) = Ideal.sin ((a + b : ℝ) : EReal) := by
  show ((Real.sin a : ℝ) : EReal) * ((Real.cos b : ℝ) : EReal) + ((Real.cos a : ℝ) : EReal) * ((Real.sin b : ℝ) : EReal)
    = ((Real.sin (a + b) : ℝ) : EReal)
  rw [Real.sin_add]; push_cast; rfl

/-! Rows divided by their root mean square -/

theorem mul_self_nonneg' (x : EReal) : 0 ≤ x * x := by
  rcases le_total 0 x with h | h
  · exact mul_nonneg h h
  · rw [← neg_mul_neg]; exact mul_nonneg (EReal.neg_nonneg.2 h) (EReal.neg_nonneg.2 h)

theorem rsqrt_pos {r : ℝ} (h : 0 < r) : Ideal.rsqrt (r : EReal) = ((Real.sqrt r)⁻¹ : ℝ) := by
  show (if r < 0 then (⊥ : EReal) else if r = 0 then ⊤ else ((Real.sqrt r)⁻¹ : ℝ)) = _
  rw [if_neg (not_lt.2 h.le), if_neg h.ne']

/-- A row's entry times the reciprocal root of (the row's mean square plus a positive number) is a real number,
    whatever the row holds: an infinite entry makes the root infinite and its reciprocal zero. -/
theorem isReal_rms {n : ℕ} (z : Fin n → EReal) {D e : ℝ} (hD : 0 < D) (he : 0 < e) (d : Fin n) :
    IsReal (z d * Ideal.rsqrt (Ideal.div (∑ k, z k * z k) (D : EReal) + (e : EReal))) := by
  have hD0 : (D : EReal) ≠ 0 := by exact_mod_cast hD.ne'
  have hs : 0 ≤ ∑ k, z k * z k := Finset.sum_nonneg fun k _ => mul_self_nonneg' _
  rw [Ideal.div, if_neg hD0]
  by_cases hz : ∃ k, ¬ IsReal (z k)
  · obtain ⟨k, hk⟩ := hz
    have hkk : z k * z k = ⊤ := by
      have : z k = ⊤ ∨ z k = ⊥ := by
        by_contra h; push Not at h; exact hk (.of_ne h.1 h.2)
      rcases this with h | h <;> rw [h] <;> rfl
    have hT : ∑ k, z k * z k = ⊤ := top_le_iff.1 (hkk ▸ Finset.single_le_sum (f := fun k => z k * z k)
      (fun k _ => mul_self_nonneg' _) (Finset.mem_univ k))
    have hi : (D : EReal)⁻¹ = ((D⁻¹ : ℝ) : EReal) := (EReal.coe_inv D).symm
    rw [hT, hi, EReal.top_mul_coe_of_pos (inv_pos.2 hD), EReal.top_add_coe]
    show IsReal (z d * 0)
    rw [mul_zero]; exact .zero
  · push Not at hz
    choose r hr using hz
    have hi : (D : EReal)⁻¹ = ((D⁻¹ : ℝ) : EReal) := (EReal.coe_inv D).symm
    have hsum : ∑ k, z k * z k = ((∑ k, r k * r k : ℝ) : EReal) := by
      rw [coe_sum]
      exact Finset.sum_congr rfl fun k _ => by rw [hr k, EReal.coe_mul]
    have hpos : 0 < (∑ k, r k * r k) * D⁻¹ + e :=
      add_pos_of_nonneg_of_pos (mul_nonneg (Finset.sum_nonneg fun k _ => mul_self_nonneg _) (inv_nonneg.2 hD.le)) he
    rw [hsum, hi, ← EReal.coe_mul, ← EReal.coe_add, hr d]
    refine (IsReal.coe _).mul ?_
    rw [rsqrt_pos hpos]
    exact IsReal.coe _

/-! Softmax with a sink -/

/-- The exponential of a difference of real numbers is a positive real number. -/
theorem exp_sub_real {x y : EReal} (hx : IsReal x) (hy : IsReal y) : ∃ r : ℝ, 0 < r ∧ Ideal.exp (x - y) = (r : EReal) := by
  obtain ⟨a, rfl⟩ := hx; obtain ⟨b, rfl⟩ := hy
  exact ⟨Real.exp (a - b), Real.exp_pos _, by rw [← EReal.coe_sub]; rfl⟩

/-- Weights normalised before they are summed against `v`, or the weighted sum normalised afterwards: the same where
    the scores, their bound and the sink are real numbers, whatever `v` holds. -/
theorem softmax_sink {n : ℕ} (s : Fin n → EReal) (v : Fin n → EReal) {M k : EReal} (hs : ∀ j, IsReal (s j))
    (hM : IsReal M) (hk : IsReal k) :
    (∑ j, Ideal.exp (s j - M) * v j) * Ideal.div 1 ((∑ j, Ideal.exp (s j - M)) + Ideal.exp (k - M))
      = ∑ j, Ideal.div (Ideal.exp (s j - M)) ((∑ j, Ideal.exp (s j - M)) + Ideal.exp (k - M)) * v j := by
  choose p hp0 hp using fun j => exp_sub_real (hs j) hM
  obtain ⟨q, hq0, hq⟩ := exp_sub_real hk hM
  have hden : (∑ j, Ideal.exp (s j - M)) + Ideal.exp (k - M) = (((∑ j, p j) + q : ℝ) : EReal) := by
    rw [hq, EReal.coe_add, coe_sum]
    exact congrArg (· + _) (Finset.sum_congr rfl fun j _ => hp j)
  have hpos : 0 < (∑ j, p j) + q := add_pos_of_nonneg_of_pos (Finset.sum_nonneg fun j _ => (hp0 j).le) hq0
  have hne : (((∑ j, p j) + q : ℝ) : EReal) ≠ 0 := by exact_mod_cast hpos.ne'
  rw [hden]
  simp only [Ideal.div, if_neg hne, one_mul, ← EReal.coe_inv]
  rw [sum_mul_real _ _ (inv_nonneg.2 hpos.le)]
  exact Finset.sum_congr rfl fun j _ => by rw [mul_assoc, mul_comm (v j), ← mul_assoc]

end Cert.Mix
-- ==== Proof.Model.lean ====
module

public import Idealize.ShloMosaic.Lib.Pointwise
public import proofs.«01_k».proof.Proof.Algebra

/-!
  The layer's mathematics in the extended reals, once for both programs: the projections `z`, the retention with its decayed state, the windowed attention
  with a sink, and the output projection. Rows are counted in chunks of 128: row `n` of chunk `c` is row `128 c + n` of the sequence. Literals of the two
  programs stay the bit patterns they are printed as, wherever their values are not needed.
-/

@[expose] public section

noncomputable section

namespace Cert.Mix

open Idealize Idealize.ShloMosaic
open scoped BigOperators

/-- A 128 × 128 tile of extended reals. -/
abbrev Mat := Fin 128 → Fin 128 → EReal

/-- The arguments of the layer. -/
structure Par where
  x : Fin 8192 → Fin 2048 → EReal
  gain : Fin 2048 → EReal
  w : Fin 2048 → Fin 5632 → EReal
  wout : Fin 2048 → Fin 2048 → EReal
  sinks : Fin 8 → EReal
  qg : Fin 128 → EReal
  kg : Fin 128 → EReal

/-- The small number added under a root. -/
abbrev eps : EReal := Ideal.ofBits .f32 0x358637BD#32

/-- The scale of the keys and of the attention's scores. -/
abbrev scale : EReal := Ideal.ofBits .f32 0x3DB504F3#32

/-- A row of the normalised input: the row of `x` over the root of its mean square, times the gain. -/
def Par.h (P : Par) (r : Fin 8192) (k : Fin 2048) : EReal :=
  P.x r k * Ideal.rsqrt (Ideal.div (∑ l, P.x r l * P.x r l) (Ideal.ofBits .f32 0x45000000#32) + eps) * P.gain k

/-- The joint projection of the seven inputs of the heads. -/
def Par.z (P : Par) (r : Fin 8192) (j : Fin 5632) : EReal := ∑ k, P.h r k * P.w k j

/-- Row `n` of chunk `c`. -/
abbrev row (c : Fin 64) (n : Fin 128) : Fin 8192 := ⟨c.val * 128 + n.val, by omega⟩

/-- The tile of `z` at chunk `c` whose columns start at `o`. -/
def Par.tile (P : Par) (c : Fin 64) (o : ℕ) (ho : o + 128 ≤ 5632) : Mat := fun n d => P.z (row c n) ⟨o + d.val, by omega⟩

def Par.zq (P : Par) (c : Fin 64) (h : Fin 8) : Mat := P.tile c (h.val * 128) (by omega)
def Par.zk (P : Par) (c : Fin 64) (h : Fin 8) : Mat := P.tile c (1024 + h.val * 128) (by omega)
def Par.zv (P : Par) (c : Fin 64) (h : Fin 8) : Mat := P.tile c (2048 + h.val * 128) (by omega)
def Par.zg (P : Par) (c : Fin 64) (h : Fin 8) : Mat := P.tile c (3072 + h.val * 128) (by omega)
def Par.zqa (P : Par) (c : Fin 64) (h : Fin 8) : Mat := P.tile c (4096 + h.val * 128) (by omega)
def Par.zka (P : Par) (c : Fin 64) (h : Fin 2) : Mat := P.tile c (5120 + h.val * 128) (by omega)
def Par.zva (P : Par) (c : Fin 64) (h : Fin 2) : Mat := P.tile c (5376 + h.val * 128) (by omega)

/-! ## The tables of positions -/

/-- A natural number as an extended real. -/
abbrev nat (n : ℕ) : EReal := ((n : ℝ) : EReal)

/-- The retention's frequencies, as both programs compute them. -/
def freqR (i : ℕ) : EReal :=
  Ideal.pow (Ideal.ofBits .f32 0x461C4000#32) (Ideal.div (-(0 + Ideal.ofBits .f32 0x40000000#32 * nat i)) (Ideal.ofBits .f32 0x43000000#32))

/-- The attention's frequencies, as both programs compute them. -/
def freqA (i : ℕ) : EReal :=
  Ideal.pow (Ideal.ofBits .f32 0x48F42400#32) (Ideal.div (-(0 + Ideal.ofBits .f32 0x40000000#32 * nat i)) (Ideal.ofBits .f32 0x42000000#32))

def cosR (c : Fin 64) : Mat := fun n d => Ideal.cos (nat (row c n).val * freqR (d.val % 64))
def sinR (c : Fin 64) : Mat := fun n d => Ideal.sin (nat (row c n).val * freqR (d.val % 64))
def cosA (c : Fin 64) : Mat := fun n d => Ideal.cos (nat (row c n).val * freqA (d.val % 16))
def sinA (c : Fin 64) : Mat := fun n d => Ideal.sin (nat (row c n).val * freqA (d.val % 16))

/-! ## Retention -/

/-- The logarithm of a head's decay, as both programs compute it. -/
def lg (h : ℕ) : EReal :=
  Ideal.log1p (-Ideal.exp (Ideal.ofBits .f32 0x3F317218#32 * (Ideal.ofBits .f32 0xC0A00000#32 - nat h)))

/-- A head's decay over a whole chunk. -/
def gam (h : ℕ) : EReal := Ideal.exp (Ideal.ofBits .f32 0x43000000#32 * lg h)

/-- Each lane with the lane 64 away, turned by the angles of `C` and `S`. -/
def rot (C S t : Mat) : Mat := fun n d =>
  t n d * C n d + (if hd : d.val < 64 then -t n ⟨64 + d.val, by omega⟩ else t n ⟨d.val - 64, by omega⟩) * S n d

def Par.q (P : Par) (c : Fin 64) (h : Fin 8) : Mat := rot (cosR c) (sinR c) (P.zq c h)
def Par.k (P : Par) (c : Fin 64) (h : Fin 8) : Mat := fun n d => rot (cosR c) (sinR c) (P.zk c h) n d * scale

/-- The decay from row `m` to row `n` of one chunk: none backwards. -/
def decay (l : EReal) : Mat := fun n m => if m.val ≤ n.val then Ideal.exp (nat (n.val - m.val) * l) else 0

def scores (l : EReal) (q k : Mat) : Mat := fun n m => (∑ d, q n d * k m d) * decay l n m

/-- What one chunk adds to the state. -/
def tail (l : EReal) (k v : Mat) : Mat := fun d e => ∑ m, k m d * Ideal.exp (nat (127 - m.val) * l) * v m e

/-- What a chunk reads: its own rows by their scores, and the state before it. -/
def readOut (l : EReal) (q k v S : Mat) : Mat := fun n e =>
  ∑ m, scores l q k n m * v m e + ∑ d, q n d * Ideal.exp (nat (n.val + 1) * l) * S d e

/-- A row over the root of its mean square. -/
def norm (y : Mat) : Mat := fun n e => y n e * Ideal.rsqrt (Ideal.div (∑ x, y n x * y n x) (Ideal.ofBits .f32 0x43000000#32) + eps)

def gate (g y : Mat) : Mat := fun n e => g n e * Ideal.logistic (g n e) * y n e

/-- What chunk `b` adds to head `h`'s state, at any number. -/
def Par.kv (P : Par) (h : Fin 8) (d e : Fin 128) (b : ℕ) : EReal :=
  if hb : b < 64 then tail (lg h.val) (P.k ⟨b, hb⟩ h) (P.zv ⟨b, hb⟩ h) d e else 0

/-- Head `h`'s state after `c` chunks. -/
def Par.state (P : Par) (h : Fin 8) (c : ℕ) : Mat := fun d e => decayed (P.kv h d e) (gam h.val) c

def Par.ret (P : Par) (c : Fin 64) (h : Fin 8) : Mat :=
  gate (P.zg c h) (norm (readOut (lg h.val) (P.q c h) (P.k c h) (P.zv c h) (P.state h c.val)))

/-! ## Attention -/

def rms (g : Fin 128 → EReal) (t : Mat) : Mat := fun n d =>
  t n d * Ideal.rsqrt (Ideal.div (∑ x, t n x * t n x) (Ideal.ofBits .f32 0x43000000#32) + eps) * g d

/-- The first 32 lanes turned, each with the lane 16 away; the others kept. -/
def rotA (C S t : Mat) : Mat := fun n d =>
  if h : d.val < 32 then
    t n d * C n d + (if hd : d.val < 16 then -t n ⟨16 + d.val, by omega⟩ else t n ⟨d.val - 16, by omega⟩) * S n d
  else t n d

def Par.qa (P : Par) (c : Fin 64) (h : Fin 8) : Mat := rotA (cosA c) (sinA c) (rms P.qg (P.zqa c h))
def Par.ka (P : Par) (c : Fin 64) (h : Fin 2) : Mat := rotA (cosA c) (sinA c) (rms P.kg (P.zka c h))

/-- The chunk before, and nothing before the first. -/
def before (f : Fin 64 → Mat) (c : ℕ) : Mat := fun n d => if h : 0 < c ∧ c ≤ 64 then f ⟨c - 1, by omega⟩ n d else 0

/-- Two tiles one after the other. -/
def stack (a b : Mat) : Fin 256 → Fin 128 → EReal := fun j d =>
  if h : j.val < 128 then a ⟨j.val, h⟩ d else b ⟨j.val - 128, by omega⟩ d

/-- Which of the 256 keys row `n` sees: itself and the 127 before it, and none before the first chunk. -/
abbrev seen (first : Prop) (n : Fin 128) (j : Fin 256) : Prop := j.val ≤ n.val + 128 ∧ n.val < j.val ∧ (128 ≤ j.val ∨ ¬first)

open Classical in
def attS (first : Prop) (q : Mat) (kk : Fin 256 → Fin 128 → EReal) : Fin 128 → Fin 256 → EReal := fun n j =>
  if seen first n j then (∑ d, q n d * kk j d) * scale else Ideal.ofBits .f32 0xFF7FFFFF#32

def rowMax (s : Fin 256 → EReal) (sink : EReal) : EReal :=
  max (Finset.fold max (Ideal.ofBits .f32 0xFF800000#32) s Finset.univ) sink

/-- The attention's rows: the weights with the sink's beside them, over their sum. -/
def attO (s : Fin 128 → Fin 256 → EReal) (vv : Fin 256 → Fin 128 → EReal) (sink : EReal) : Mat := fun n d =>
  (∑ j, Ideal.exp (s n j - rowMax (s n) sink) * vv j d)
    * Ideal.div (Ideal.ofBits .f32 0x3F800000#32) ((∑ j, Ideal.exp (s n j - rowMax (s n) sink)) + Ideal.exp (sink - rowMax (s n) sink))

/-- The head of keys and values that head `h` of queries reads. -/
abbrev kvOf (h : Fin 8) : Fin 2 := ⟨h.val / 4, by omega⟩

def Par.keys (P : Par) (c : Fin 64) (h : Fin 2) : Fin 256 → Fin 128 → EReal := stack (before (fun b => P.ka b h) c.val) (P.ka c h)
def Par.vals (P : Par) (c : Fin 64) (h : Fin 2) : Fin 256 → Fin 128 → EReal := stack (before (fun b => P.zva b h) c.val) (P.zva c h)

def Par.att (P : Par) (c : Fin 64) (h : Fin 8) : Mat :=
  attO (attS (c.val = 0) (P.qa c h) (P.keys c (kvOf h))) (P.vals c (kvOf h)) (P.sinks h)

/-! ## The layer -/

/-- What all heads give for one row of a chunk, side by side. -/
def Par.mix (P : Par) (c : Fin 64) (n : Fin 128) (j : Fin 2048) : EReal :=
  if h : j.val < 1024 then P.ret c ⟨j.val / 128, by omega⟩ n ⟨j.val % 128, by omega⟩
  else P.att c ⟨(j.val - 1024) / 128, by omega⟩ n ⟨j.val % 128, by omega⟩

/-- The layer's result: the input plus the heads' results through the output projection. -/
def Par.out (P : Par) (r : Fin 8192) (j : Fin 2048) : EReal :=
  P.x r j + ∑ k, P.mix ⟨r.val / 128, by omega⟩ ⟨r.val % 128, by omega⟩ k * P.wout k j

end Cert.Mix

end
-- ==== Proof.Tile.lean ====
module

public import proofs.«01_k».proof.Proof.Gen.KernelIdeal.Skeleton
public import Idealize.ShloMosaic.Lib.Pointwise
public import Idealize.ShloMosaic.Lib.Tactic.WordOmega
public import proofs.«01_k».proof.Proof.Model

/-!
  What the kernel computes on one tile of 128 rows, read as the layer's functions: the retention of one head, the step of its state, and the attention of the four
  heads that share keys. The kernel names the same few computations anew for each head and chunk; each is stated here once, for one of these names.
-/

@[expose] public section

noncomputable section

namespace Cert.KernelIdeal.Tile

set_option maxRecDepth 16384
set_option maxHeartbeats 2000000

open Idealize Idealize.ShloMosaic Cert.Mix Cert.KernelIdeal.Gen
open scoped BigOperators

/-- A tile as a function of row and lane. -/
abbrev mat (t : S128x128.Idx → EReal) : Mat := fun n d => t (ix2 n d)

/-! ## Words -/

theorem select_ite {α : Type} (c : BitVec 1) (a b : α) : Scalar.select c a b = if c = 1#1 then a else b := rfl

theorem sitofp_nat (n : ℕ) (h : n < 2 ^ 31) : (FloatOps.sitofp (F := Ideal) .f32 (BitVec.ofNat 32 n)) = nat n := by
  show (((BitVec.ofNat 32 n).toInt : ℝ) : EReal) = _
  have e : (BitVec.ofNat 32 n).toInt = n := by
    have h' : (BitVec.ofNat 32 n).toNat = n := by rw [BitVec.toNat_ofNat]; omega
    rw [BitVec.toInt_eq_toNat_of_lt (by omega), h']
  rw [e]
  simp

theorem ge_word (n m : ℕ) (hn : n < 2 ^ 31) (hm : m < 2 ^ 31) : IntOp.cmpi .sge (BitVec.ofNat 32 n) (BitVec.ofNat 32 m) = 1#1 ↔ m ≤ n := by
  word_omega

theorem lag_word (n m : ℕ) (hn : n < 128) (hm : m < 128) :
    IntOp.maxsi (IntOp.subi (BitVec.ofNat 32 n) (BitVec.ofNat 32 m)) 0#32 = BitVec.ofNat 32 (n - m) :=
  (by decide +kernel : ∀ n m : Fin 128, IntOp.maxsi (IntOp.subi (BitVec.ofNat 32 n.val) (BitVec.ofNat 32 m.val)) 0#32 = BitVec.ofNat 32 (n.val - m.val))
    ⟨n, hn⟩ ⟨m, hm⟩

theorem succ_word (n : ℕ) (hn : n < 128) : IntOp.addi (BitVec.ofNat 32 n) 1#32 = BitVec.ofNat 32 (n + 1) := by
  word_omega

theorem left_word (n : ℕ) (hn : n < 128) : IntOp.subi 127#32 (BitVec.ofNat 32 n) = BitVec.ofNat 32 (127 - n) := by
  unfold IntOp.subi
  word_omega

/-! ## Retention -/

/-- The angles' tables of a tile agree with `C` and with `S`, whose sign is that of the lane. -/
structure Turns (c s : FVec Ideal S128x128 .f32) (C S : Mat) : Prop where
  cos : ∀ n d, c (ix2 n d) = C n d
  sin : ∀ n d, s (ix2 n d) = if d.val < 64 then -S n d else S n d

theorem turn (c s t C S) (h : Turns c s C S) (n d : Fin 128) : k0_pay57 (F := Ideal) c s t (ix2 n d) = rot C S (mat t) n d := by
  pointwise [k0_pay57, rot, h.cos, h.sin]
  by_cases hd : d.val < 64
  · simp only [if_pos hd, dif_pos hd]
    have e : (⟨(d.val + 128 - 64) % 128, by omega⟩ : Fin 128) = ⟨64 + d.val, by omega⟩ := Fin.ext (by simp; omega)
    rw [e, mul_neg, neg_mul]
  · simp only [if_neg hd, dif_neg hd]
    have e : (⟨(d.val + 128 - 64) % 128, by omega⟩ : Fin 128) = ⟨d.val - 64, by omega⟩ := Fin.ext (by simp; omega)
    rw [e]

theorem turn_scaled (c s t C S) (h : Turns c s C S) (n d : Fin 128) :
    k0_pay67 (F := Ideal) c s t (ix2 n d) = rot C S (mat t) n d * scale := by
  rw [← turn c s t C S h]
  pointwise [k0_pay57, k0_pay67]

theorem scores_tile (l : EReal) (q k : FVec Ideal S128x128 .f32) (n m : Fin 128) :
    k0_pay77 (F := Ideal) k0_pay53 k0_pay54 l q k (ix2 n m) = scores l (mat q) (mat k) n m := by
  pointwise [k0_pay77, k0_pay53, k0_pay54, scores, decay]
  rw [lag_word _ _ n.2 m.2, sitofp_nat _ (by omega), select_ite]
  by_cases hm : m.val ≤ n.val
  · rw [if_pos ((ge_word _ _ (by omega) (by omega)).2 hm), if_pos hm]
  · rw [if_neg fun e => hm ((ge_word _ _ (by omega) (by omega)).1 e), if_neg hm, mul_zero]

theorem read_tile (l : EReal) (q k : FVec Ideal S128x128 .f32) (v : FVec Ideal S128x128 .bf16) (st : FVec Ideal S1x128x128 .f32) (n e : Fin 128) :
    k0_pay95 (F := Ideal) k0_pay55 l q v (k0_pay77 k0_pay53 k0_pay54 l q k) (k0_pay87 st) (ix2 n e)
      = readOut l (mat q) (mat k) (mat v) (fun d e => st (ix3 0 d e)) n e := by
  have hs := scores_tile l q k
  pointwise [k0_pay95, k0_pay55, k0_pay87, readOut, hs]
  rw [succ_word _ n.2, sitofp_nat _ (by omega)]

theorem step_tile (l g : EReal) (k : FVec Ideal S128x128 .f32) (v : FVec Ideal S128x128 .bf16) (st : FVec Ideal S1x128x128 .f32) (z : Fin 1) (d e : Fin 128) :
    k0_pay114 (F := Ideal) (k0_pay87 st) (k0_pay105 k0_pay56 l k v) g (ix3 z d e)
      = st (ix3 0 d e) * g + tail l (mat k) (mat v) d e := by
  pointwise [k0_pay114, k0_pay105, k0_pay56, k0_pay87, tail]
  refine congrArg (_ + ·) (Finset.sum_congr rfl fun m _ => ?_)
  rw [left_word _ m.2, sitofp_nat _ (by omega)]

theorem norm_tile (y : FVec Ideal S128x128 .f32) (n e : Fin 128) : k0_pay123 (F := Ideal) y (ix2 n e) = Mix.norm (mat y) n e := by
  pointwise [k0_pay123, Mix.norm]

theorem gate_tile (y g : FVec Ideal S128x128 .f32) (n e : Fin 128) : k0_pay133 (F := Ideal) y g (ix2 n e) = gate (mat g) (mat y) n e := by
  pointwise [k0_pay133, gate]

/-- One head's retention on a tile. -/
theorem ret_tile (c s C S) (h : Turns c s C S) (l : EReal) (q k g : FVec Ideal S128x128 .f32) (v : FVec Ideal S128x128 .bf16)
    (st : FVec Ideal S1x128x128 .f32) (n e : Fin 128) :
    k0_pay133 (F := Ideal) (k0_pay123 (k0_pay95 k0_pay55 l (k0_pay57 c s q) v (k0_pay77 k0_pay53 k0_pay54 l (k0_pay57 c s q) (k0_pay67 c s k))
        (k0_pay87 st))) g (ix2 n e)
      = gate (mat g) (Mix.norm (readOut l (rot C S (mat q)) (fun n d => rot C S (mat k) n d * scale) (mat v) (fun d e => st (ix3 0 d e)))) n e := by
  rw [gate_tile]
  have hq : mat (k0_pay57 (F := Ideal) c s q) = rot C S (mat q) := by funext n d; exact turn c s q C S h n d
  have hk : mat (k0_pay67 (F := Ideal) c s k) = fun n d => rot C S (mat k) n d * scale := by funext n d; exact turn_scaled c s k C S h n d
  have hy : mat (k0_pay95 (F := Ideal) k0_pay55 l (k0_pay57 c s q) v (k0_pay77 k0_pay53 k0_pay54 l (k0_pay57 c s q) (k0_pay67 c s k)) (k0_pay87 st))
      = readOut l (rot C S (mat q)) (fun n d => rot C S (mat k) n d * scale) (mat v) (fun d e => st (ix3 0 d e)) := by
    funext n e
    rw [← hq, ← hk]
    exact read_tile l _ _ v st n e
  have hn : mat (k0_pay123 (F := Ideal) (k0_pay95 k0_pay55 l (k0_pay57 c s q) v (k0_pay77 k0_pay53 k0_pay54 l (k0_pay57 c s q) (k0_pay67 c s k))
      (k0_pay87 st))) = Mix.norm (readOut l (rot C S (mat q)) (fun n d => rot C S (mat k) n d * scale) (mat v) (fun d e => st (ix3 0 d e))) := by
    rw [← hy]
    funext n e
    exact norm_tile _ n e
  rw [hn]

/-- One head's state after a tile. -/
theorem state_tile (c s C S) (h : Turns c s C S) (l g : EReal) (k : FVec Ideal S128x128 .f32) (v : FVec Ideal S128x128 .bf16)
    (st : FVec Ideal S1x128x128 .f32) (z : Fin 1) (d e : Fin 128) :
    k0_pay114 (F := Ideal) (k0_pay87 st) (k0_pay105 k0_pay56 l (k0_pay67 c s k) v) g (ix3 z d e)
      = st (ix3 0 d e) * g + tail l (fun n d => rot C S (mat k) n d * scale) (mat v) d e := by
  have hk : mat (k0_pay67 (F := Ideal) c s k) = fun n d => rot C S (mat k) n d * scale := by funext n d; exact turn_scaled c s k C S h n d
  rw [← hk]
  exact step_tile l g _ v st z d e

/-! ## Attention -/

/-- The attention's tables of a tile agree with `C` and `S` on the first 32 lanes and leave the others. -/
structure TurnsA (c lo hi : FVec Ideal S128x128 .f32) (C S : Mat) : Prop where
  cos : ∀ n d, c (ix2 n d) = if d.val < 32 then C n d else 1
  lo : ∀ n d, lo (ix2 n d) = if d.val < 16 then -S n d else 0
  hi : ∀ n d, hi (ix2 n d) = if 16 ≤ d.val ∧ d.val < 32 then S n d else 0

/-- The turned rows from a tile of rows already divided and weighted. -/
theorem rotA_lane (c lo hi : FVec Ideal S128x128 .f32) (C S : Mat) (h : TurnsA c lo hi C S) (t : Mat) (n d : Fin 128) :
    t n d * c (ix2 n d) + t n ⟨(d.val + 128 - 112) % 128, by omega⟩ * lo (ix2 n d) + t n ⟨(d.val + 128 - 16) % 128, by omega⟩ * hi (ix2 n d)
      = rotA C S t n d := by
  rw [h.cos, h.lo, h.hi, rotA]
  by_cases h32 : d.val < 32
  · by_cases h16 : d.val < 16
    · have e : (⟨(d.val + 128 - 112) % 128, by omega⟩ : Fin 128) = ⟨16 + d.val, by omega⟩ := Fin.ext (by simp; omega)
      rw [if_pos h32, if_pos h16, if_neg (by omega), dif_pos h32, dif_pos h16, e, mul_zero, add_zero, mul_neg, neg_mul]
    · have e : (⟨(d.val + 128 - 16) % 128, by omega⟩ : Fin 128) = ⟨d.val - 16, by omega⟩ := Fin.ext (by simp; omega)
      rw [if_pos h32, if_neg h16, if_pos (by omega), dif_pos h32, dif_neg h16, e, mul_zero, add_zero]
  · rw [if_neg h32, if_neg (by omega), if_neg (by omega), dif_neg h32, mul_zero, mul_zero, mul_one, add_zero, add_zero]

theorem query_tile (c lo hi C S) (h : TurnsA c lo hi C S) (t : FVec Ideal S128x128 .f32) (g : FVec Ideal S1x128 .f32) (n d : Fin 128) :
    k0_pay163 (F := Ideal) c lo hi t g (ix2 n d) = rotA C S (rms (fun d => g (ix2 0 d)) (mat t)) n d := by
  rw [← rotA_lane c lo hi C S h]
  pointwise [k0_pay163, rms]

theorem key_tile (c lo hi C S) (h : TurnsA c lo hi C S) (t : FVec Ideal S128x128 .f32) (g : FVec Ideal S1x128 .f32) (n d : Fin 128) :
    k0_pay157 (F := Ideal) c lo hi t g (k0_pay156 t) (ix2 n d) = rotA C S (rms (fun d => g (ix2 0 d)) (mat t)) n d := by
  rw [← rotA_lane c lo hi C S h]
  pointwise [k0_pay157, k0_pay156, rms]

theorem keys_tile (c lo hi C S) (h : TurnsA c lo hi C S) (t : FVec Ideal S128x128 .f32) (g : FVec Ideal S1x128 .f32)
    (p : FVec Ideal S1x128x128 .bf16) (j : Fin 256) (d : Fin 128) :
    k0_pay159 (F := Ideal) c lo hi t g (k0_pay156 t) p (ix2 j d)
      = stack (fun n d => p (ix3 0 n d)) (rotA C S (rms (fun d => g (ix2 0 d)) (mat t))) j d := by
  have hk : mat (k0_pay157 (F := Ideal) c lo hi t g (k0_pay156 t)) = rotA C S (rms (fun d => g (ix2 0 d)) (mat t)) := by
    funext n d; exact key_tile c lo hi C S h t g n d
  rw [← hk]
  pointwise [k0_pay159, stack]

theorem vals_tile (t : FVec Ideal S128x128 .bf16) (p : FVec Ideal S1x128x128 .bf16) (j : Fin 256) (d : Fin 128) :
    k0_pay161 (F := Ideal) t p (ix2 j d) = stack (fun n d => p (ix3 0 n d)) (mat t) j d := by
  pointwise [k0_pay161, stack]

theorem mask_word (b : BitVec 1) (n : Fin 128) (j : Fin 256) :
    IntOp.andi (IntOp.andi (IntOp.cmpi .sge (IntOp.subi (IntOp.addi 128#32 (BitVec.ofNat 32 n.val)) (BitVec.ofNat 32 j.val)) 0#32)
        (IntOp.cmpi .slt (IntOp.subi (IntOp.addi 128#32 (BitVec.ofNat 32 n.val)) (BitVec.ofNat 32 j.val)) 128#32))
      (IntOp.ori (IntOp.cmpi .sge (BitVec.ofNat 32 j.val) 128#32) b) = 1#1 ↔ j.val ≤ n.val + 128 ∧ n.val < j.val ∧ (128 ≤ j.val ∨ b = 1#1) := by
  revert b n j
  decide +kernel

open Classical in
/-- The masked scores of one of four heads. -/
theorem masked (b : BitVec 1) (first : Prop) (hb : b = 1#1 ↔ ¬first) (n : Fin 128) (j : Fin 256) (x y : EReal) :
    Scalar.select (k0_pay155 b (ix2 n j)) x y = if seen first n j then x else y := by
  have hm : k0_pay155 b (ix2 n j) = 1#1 ↔ seen first n j := by
    pointwise [k0_pay155]
    rw [mask_word b n j, hb]
  rw [select_ite]
  by_cases h : seen first n j
  · rw [if_pos h, if_pos (hm.2 h)]
  · rw [if_neg h, if_neg fun e => h (hm.1 e)]

theorem third (n : Fin 128) (h : 256 + n.val - 128 - 128 < 128) : (⟨256 + n.val - 128 - 128, h⟩ : Fin 128) = n := Fin.ext (by simp only; omega)
theorem fourth (n : Fin 128) (h : 384 + n.val - 128 - 128 - 128 < 128) : (⟨384 + n.val - 128 - 128 - 128, h⟩ : Fin 128) = n := Fin.ext (by simp only; omega)

/-- The masked scores of the four heads that share keys, as the kernel cuts them out of one product. -/
def sK (m : IVec S128x256 1) (kk : FVec Ideal S256x128 .bf16) (q : Fin 4 → FVec Ideal S128x128 .bf16) : Fin 4 → FVec Ideal S128x256 .f32
  | 0 => k0_pay176 m kk (q 0) (q 1) (q 2) (q 3)
  | 1 => k0_pay177 m kk (q 0) (q 1) (q 2) (q 3)
  | 2 => k0_pay178 m (k0_pay174 kk (q 0) (q 1) (q 2) (q 3))
  | 3 => k0_pay179 m (k0_pay174 kk (q 0) (q 1) (q 2) (q 3))

theorem sK_apply (b : BitVec 1) (first : Prop) (hb : b = 1#1 ↔ ¬first) (kk : FVec Ideal S256x128 .bf16) (q : Fin 4 → FVec Ideal S128x128 .bf16)
    (i : Fin 4) (n : Fin 128) (j : Fin 256) :
    sK (k0_pay155 b) kk q i (ix2 n j) = attS first (mat (q i)) (fun j d => kk (ix2 j d)) n j := by
  rw [attS, ← masked b first hb]
  fin_cases i
  · pointwise [sK, k0_pay176, k0_pay174]
  · pointwise [sK, k0_pay177, k0_pay174]
  · pointwise [sK, k0_pay178, k0_pay174]
    simp only [dif_neg (show ¬256 + n.val < 128 by omega), dif_neg (show ¬256 + n.val - 128 < 128 by omega),
      dif_pos (show 256 + n.val - 128 - 128 < 128 by omega), third]
  · pointwise [sK, k0_pay179, k0_pay174]
    simp only [dif_neg (show ¬384 + n.val < 128 by omega), dif_neg (show ¬384 + n.val - 128 < 128 by omega),
      dif_neg (show ¬384 + n.val - 128 - 128 < 128 by omega), fourth]

/-- The weights of one head before the division, as the kernel computes them. -/
def pK (sink : EReal) (s : FVec Ideal S128x256 .f32) : FVec Ideal S128x256 .f32 := k0_pay192 s (k0_pay184 (F := Ideal) sink s)

/-- What the four heads that share values give, as the kernel cuts them out of one product. -/
def oK (vv : FVec Ideal S256x128 .bf16) (sink : Fin 4 → EReal) (s : Fin 4 → FVec Ideal S128x256 .f32) : Fin 4 → FVec Ideal S128x128 .bf16
  | 0 => k0_pay212 (k0_pay200 (F := Ideal) (sink 0) (s 0) (k0_pay184 (F := Ideal) (sink 0) (s 0)))
      (k0_pay209 vv (pK (sink 0) (s 0)) (pK (sink 1) (s 1)) (pK (sink 2) (s 2)) (pK (sink 3) (s 3)))
  | 1 => k0_pay213 (k0_pay200 (F := Ideal) (sink 1) (s 1) (k0_pay184 (F := Ideal) (sink 1) (s 1)))
      (k0_pay209 vv (pK (sink 0) (s 0)) (pK (sink 1) (s 1)) (pK (sink 2) (s 2)) (pK (sink 3) (s 3)))
  | 2 => k0_pay214 (k0_pay200 (F := Ideal) (sink 2) (s 2) (k0_pay184 (F := Ideal) (sink 2) (s 2)))
      (k0_pay209 vv (pK (sink 0) (s 0)) (pK (sink 1) (s 1)) (pK (sink 2) (s 2)) (pK (sink 3) (s 3)))
  | 3 => k0_pay215 (k0_pay200 (F := Ideal) (sink 3) (s 3) (k0_pay184 (F := Ideal) (sink 3) (s 3)))
      (k0_pay209 vv (pK (sink 0) (s 0)) (pK (sink 1) (s 1)) (pK (sink 2) (s 2)) (pK (sink 3) (s 3)))

theorem pK_apply (sink : EReal) (s : FVec Ideal S128x256 .f32) (n : Fin 128) (j : Fin 256) :
    pK sink s (ix2 n j) = Ideal.exp (s (ix2 n j) - rowMax (fun j => s (ix2 n j)) sink) := by
  pointwise [pK, k0_pay192, k0_pay184, rowMax]

theorem inv_tile (sink : EReal) (s : FVec Ideal S128x256 .f32) (n : Fin 128) (z : Fin 1) :
    k0_pay200 (F := Ideal) sink s (k0_pay184 (F := Ideal) sink s) (ix2 n z)
      = Ideal.div (Ideal.ofBits .f32 0x3F800000#32)
          ((∑ j, Ideal.exp (s (ix2 n j) - rowMax (fun j => s (ix2 n j)) sink)) + Ideal.exp (sink - rowMax (fun j => s (ix2 n j)) sink)) := by
  pointwise [k0_pay200, k0_pay192, k0_pay184, rowMax]

theorem oK_apply (vv : FVec Ideal S256x128 .bf16) (sink : Fin 4 → EReal) (s : Fin 4 → FVec Ideal S128x256 .f32) (i : Fin 4) (n d : Fin 128) :
    oK vv sink s i (ix2 n d) = attO (fun n j => s i (ix2 n j)) (fun j d => vv (ix2 j d)) (sink i) n d := by
  rw [attO, ← inv_tile (sink i) (s i) n 0, Finset.sum_congr rfl fun j _ => congrArg (· * vv (ix2 j d)) (pK_apply (sink i) (s i) n j).symm]
  fin_cases i
  · pointwise [oK, k0_pay212, k0_pay209]
  · pointwise [oK, k0_pay213, k0_pay209]
  · pointwise [oK, k0_pay214, k0_pay209]
    simp only [dif_neg (show ¬256 + n.val < 128 by omega), dif_neg (show ¬256 + n.val - 128 < 128 by omega),
      dif_pos (show 256 + n.val - 128 - 128 < 128 by omega), third]
  · pointwise [oK, k0_pay215, k0_pay209]
    simp only [dif_neg (show ¬384 + n.val < 128 by omega), dif_neg (show ¬384 + n.val - 128 < 128 by omega),
      dif_neg (show ¬384 + n.val - 128 - 128 < 128 by omega), fourth]

/-- The attention of one of four heads on a tile: `k`, `v` are its keys and values, `pk`, `pv` those of the tile before. -/
theorem att_tile (c lo hi C S) (h : TurnsA c lo hi C S) (b : BitVec 1) (first : Prop) (hb : b = 1#1 ↔ ¬first)
    (q : Fin 4 → FVec Ideal S128x128 .f32) (k : FVec Ideal S128x128 .f32) (v : FVec Ideal S128x128 .bf16) (qg kg : FVec Ideal S1x128 .f32)
    (pk pv : FVec Ideal S1x128x128 .bf16) (sink : Fin 4 → EReal) (i : Fin 4) (n d : Fin 128) :
    oK (k0_pay161 (F := Ideal) v pv) sink
        (sK (k0_pay155 b) (k0_pay159 (F := Ideal) c lo hi k kg (k0_pay156 k) pk) fun i => k0_pay163 (F := Ideal) c lo hi (q i) qg) i (ix2 n d)
      = attO (attS first (rotA C S (rms (fun d => qg (ix2 0 d)) (mat (q i))))
            (stack (fun n d => pk (ix3 0 n d)) (rotA C S (rms (fun d => kg (ix2 0 d)) (mat k)))))
          (stack (fun n d => pv (ix3 0 n d)) (mat v)) (sink i) n d := by
  rw [oK_apply]
  have hq : mat (k0_pay163 (F := Ideal) c lo hi (q i) qg) = rotA C S (rms (fun d => qg (ix2 0 d)) (mat (q i))) := by
    funext n d; exact query_tile c lo hi C S h (q i) qg n d
  have hk : (fun (j : Fin 256) (d : Fin 128) => k0_pay159 (F := Ideal) c lo hi k kg (k0_pay156 k) pk (ix2 j d))
      = stack (fun n d => pk (ix3 0 n d)) (rotA C S (rms (fun d => kg (ix2 0 d)) (mat k))) := by
    funext j d; exact keys_tile c lo hi C S h k kg pk j d
  have hv : (fun (j : Fin 256) (d : Fin 128) => k0_pay161 (F := Ideal) v pv (ix2 j d)) = stack (fun n d => pv (ix3 0 n d)) (mat v) := by
    funext j d; exact vals_tile v pv j d
  have hs : (fun (n : Fin 128) (j : Fin 256) =>
        sK (k0_pay155 b) (k0_pay159 (F := Ideal) c lo hi k kg (k0_pay156 k) pk) (fun i => k0_pay163 (F := Ideal) c lo hi (q i) qg) i (ix2 n j))
      = attS first (rotA C S (rms (fun d => qg (ix2 0 d)) (mat (q i))))
          (stack (fun n d => pk (ix3 0 n d)) (rotA C S (rms (fun d => kg (ix2 0 d)) (mat k)))) := by
    rw [← hq, ← hk]
    funext n j; exact sK_apply b first hb _ _ i n j
  rw [hs, hv]

end Cert.KernelIdeal.Tile

end
-- ==== Proof.Step.lean ====
module

public import proofs.«01_k».proof.Proof.Tile

/-!
  One tile of 128 rows as the kernel computes it from what it holds, against the layer's chunk of the same rows: the kernel holds the tables of positions of 256 rows and of
  the block's start, the projections of a block of 256 rows in two arrays, the states after the chunk before, and the keys and values of the chunk before.
-/

@[expose] public section

noncomputable section

namespace Cert.KernelIdeal.Tile

set_option maxRecDepth 16384
set_option maxHeartbeats 2000000

open Idealize Idealize.ShloMosaic Cert.Mix Cert.KernelIdeal.Gen
open scoped BigOperators

/-- Chunk `cc` of block `s`. -/
abbrev chunk (s : Fin 32) (cc : Fin 2) : Fin 64 := ⟨2 * s.val + cc.val, by omega⟩

/-- The attention's frequency of a lane: none beyond lane 32. -/
def laneFreq (d : ℕ) : EReal := if d < 32 then freqA (d % 16) else 0

/-- What the kernel is given at a point that mixes block `s`. -/
structure Given (P : Par) (s : Fin 32) (x0 : Vec Ideal S8 .f32) (x1 : Vec Ideal S2x8 .f32) (x5 x6 x7 x8 : Vec Ideal S256x128 .f32)
    (x9 : Vec Ideal S1x4x128 .f32) (x10 : Vec Ideal S8x128 .f32) (x11 x12 : Vec Ideal S1x128 .f32) (x13 : Vec Ideal S2048x2048 .bf16) : Prop where
  sink : ∀ (h : Fin 8), x0 (ix1 h) = P.sinks h
  log : ∀ (h : Fin 8), x1 (ix2 0 h) = lg h.val
  gamma : ∀ (h : Fin 8), x1 (ix2 1 h) = gam h.val
  cosR : ∀ (r : Fin 256) (d : Fin 128), x5 (ix2 r d) = Ideal.cos (nat r.val * freqR (d.val % 64))
  sinR : ∀ (r : Fin 256) (d : Fin 128), x6 (ix2 r d) = Ideal.sin (nat r.val * freqR (d.val % 64))
  cosA : ∀ (r : Fin 256) (d : Fin 128), x7 (ix2 r d) = Ideal.cos (nat r.val * laneFreq d.val)
  sinA : ∀ (r : Fin 256) (d : Fin 128), x8 (ix2 r d) = Ideal.sin (nat r.val * laneFreq d.val)
  offCosR : ∀ (d : Fin 128), x9 (ix3 0 0 d) = Ideal.cos (nat (s.val * 256) * freqR (d.val % 64))
  offSinR : ∀ (d : Fin 128), x9 (ix3 0 1 d) = Ideal.sin (nat (s.val * 256) * freqR (d.val % 64))
  offCosA : ∀ (d : Fin 128), x9 (ix3 0 2 d) = Ideal.cos (nat (s.val * 256) * laneFreq d.val)
  offSinA : ∀ (d : Fin 128), x9 (ix3 0 3 d) = Ideal.sin (nat (s.val * 256) * laneFreq d.val)
  sign : ∀ (d : Fin 128), x10 (ix2 0 d) = if d.val < 64 then -1 else 1
  low : ∀ (d : Fin 128), x10 (ix2 1 d) = if d.val < 16 then -1 else 0
  high : ∀ (d : Fin 128), x10 (ix2 2 d) = if 16 ≤ d.val ∧ d.val < 32 then 1 else 0
  qg : ∀ (d : Fin 128), x11 (ix2 0 d) = P.qg d
  kg : ∀ (d : Fin 128), x12 (ix2 0 d) = P.kg d
  wout : ∀ (k j : Fin 2048), x13 (ix2 k j) = P.wout k j

/-- The projections of block `s`, in the two arrays that hold them. -/
structure Held (P : Par) (s : Fin 32) (zf : Vec Ideal S256x4352 .f32) (zv : Vec Ideal S256x1280 .bf16) : Prop where
  zf : ∀ (r : Fin 256) (j : Fin 4352) (a : Fin 8192) (b : Fin 5632), a.val = s.val * 256 + r.val → (j.val < 2048 ∧ b.val = j.val ∨ 2048 ≤ j.val ∧ b.val = j.val + 1024) →
    zf (ix2 r j) = P.z a b
  zv : ∀ (r : Fin 256) (j : Fin 1280) (a : Fin 8192) (b : Fin 5632), a.val = s.val * 256 + r.val → (j.val < 1024 ∧ b.val = j.val + 2048 ∨ 1024 ≤ j.val ∧ b.val = j.val + 4352) →
    zv (ix2 r j) = P.z a b

/-! ## The frequencies are real numbers -/

theorem isReal_pow {b e d : EReal} (hb : IsReal b) (he : IsReal e) (hd : ∃ r : ℝ, r ≠ 0 ∧ d = (r : EReal)) : IsReal (Ideal.pow b (Ideal.div e d)) := by
  obtain ⟨b, rfl⟩ := hb
  obtain ⟨e, rfl⟩ := he
  obtain ⟨d, h, rfl⟩ := hd
  rw [Ideal.div_coe h, ← EReal.coe_mul, Ideal.pow_coe_coe]
  exact .coe _

theorem isReal_neg {x : EReal} (hx : IsReal x) : IsReal (-x) := by
  obtain ⟨r, rfl⟩ := hx
  exact ⟨-r, (EReal.coe_neg r).symm⟩

theorem two_lit : Ideal.ofBits .f32 0x40000000#32 = ((2 : ℝ) : EReal) := by simp [Ideal.ofBits, Ideal.ieee, -EReal.coe_mul]; norm_num
theorem n128_lit : Ideal.ofBits .f32 0x43000000#32 = ((128 : ℝ) : EReal) := by simp [Ideal.ofBits, Ideal.ieee, -EReal.coe_mul]; norm_num
theorem n32_lit : Ideal.ofBits .f32 0x42000000#32 = ((32 : ℝ) : EReal) := by simp [Ideal.ofBits, Ideal.ieee, -EReal.coe_mul]; norm_num
theorem thetaR_lit : Ideal.ofBits .f32 0x461C4000#32 = ((10000 : ℝ) : EReal) := by simp [Ideal.ofBits, Ideal.ieee, -EReal.coe_mul]; norm_num
theorem thetaA_lit : Ideal.ofBits .f32 0x48F42400#32 = ((500000 : ℝ) : EReal) := by simp [Ideal.ofBits, Ideal.ieee, -EReal.coe_mul]; norm_num

theorem isReal_freqR (i : ℕ) : IsReal (freqR i) := by
  rw [freqR, two_lit, n128_lit, thetaR_lit]
  exact isReal_pow (.coe _) (isReal_neg (IsReal.zero.add ((IsReal.coe _).mul (.coe _)))) ⟨128, by norm_num, rfl⟩

theorem isReal_freqA (i : ℕ) : IsReal (freqA i) := by
  rw [freqA, two_lit, n32_lit, thetaA_lit]
  exact isReal_pow (.coe _) (isReal_neg (IsReal.zero.add ((IsReal.coe _).mul (.coe _)))) ⟨32, by norm_num, rfl⟩

theorem isReal_laneFreq (d : ℕ) : IsReal (laneFreq d) := by
  rw [laneFreq]
  split
  · exact isReal_freqA _
  · exact .zero

/-- Cosines of the angles of a row, from those of its place and of its block. -/
theorem cos_row {f : EReal} (hf : IsReal f) (a b : ℕ) :
    Ideal.cos (nat a * f) * Ideal.cos (nat b * f) - Ideal.sin (nat a * f) * Ideal.sin (nat b * f) = Ideal.cos (nat (b + a) * f) := by
  obtain ⟨f, rfl⟩ := hf
  simp only [nat, ← EReal.coe_mul]
  rw [cos_add_table]
  congr 2; push_cast; ring

theorem sin_row {f : EReal} (hf : IsReal f) (a b : ℕ) :
    Ideal.sin (nat a * f) * Ideal.cos (nat b * f) + Ideal.cos (nat a * f) * Ideal.sin (nat b * f) = Ideal.sin (nat (b + a) * f) := by
  obtain ⟨f, rfl⟩ := hf
  simp only [nat, ← EReal.coe_mul]
  rw [sin_add_table]
  congr 2; push_cast; ring

theorem cos_zero (a : ℕ) : Ideal.cos (nat a * 0) = 1 := by
  rw [mul_zero]
  show ((Real.cos 0 : ℝ) : EReal) = 1
  rw [Real.cos_zero]; rfl

variable {P : Par} {s : Fin 32} {x0 : Vec Ideal S8 .f32} {x1 : Vec Ideal S2x8 .f32} {x5 x6 x7 x8 : Vec Ideal S256x128 .f32}
  {x9 : Vec Ideal S1x4x128 .f32} {x10 : Vec Ideal S8x128 .f32} {x11 x12 : Vec Ideal S1x128 .f32} {x13 : Vec Ideal S2048x2048 .bf16}

/-- A row's number, from its block and its place in it. -/
theorem row_val (s : Fin 32) (cc : Fin 2) (n : Fin 128) : s.val * 256 + (cc.val * 128 + n.val) = (row (chunk s cc) n).val := by
  show _ = (2 * s.val + cc.val) * 128 + n.val
  ring

theorem turns (G : Given P s x0 x1 x5 x6 x7 x8 x9 x10 x11 x12 x13) (cc : Fin 2) {A B : FVec Ideal S128x128 .f32}
    (hA : ∀ n d : Fin 128, A (ix2 n d) = Ideal.cos (nat (cc.val * 128 + n.val) * freqR (d.val % 64)))
    (hB : ∀ n d : Fin 128, B (ix2 n d) = Ideal.sin (nat (cc.val * 128 + n.val) * freqR (d.val % 64))) :
    Turns (k0_pay51 (F := Ideal) (k0_pay37 x9) A B) (k0_pay52 (F := Ideal) (k0_pay37 x9) (k0_pay38 x10) A B) (cosR (chunk s cc)) (sinR (chunk s cc)) where
  cos n d := by
    have e := cos_row (isReal_freqR (d.val % 64)) (cc.val * 128 + n.val) (s.val * 256)
    rw [row_val] at e
    pointwise [k0_pay51, k0_pay47, k0_pay48, k0_pay49, k0_pay50, k0_pay37, hA, hB, G.offCosR, G.offSinR]
    exact e
  sin n d := by
    have e := sin_row (isReal_freqR (d.val % 64)) (cc.val * 128 + n.val) (s.val * 256)
    rw [row_val] at e
    have hg := G.sign d
    pointwise [k0_pay52, k0_pay47, k0_pay48, k0_pay49, k0_pay50, k0_pay37, k0_pay38, hA, hB, G.offCosR, G.offSinR, hg]
    rw [e]
    by_cases h : d.val < 64
    · rw [if_pos h, if_pos h, mul_neg, mul_one]; rfl
    · rw [if_neg h, if_neg h, mul_one]; rfl

theorem turnsA (G : Given P s x0 x1 x5 x6 x7 x8 x9 x10 x11 x12 x13) (cc : Fin 2) {A B : FVec Ideal S128x128 .f32}
    (hA : ∀ n d : Fin 128, A (ix2 n d) = Ideal.cos (nat (cc.val * 128 + n.val) * laneFreq d.val))
    (hB : ∀ n d : Fin 128, B (ix2 n d) = Ideal.sin (nat (cc.val * 128 + n.val) * laneFreq d.val)) :
    TurnsA (k0_pay151 (F := Ideal) (k0_pay37 x9) A B) (k0_pay153 (F := Ideal) (k0_pay37 x9) (k0_pay38 x10) A B)
      (k0_pay154 (F := Ideal) (k0_pay37 x9) (k0_pay38 x10) A B) (cosA (chunk s cc)) (sinA (chunk s cc)) where
  cos n d := by
    have e := cos_row (isReal_laneFreq d.val) (cc.val * 128 + n.val) (s.val * 256)
    rw [row_val] at e
    pointwise [k0_pay151, k0_pay147, k0_pay148, k0_pay149, k0_pay150, k0_pay37, hA, hB, G.offCosA, G.offSinA]
    rw [e, cosA]
    by_cases h : d.val < 32
    · rw [if_pos h, laneFreq, if_pos h]
    · rw [if_neg h, laneFreq, if_neg h, cos_zero]
  lo n d := by
    have e := sin_row (isReal_laneFreq d.val) (cc.val * 128 + n.val) (s.val * 256)
    rw [row_val] at e
    have hg := G.low d
    pointwise [k0_pay153, k0_pay152, k0_pay147, k0_pay148, k0_pay149, k0_pay150, k0_pay37, k0_pay38, hA, hB, G.offCosA, G.offSinA, hg]
    rw [e, sinA]
    by_cases h : d.val < 16
    · rw [if_pos h, if_pos h, laneFreq, if_pos (by omega), mul_neg, mul_one]
    · rw [if_neg h, if_neg h, mul_zero]
  hi n d := by
    have e := sin_row (isReal_laneFreq d.val) (cc.val * 128 + n.val) (s.val * 256)
    rw [row_val] at e
    have hg := G.high d
    pointwise [k0_pay154, k0_pay152, k0_pay147, k0_pay148, k0_pay149, k0_pay150, k0_pay37, k0_pay38, hA, hB, G.offCosA, G.offSinA, hg]
    rw [e, sinA]
    by_cases h : 16 ≤ d.val ∧ d.val < 32
    · rw [if_pos h, if_pos h, laneFreq, if_pos h.2, mul_one]
    · rw [if_neg h, if_neg h, mul_zero]

/-! ## One head on one chunk -/

theorem mat_eq {t : S128x128.Idx → EReal} {m : Mat} (h : ∀ n d, t (ix2 n d) = m n d) : mat t = m := funext fun n => funext fun d => h n d

/-- A head's retention on a chunk. -/
theorem ret_at (c : Fin 64) (h : Fin 8) {ct st : FVec Ideal S128x128 .f32} (T : Turns ct st (cosR c) (sinR c))
    {l : EReal} {q k g : FVec Ideal S128x128 .f32} {v : FVec Ideal S128x128 .bf16} {S : FVec Ideal S1x128x128 .f32} (hl : l = lg h.val)
    (hq : ∀ n d, q (ix2 n d) = P.zq c h n d) (hk : ∀ n d, k (ix2 n d) = P.zk c h n d) (hv : ∀ n d, v (ix2 n d) = P.zv c h n d)
    (hg : ∀ n d, g (ix2 n d) = P.zg c h n d) (hS : ∀ d e, S (ix3 0 d e) = P.state h c.val d e) (n e : Fin 128) :
    k0_pay133 (F := Ideal) (k0_pay123 (k0_pay95 k0_pay55 l (k0_pay57 ct st q) v (k0_pay77 k0_pay53 k0_pay54 l (k0_pay57 ct st q) (k0_pay67 ct st k))
        (k0_pay87 S))) g (ix2 n e) = P.ret c h n e := by
  rw [ret_tile ct st _ _ T, mat_eq hq, mat_eq hk, mat_eq hv,
    mat_eq hg, funext fun d => funext fun e => hS d e, hl]
  rfl

/-- A head's state after a chunk. -/
theorem state_at (c : Fin 64) (h : Fin 8) {ct st : FVec Ideal S128x128 .f32} (T : Turns ct st (cosR c) (sinR c))
    {l g : EReal} {k : FVec Ideal S128x128 .f32} {v : FVec Ideal S128x128 .bf16} {S : FVec Ideal S1x128x128 .f32} (hl : l = lg h.val) (hg : g = gam h.val)
    (hk : ∀ n d, k (ix2 n d) = P.zk c h n d) (hv : ∀ n d, v (ix2 n d) = P.zv c h n d)
    (hS : ∀ d e, S (ix3 0 d e) = P.state h c.val d e) (z : Fin 1) (d e : Fin 128) :
    k0_pay114 (F := Ideal) (k0_pay87 S) (k0_pay105 k0_pay56 l (k0_pay67 ct st k) v) g (ix3 z d e) = P.state h (c.val + 1) d e := by
  rw [state_tile ct st _ _ T, mat_eq hk, mat_eq hv, hS, hl, hg]
  show _ = P.state h c.val d e * gam h.val + P.kv h d e c.val
  rw [Par.kv, dif_pos c.2]
  rfl

/-- The keys of a chunk. -/
theorem key_at (c : Fin 64) (h : Fin 2) {ct lo hi : FVec Ideal S128x128 .f32} (T : TurnsA ct lo hi (cosA c) (sinA c))
    {k : FVec Ideal S128x128 .f32} {kg : FVec Ideal S1x128 .f32} (hk : ∀ n d, k (ix2 n d) = P.zka c h n d) (hg : ∀ d, kg (ix2 0 d) = P.kg d) (n d : Fin 128) :
    k0_pay157 (F := Ideal) ct lo hi k kg (k0_pay156 k) (ix2 n d) = P.ka c h n d := by
  rw [key_tile ct lo hi _ _ T, funext fun d => hg d, mat_eq hk]
  rfl

/-- The attention of one of the four heads that share keys, on a chunk. -/
theorem att_at (c : Fin 64) (h : Fin 2) {ct lo hi : FVec Ideal S128x128 .f32} (T : TurnsA ct lo hi (cosA c) (sinA c))
    {b : BitVec 1} (hb : b = 1#1 ↔ ¬c.val = 0) {q0 q1 q2 q3 k : FVec Ideal S128x128 .f32} {v : FVec Ideal S128x128 .bf16} {qg kg : FVec Ideal S1x128 .f32}
    {pk pv : FVec Ideal S1x128x128 .bf16} {s0 s1 s2 s3 : EReal}
    (hq0 : ∀ n d, q0 (ix2 n d) = P.zqa c ⟨4 * h.val, by omega⟩ n d) (hq1 : ∀ n d, q1 (ix2 n d) = P.zqa c ⟨4 * h.val + 1, by omega⟩ n d)
    (hq2 : ∀ n d, q2 (ix2 n d) = P.zqa c ⟨4 * h.val + 2, by omega⟩ n d) (hq3 : ∀ n d, q3 (ix2 n d) = P.zqa c ⟨4 * h.val + 3, by omega⟩ n d)
    (hs0 : s0 = P.sinks ⟨4 * h.val, by omega⟩) (hs1 : s1 = P.sinks ⟨4 * h.val + 1, by omega⟩)
    (hs2 : s2 = P.sinks ⟨4 * h.val + 2, by omega⟩) (hs3 : s3 = P.sinks ⟨4 * h.val + 3, by omega⟩)
    (hk : ∀ n d, k (ix2 n d) = P.zka c h n d) (hv : ∀ n d, v (ix2 n d) = P.zva c h n d)
    (hqg : ∀ d, qg (ix2 0 d) = P.qg d) (hkg : ∀ d, kg (ix2 0 d) = P.kg d)
    (hpk : ∀ n d, pk (ix3 0 n d) = before (fun b => P.ka b h) c.val n d) (hpv : ∀ n d, pv (ix3 0 n d) = before (fun b => P.zva b h) c.val n d)
    (i : Fin 4) (n d : Fin 128) :
    oK (k0_pay161 (F := Ideal) v pv) ![s0, s1, s2, s3]
        (sK (k0_pay155 b) (k0_pay159 (F := Ideal) ct lo hi k kg (k0_pay156 k) pk) ![k0_pay163 (F := Ideal) ct lo hi q0 qg, k0_pay163 (F := Ideal) ct lo hi q1 qg,
          k0_pay163 (F := Ideal) ct lo hi q2 qg, k0_pay163 (F := Ideal) ct lo hi q3 qg]) i (ix2 n d)
      = P.att c ⟨4 * h.val + i.val, by omega⟩ n d := by
  have e : ![k0_pay163 (F := Ideal) ct lo hi q0 qg, k0_pay163 (F := Ideal) ct lo hi q1 qg, k0_pay163 (F := Ideal) ct lo hi q2 qg, k0_pay163 (F := Ideal) ct lo hi q3 qg]
      = fun i => k0_pay163 (F := Ideal) ct lo hi (![q0, q1, q2, q3] i) qg := by
    funext i; fin_cases i <;> rfl
  have hq : mat (![q0, q1, q2, q3] i) = P.zqa c ⟨4 * h.val + i.val, by omega⟩ := by
    funext n d
    fin_cases i
    · exact hq0 n d
    · exact hq1 n d
    · exact hq2 n d
    · exact hq3 n d
  have hs : ![s0, s1, s2, s3] i = P.sinks ⟨4 * h.val + i.val, by omega⟩ := by
    fin_cases i
    · exact hs0
    · exact hs1
    · exact hs2
    · exact hs3
  have hkv : kvOf ⟨4 * h.val + i.val, by omega⟩ = h := Fin.ext (by show (4 * h.val + i.val) / 4 = h.val; omega)
  rw [e, att_tile ct lo hi _ _ T b (c.val = 0) hb, hq, hs, funext fun d => hqg d, funext fun d => hkg d, funext fun n => funext fun d => hpk n d,
    funext fun n => funext fun d => hpv n d, mat_eq hk, mat_eq hv, Par.att, hkv]
  rfl

/-! ## What the kernel carries from point to point -/

/-- The states after `c` chunks. -/
def stV (P : Par) (c : ℕ) : Vec Ideal S8x128x128 .f32 := fun y => P.state (y 0) c (y 1) (y 2)

/-- The keys of the chunk before chunk `c`. -/
def kaV (P : Par) (c : ℕ) : Vec Ideal S2x128x128 .bf16 := fun y => before (fun b => P.ka b (y 0)) c (y 1) (y 2)

/-- The values of the chunk before chunk `c`. -/
def vaV (P : Par) (c : ℕ) : Vec Ideal S2x128x128 .bf16 := fun y => before (fun b => P.zva b (y 0)) c (y 1) (y 2)

/-- What all heads give on block `s`. -/
def mixV (P : Par) (s : Fin 32) : Vec Ideal S256x2048 .bf16 := fun y =>
  P.mix (chunk s ⟨(y 0).val / 128, by have h : (y 0).val < 256 := (y 0).2; omega⟩) ⟨(y 0).val % 128, by omega⟩ (y 1)

theorem stV_at {c : ℕ} {y : S8x128x128.Idx} (h : Fin 8) (d e : Fin 128) (h0 : (y 0).val = h.val) (h1 : (y 1).val = d.val) (h2 : (y 2).val = e.val) :
    stV P c y = P.state h c d e := by
  rw [stV, show y 0 = h from Fin.ext h0, show y 1 = d from Fin.ext h1, show y 2 = e from Fin.ext h2]

theorem kaV_at {c : ℕ} {y : S2x128x128.Idx} (h : Fin 2) (n d : Fin 128) (h0 : (y 0).val = h.val) (h1 : (y 1).val = n.val) (h2 : (y 2).val = d.val) :
    kaV P c y = before (fun b => P.ka b h) c n d := by
  rw [kaV, show y 0 = h from Fin.ext h0, show y 1 = n from Fin.ext h1, show y 2 = d from Fin.ext h2]

theorem vaV_at {c : ℕ} {y : S2x128x128.Idx} (h : Fin 2) (n d : Fin 128) (h0 : (y 0).val = h.val) (h1 : (y 1).val = n.val) (h2 : (y 2).val = d.val) :
    vaV P c y = before (fun b => P.zva b h) c n d := by
  rw [vaV, show y 0 = h from Fin.ext h0, show y 1 = n from Fin.ext h1, show y 2 = d from Fin.ext h2]

/-- A column of retention, from its head. -/
theorem mixV_ret {y : S256x2048.Idx} (cc : Fin 2) (h : Fin 8) (n e : Fin 128) (h0 : (y 0).val = cc.val * 128 + n.val)
    (h1 : (y 1).val = h.val * 128 + e.val) : mixV P s y = P.ret (chunk s cc) h n e := by
  unfold mixV Par.mix
  rw [dif_pos (by omega)]
  congr 1
  · exact Fin.ext (by show 2 * s.val + (y 0).val / 128 = 2 * s.val + cc.val; omega)
  · exact Fin.ext (by show (y 1).val / 128 = h.val; omega)
  · exact Fin.ext (by show (y 0).val % 128 = n.val; omega)
  · exact Fin.ext (by show (y 1).val % 128 = e.val; omega)

/-- A column of attention, from its head. -/
theorem mixV_att {y : S256x2048.Idx} (cc : Fin 2) (h : Fin 8) (n e : Fin 128) (h0 : (y 0).val = cc.val * 128 + n.val)
    (h1 : (y 1).val = 1024 + (h.val * 128 + e.val)) : mixV P s y = P.att (chunk s cc) h n e := by
  unfold mixV Par.mix
  rw [dif_neg (by omega)]
  congr 1
  · exact Fin.ext (by show 2 * s.val + (y 0).val / 128 = 2 * s.val + cc.val; omega)
  · exact Fin.ext (by show ((y 1).val - 1024) / 128 = h.val; omega)
  · exact Fin.ext (by show (y 0).val % 128 = n.val; omega)
  · exact Fin.ext (by show (y 1).val % 128 = e.val; omega)

theorem before_succ (f : Fin 64 → Mat) (c : Fin 64) : before f (c.val + 1) = f c := by
  funext n d
  rw [before, dif_pos ⟨by omega, by omega⟩]
  rfl

/-! ## The pieces stored by a point -/

/-- A piece of the states. -/
theorem state_piece (cc : Fin 2) {n0 n1 : ℕ} {h : Fin 8} {ct st : FVec Ideal S128x128 .f32}
    (T : Turns ct st (cosR (chunk s cc)) (sinR (chunk s cc)))
    {l g : EReal} {k : FVec Ideal S128x128 .f32} {v : FVec Ideal S128x128 .bf16} {S : FVec Ideal S1x128x128 .f32} {z : Fin 1} {d e : Fin 128} {y : S8x128x128.Idx}
    (hl : l = lg h.val) (hg : g = gam h.val) (h0 : (y 0).val = h.val) (h1 : (y 1).val = d.val) (h2 : (y 2).val = e.val)
    (hk : ∀ n d, k (ix2 n d) = P.zk (chunk s cc) h n d) (hv : ∀ n d, v (ix2 n d) = P.zv (chunk s cc) h n d)
    (hS : ∀ d e, S (ix3 0 d e) = P.state h n0 d e) (hn0 : n0 = 2 * s.val + cc.val) (hn1 : n1 = 2 * s.val + cc.val + 1) :
    k0_pay114 (F := Ideal) (k0_pay87 S) (k0_pay105 k0_pay56 l (k0_pay67 ct st k) v) g (ix3 z d e) = stV P n1 y := by
  subst hn0 hn1
  rw [stV_at h d e h0 h1 h2]
  exact state_at (chunk s cc) h T hl hg hk hv hS z d e

/-- A piece of retention. -/
theorem ret_piece (cc : Fin 2) {n0 : ℕ} {h : Fin 8} {ct st : FVec Ideal S128x128 .f32}
    (T : Turns ct st (cosR (chunk s cc)) (sinR (chunk s cc)))
    {l : EReal} {q k g : FVec Ideal S128x128 .f32} {v : FVec Ideal S128x128 .bf16} {S : FVec Ideal S1x128x128 .f32} {n e : Fin 128} {y : S256x2048.Idx} (hl : l = lg h.val)
    (h0 : (y 0).val = cc.val * 128 + n.val) (h1 : (y 1).val = h.val * 128 + e.val)
    (hq : ∀ n d, q (ix2 n d) = P.zq (chunk s cc) h n d) (hk : ∀ n d, k (ix2 n d) = P.zk (chunk s cc) h n d)
    (hv : ∀ n d, v (ix2 n d) = P.zv (chunk s cc) h n d)
    (hg : ∀ n d, g (ix2 n d) = P.zg (chunk s cc) h n d) (hS : ∀ d e, S (ix3 0 d e) = P.state h n0 d e)
    (hn0 : n0 = 2 * s.val + cc.val) :
    k0_pay133 (F := Ideal) (k0_pay123 (k0_pay95 k0_pay55 l (k0_pay57 ct st q) v (k0_pay77 k0_pay53 k0_pay54 l (k0_pay57 ct st q) (k0_pay67 ct st k))
        (k0_pay87 S))) g (ix2 n e) = mixV P s y := by
  subst hn0
  rw [mixV_ret cc h n e h0 h1]
  exact ret_at (chunk s cc) h T hl hq hk hv hg hS n e

/-- A piece of attention. -/
theorem att_piece (cc : Fin 2) {n0 : ℕ} {h : Fin 2} {ct lo hi : FVec Ideal S128x128 .f32}
    (T : TurnsA ct lo hi (cosA (chunk s cc)) (sinA (chunk s cc)))
    {b : BitVec 1} {q0 q1 q2 q3 k : FVec Ideal S128x128 .f32} {v : FVec Ideal S128x128 .bf16} {qg kg : FVec Ideal S1x128 .f32}
    {pk pv : FVec Ideal S1x128x128 .bf16} {s0 s1 s2 s3 : EReal} (i : Fin 4) {n d : Fin 128} {y : S256x2048.Idx}
    (hs0 : s0 = P.sinks ⟨4 * h.val, by omega⟩) (hs1 : s1 = P.sinks ⟨4 * h.val + 1, by omega⟩)
    (hs2 : s2 = P.sinks ⟨4 * h.val + 2, by omega⟩) (hs3 : s3 = P.sinks ⟨4 * h.val + 3, by omega⟩)
    (h0 : (y 0).val = cc.val * 128 + n.val) (h1 : (y 1).val = 1024 + ((4 * h.val + i.val) * 128 + d.val))
    (hq0 : ∀ n d, q0 (ix2 n d) = P.zqa (chunk s cc) ⟨4 * h.val, by omega⟩ n d) (hq1 : ∀ n d, q1 (ix2 n d) = P.zqa (chunk s cc) ⟨4 * h.val + 1, by omega⟩ n d)
    (hq2 : ∀ n d, q2 (ix2 n d) = P.zqa (chunk s cc) ⟨4 * h.val + 2, by omega⟩ n d) (hq3 : ∀ n d, q3 (ix2 n d) = P.zqa (chunk s cc) ⟨4 * h.val + 3, by omega⟩ n d)
    (hk : ∀ n d, k (ix2 n d) = P.zka (chunk s cc) h n d) (hv : ∀ n d, v (ix2 n d) = P.zva (chunk s cc) h n d)
    (hqg : ∀ d, qg (ix2 0 d) = P.qg d) (hkg : ∀ d, kg (ix2 0 d) = P.kg d)
    (hpk : ∀ n d, pk (ix3 0 n d) = before (fun b => P.ka b h) n0 n d) (hpv : ∀ n d, pv (ix3 0 n d) = before (fun b => P.zva b h) n0 n d)
    (hn0 : n0 = 2 * s.val + cc.val) (hb : b = 1#1 ↔ ¬n0 = 0) :
    oK (k0_pay161 (F := Ideal) v pv) ![s0, s1, s2, s3]
        (sK (k0_pay155 b) (k0_pay159 (F := Ideal) ct lo hi k kg (k0_pay156 k) pk) ![k0_pay163 (F := Ideal) ct lo hi q0 qg, k0_pay163 (F := Ideal) ct lo hi q1 qg,
          k0_pay163 (F := Ideal) ct lo hi q2 qg, k0_pay163 (F := Ideal) ct lo hi q3 qg]) i (ix2 n d)
      = mixV P s y := by
  subst hn0
  rw [mixV_att cc ⟨4 * h.val + i.val, by omega⟩ n d h0 h1]
  exact att_at (chunk s cc) h T hb hq0 hq1 hq2 hq3 hs0 hs1 hs2 hs3 hk hv hqg hkg hpk hpv i n d

/-- A piece of the keys kept for the next chunk. -/
theorem key_piece (cc : Fin 2) {n1 : ℕ} {h : Fin 2} {ct lo hi : FVec Ideal S128x128 .f32} (T : TurnsA ct lo hi (cosA (chunk s cc)) (sinA (chunk s cc)))
    {k : FVec Ideal S128x128 .f32} {kg : FVec Ideal S1x128 .f32} {z : Fin 1} {n d : Fin 128} {y : S2x128x128.Idx}
    (h0 : (y 0).val = h.val) (h1 : (y 1).val = n.val) (h2 : (y 2).val = d.val)
    (hk : ∀ n d, k (ix2 n d) = P.zka (chunk s cc) h n d) (hg : ∀ d, kg (ix2 0 d) = P.kg d) (hn1 : n1 = 2 * s.val + cc.val + 1) :
    k0_pay221 (F := Ideal) (k0_pay157 (F := Ideal) ct lo hi k kg (k0_pay156 k)) (ix3 z n d) = kaV P n1 y := by
  subst hn1
  rw [kaV_at h n d h0 h1 h2]
  refine Eq.trans ?_ ((key_at (chunk s cc) h T hk hg n d).trans (congrFun (congrFun (before_succ (fun b => P.ka b h) (chunk s cc)) n) d).symm)
  pointwise [k0_pay221]

/-- A piece of the values kept for the next chunk. -/
theorem val_piece (cc : Fin 2) {n1 : ℕ} {h : Fin 2} {v : FVec Ideal S128x128 .bf16} {z : Fin 1} {n d : Fin 128} {y : S2x128x128.Idx}
    (h0 : (y 0).val = h.val) (h1 : (y 1).val = n.val) (h2 : (y 2).val = d.val)
    (hv : ∀ n d, v (ix2 n d) = P.zva (chunk s cc) h n d) (hn1 : n1 = 2 * s.val + cc.val + 1) :
    k0_pay222 (F := Ideal) v (ix3 z n d) = vaV P n1 y := by
  subst hn1
  rw [vaV_at h n d h0 h1 h2]
  refine Eq.trans ?_ ((hv n d).trans (congrFun (congrFun (before_succ (fun b => P.zva b h) (chunk s cc)) n) d).symm)
  pointwise [k0_pay222]

/-- When the last `k` stores cover an index, the earlier ones are not seen there. -/
theorem canon_front {S : Shape} {e : EltTy} (L : List (View.Piece (Elt Ideal) S e)) (y : S.Idx) :
    ∀ k : ℕ, (∃ p ∈ L.take k, y ∈ p.1.set) → View.canon L y = View.canon (L.take k) y := by
  induction L with
  | nil => intro k h; simp at h
  | cons p L ih =>
    intro k h
    cases k with
    | zero => simp at h
    | succ k =>
      rw [List.take_succ_cons] at h ⊢
      by_cases hm : y ∈ p.1.set
      · obtain ⟨x, rfl⟩ := p.1.exists_idx_of_mem hm
        rw [show p.1.idx x = p.1.emb x from rfl, View.canon_cons_emb, View.canon_cons_emb]
      · rw [View.canon_cons_of_not_mem _ _ hm, View.canon_cons_of_not_mem _ _ hm]
        refine ih k ?_
        obtain ⟨q, hq, hy⟩ := h
        rcases List.mem_cons.mp hq with rfl | hq
        · exact absurd hy hm
        · exact ⟨q, hq, hy⟩

/-- The bit that lets the first chunk of a point see its predecessor. -/
theorem seen_word {n : ℕ} (h : n = s.val + 1) : IntOp.cmpi .sgt (BitVec.ofNat 32 n) 1#32 = 1#1 ↔ ¬2 * s.val = 0 := by
  subst h
  revert s
  decide +kernel

/-! ## The projections and the result of a block -/

/-- Row `r` of block `s`. -/
abbrev bRow (s : Fin 32) (r : Fin 256) : Fin 8192 := ⟨s.val * 256 + r.val, by omega⟩

/-- Block `s` of the input. -/
def xV (P : Par) (s : Fin 32) : Vec Ideal S256x2048 .f32 := fun y => P.x (bRow s (y 0)) (y 1)

/-- The projections of block `s` kept in single precision. -/
def zfV (P : Par) (s : Fin 32) : Vec Ideal S256x4352 .f32 := fun y =>
  P.z (bRow s (y 0)) ⟨if (y 1).val < 2048 then (y 1).val else (y 1).val + 1024, by have h : (y 1).val < 4352 := (y 1).2; split <;> omega⟩

/-- The projections of block `s` kept in half precision. -/
def zvV (P : Par) (s : Fin 32) : Vec Ideal S256x1280 .bf16 := fun y =>
  P.z (bRow s (y 0)) ⟨if (y 1).val < 1024 then (y 1).val + 2048 else (y 1).val + 4352, by have h : (y 1).val < 1280 := (y 1).2; split <;> omega⟩

/-- Block `s` of the result. -/
def outV (P : Par) (s : Fin 32) : Vec Ideal S256x2048 .f32 := fun y => P.out (bRow s (y 0)) (y 1)

/-- What a point finds in its windows on the input, the gains and the weights. -/
structure Fresh (P : Par) (s : Fin 32) (x2 : Vec Ideal S256x2048 .f32) (x3 : Vec Ideal S1x2048 .f32) (x4 : Vec Ideal S2048x5632 .bf16) : Prop where
  x : ∀ (r : Fin 256) (k : Fin 2048), x2 (ix2 r k) = P.x (bRow s r) k
  gain : ∀ (k : Fin 2048), x3 (ix2 0 k) = P.gain k
  w : ∀ (k : Fin 2048) (j : Fin 5632), x4 (ix2 k j) = P.w k j

theorem held (P : Par) (s : Fin 32) : Held P s (zfV P s) (zvV P s) where
  zf r j a b ha hb := by
    show P.z _ _ = P.z a b
    congr 1
    · exact Fin.ext (by simp only [ha]; rfl)
    · refine Fin.ext (show (if j.val < 2048 then j.val else j.val + 1024) = b.val from ?_)
      split <;> omega
  zv r j a b ha hb := by
    show P.z _ _ = P.z a b
    congr 1
    · exact Fin.ext (by simp only [ha]; rfl)
    · refine Fin.ext (show (if j.val < 1024 then j.val + 2048 else j.val + 4352) = b.val from ?_)
      split <;> omega

/-- A tile of the projections. -/
theorem proj_tile {x2 : Vec Ideal S256x2048 .f32} {x3 : Vec Ideal S1x2048 .f32} {x4 : Vec Ideal S2048x5632 .bf16} (hF : Fresh P s x2 x3 x4)
    {W : FVec Ideal S2048x256 .bf16} {r j : Fin 256} (b : Fin 5632) (hW : ∀ k, W (ix2 k j) = x4 (ix2 k b)) :
    k0_pay40 (F := Ideal) (k0_pay39 x2 x3) W (ix2 r j) = P.z (bRow s r) b := by
  pointwise [k0_pay40, k0_pay39, hF.x, hF.gain, hW, hF.w]
  rfl

theorem zf_piece {x2 : Vec Ideal S256x2048 .f32} {x3 : Vec Ideal S1x2048 .f32} {x4 : Vec Ideal S2048x5632 .bf16} (hF : Fresh P s x2 x3 x4)
    {W : FVec Ideal S2048x256 .bf16} {r j : Fin 256} {y : S256x4352.Idx} (b : Fin 5632) (h0 : (y 0).val = r.val)
    (hb : (y 1).val < 2048 ∧ b.val = (y 1).val ∨ 2048 ≤ (y 1).val ∧ b.val = (y 1).val + 1024) (hW : ∀ k, W (ix2 k j) = x4 (ix2 k b)) :
    k0_pay40 (F := Ideal) (k0_pay39 x2 x3) W (ix2 r j) = zfV P s y := by
  rw [proj_tile hF b hW, zfV, show y 0 = r from Fin.ext h0]
  congr 1
  refine Fin.ext (show b.val = (if (y 1).val < 2048 then (y 1).val else (y 1).val + 1024) from ?_)
  split <;> omega

theorem zv_piece {x2 : Vec Ideal S256x2048 .f32} {x3 : Vec Ideal S1x2048 .f32} {x4 : Vec Ideal S2048x5632 .bf16} (hF : Fresh P s x2 x3 x4)
    {W : FVec Ideal S2048x256 .bf16} {r j : Fin 256} {y : S256x1280.Idx} (b : Fin 5632) (h0 : (y 0).val = r.val)
    (hb : (y 1).val < 1024 ∧ b.val = (y 1).val + 2048 ∨ 1024 ≤ (y 1).val ∧ b.val = (y 1).val + 4352) (hW : ∀ k, W (ix2 k j) = x4 (ix2 k b)) :
    k0_pay144 (F := Ideal) (k0_pay39 x2 x3) W (ix2 r j) = zvV P s y := by
  refine Eq.trans (b := k0_pay40 (F := Ideal) (k0_pay39 x2 x3) W (ix2 r j)) ?_ ?_
  · pointwise [k0_pay40, k0_pay144]
  rw [proj_tile hF b hW, zvV, show y 0 = r from Fin.ext h0]
  congr 1
  refine Fin.ext (show b.val = (if (y 1).val < 1024 then (y 1).val + 2048 else (y 1).val + 4352) from ?_)
  split <;> omega

/-- The result of a block, from its input and what the heads give on it. -/
theorem out_tile {Y : FVec Ideal S256x2048 .bf16} {W : Vec Ideal S2048x2048 .bf16} (hY : ∀ r k, Y (ix2 r k) = mixV P s (ix2 r k))
    (hW : ∀ k j : Fin 2048, W (ix2 k j) = P.wout k j) : k0_pay3 (F := Ideal) (xV P s) Y W = outV P s := by
  funext y
  idx_vars y
  pointwise [k0_pay3, hY, hW]
  show _ = P.x (bRow s _) _ + ∑ k, P.mix _ _ k * P.wout k _
  congr 1
  refine Finset.sum_congr rfl fun k _ => ?_
  congr 1
  show P.mix _ _ _ = P.mix _ _ _
  congr 1
  · exact Fin.ext (show 2 * s.val + y0.val / 128 = (s.val * 256 + y0.val) / 128 by omega)
  · exact Fin.ext (show y0.val % 128 = (s.val * 256 + y0.val) % 128 by omega)

end Cert.KernelIdeal.Tile

end
-- ==== Proof.CaseA.lean ====
module
public import proofs.«01_k».proof.Proof.Gen.KernelIdeal.Value
public import Idealize.ShloMosaic.Lib.Pipeline.ValueKit
public import Idealize.ShloMosaic.Lib.Pointwise
public import proofs.«01_k».proof.Proof.Step
@[expose] public section
noncomputable section
namespace Cert.KernelIdeal.Tile
set_option maxRecDepth 16384
set_option maxHeartbeats 2000000
set_option pp.proofs false
open Idealize Idealize.ShloMosaic Cert.Mix Cert.KernelIdeal.Gen
variable {P : Par} {s : Fin 32}
variable (c : Dev nD) (i : grid0.Coords) (arg1 : Memref sig .tc .smem S8 .f32) (harg1 : arg1.IsWhole) (arg2 : Memref sig .tc .smem S2x8 .f32) (harg2 :
  arg2.IsWhole) (arg3 : Memref sig .tc .vmem S256x2048 .f32) (harg3 : arg3.IsWhole) (arg4 : Memref sig .tc .vmem S1x2048 .f32) (harg4 : arg4.IsWhole)
  (arg5 : Memref sig .tc .vmem S2048x5632 .bf16) (harg5 : arg5.IsWhole) (arg6 : Memref sig .tc .vmem S256x128 .f32) (harg6 : arg6.IsWhole) (arg7 :
  Memref sig .tc .vmem S256x128 .f32) (harg7 : arg7.IsWhole) (arg8 : Memref sig .tc .vmem S256x128 .f32) (harg8 : arg8.IsWhole) (arg9 : Memref sig .tc
  .vmem S256x128 .f32) (harg9 : arg9.IsWhole) (arg10 : Memref sig .tc .vmem S1x4x128 .f32) (harg10 : arg10.IsWhole) (arg11 : Memref sig .tc .vmem S8x128
  .f32) (harg11 : arg11.IsWhole) (arg12 : Memref sig .tc .vmem S1x128 .f32) (harg12 : arg12.IsWhole) (arg13 : Memref sig .tc .vmem S1x128 .f32) (harg13
  : arg13.IsWhole) (arg14 : Memref sig .tc .vmem S2048x2048 .bf16) (harg14 : arg14.IsWhole) (arg15 : Memref sig .tc .vmem S256x2048 .f32) (harg15 :
  arg15.IsWhole) (arg16 : Memref sig .tc .vmem S256x4352 .f32) (harg16 : arg16.IsWhole) (arg17 : Memref sig .tc .vmem S256x1280 .bf16) (harg17 :
  arg17.IsWhole) (arg18 : Memref sig .tc .vmem S256x4352 .f32) (harg18 : arg18.IsWhole) (arg19 : Memref sig .tc .vmem S256x1280 .bf16) (harg19 :
  arg19.IsWhole) (arg20 : Memref sig .tc .vmem S256x2048 .bf16) (harg20 : arg20.IsWhole) (arg21 : Memref sig .tc .vmem S256x2048 .f32) (harg21 :
  arg21.IsWhole) (arg22 : Memref sig .tc .vmem S256x2048 .bf16) (harg22 : arg22.IsWhole) (arg23 : Memref sig .tc .vmem S8x128x128 .f32) (harg23 :
  arg23.IsWhole) (arg24 : Memref sig .tc .vmem S2x128x128 .bf16) (harg24 : arg24.IsWhole) (arg25 : Memref sig .tc .vmem S2x128x128 .bf16) (harg25 :
  arg25.IsWhole) (hc0 : cond0_0 i) (hc1 : ¬cond0_1 i) (hc2 : ¬cond0_2 i) (x0 : Vec Ideal S8 .f32) (x1 : Vec Ideal S2x8 .f32) (x2 : Vec Ideal S256x2048
  .f32) (x3 : Vec Ideal S1x2048 .f32) (x4 : Vec Ideal S2048x5632 .bf16) (x5 : Vec Ideal S256x128 .f32) (x6 : Vec Ideal S256x128 .f32) (x7 : Vec Ideal
  S256x128 .f32) (x8 : Vec Ideal S256x128 .f32) (x9 : Vec Ideal S1x4x128 .f32) (x10 : Vec Ideal S8x128 .f32) (x11 : Vec Ideal S1x128 .f32) (x12 : Vec
  Ideal S1x128 .f32) (x13 : Vec Ideal S2048x2048 .bf16)

theorem soutA_2 (hF : Fresh P s x2 x3 x4) : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 = zfV P s := by
  frame_out
  funext y
  canon_tiles x h <;> idx_vars x <;> apply zf_piece (P := P) (s := s) hF ⟨if (y 1).val < 2048 then (y 1).val else (y 1).val + 1024, by split <;> omega⟩
  all_goals first
    | assumption
    | (simp only; split <;> omega)
    | (intro k; pointwise; congr 2; refine Fin.ext ?_; simp only; split <;> omega)

theorem soutA_3 (hF : Fresh P s x2 x3 x4) : sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 = zvV P s := by
  frame_out
  funext y
  canon_tiles x h <;> idx_vars x <;> apply zv_piece (P := P) (s := s) hF ⟨if (y 1).val < 1024 then (y 1).val + 2048 else (y 1).val + 4352, by split <;> omega⟩
  all_goals first
    | assumption
    | (simp only; split <;> omega)
    | (intro k; pointwise; congr 2; refine Fin.ext ?_; simp only; split <;> omega)

theorem soutA_5 (hF : Fresh P s x2 x3 x4) : sout0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 = xV P s := by
  frame_out
  funext y
  idx_vars y
  pointwise [k0_pay2]
  exact hF.x _ _

theorem soutA_7 : sout0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 = stV P 0 := by
  frame_out
  funext y
  idx_vars y
  pointwise [k0_pay10, stV]
  rfl

theorem soutA_8 : sout0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 = kaV P 0 := by
  frame_out
  funext y
  idx_vars y
  pointwise [k0_pay11, kaV, before]

theorem soutA_9 : sout0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 = vaV P 0 := by
  frame_out
  funext y
  idx_vars y
  pointwise [k0_pay12, vaV, before]

end Cert.KernelIdeal.Tile
-- ==== Proof.Mid.lean ====
module
public import proofs.«01_k».proof.Proof.Gen.KernelIdeal.Value
public import Idealize.ShloMosaic.Lib.Pipeline.ValueKit
public import Idealize.ShloMosaic.Lib.Pointwise
public import proofs.«01_k».proof.Proof.Step
@[expose] public section
noncomputable section
namespace Cert.KernelIdeal.Tile
set_option maxRecDepth 16384
set_option maxHeartbeats 2000000
set_option pp.proofs false
open Idealize Idealize.ShloMosaic Cert.Mix Cert.KernelIdeal.Gen
variable {P : Par} {s : Fin 32}
variable (c : Dev nD) (i : grid0.Coords) (arg1 : Memref sig .tc .smem S8 .f32) (harg1 : arg1.IsWhole) (arg2 : Memref sig .tc .smem S2x8 .f32) (harg2 :
  arg2.IsWhole) (arg3 : Memref sig .tc .vmem S256x2048 .f32) (harg3 : arg3.IsWhole) (arg4 : Memref sig .tc .vmem S1x2048 .f32) (harg4 : arg4.IsWhole)
  (arg5 : Memref sig .tc .vmem S2048x5632 .bf16) (harg5 : arg5.IsWhole) (arg6 : Memref sig .tc .vmem S256x128 .f32) (harg6 : arg6.IsWhole) (arg7 :
  Memref sig .tc .vmem S256x128 .f32) (harg7 : arg7.IsWhole) (arg8 : Memref sig .tc .vmem S256x128 .f32) (harg8 : arg8.IsWhole) (arg9 : Memref sig .tc
  .vmem S256x128 .f32) (harg9 : arg9.IsWhole) (arg10 : Memref sig .tc .vmem S1x4x128 .f32) (harg10 : arg10.IsWhole) (arg11 : Memref sig .tc .vmem S8x128
  .f32) (harg11 : arg11.IsWhole) (arg12 : Memref sig .tc .vmem S1x128 .f32) (harg12 : arg12.IsWhole) (arg13 : Memref sig .tc .vmem S1x128 .f32) (harg13
  : arg13.IsWhole) (arg14 : Memref sig .tc .vmem S2048x2048 .bf16) (harg14 : arg14.IsWhole) (arg15 : Memref sig .tc .vmem S256x2048 .f32) (harg15 :
  arg15.IsWhole) (arg16 : Memref sig .tc .vmem S256x4352 .f32) (harg16 : arg16.IsWhole) (arg17 : Memref sig .tc .vmem S256x1280 .bf16) (harg17 :
  arg17.IsWhole) (arg18 : Memref sig .tc .vmem S256x4352 .f32) (harg18 : arg18.IsWhole) (arg19 : Memref sig .tc .vmem S256x1280 .bf16) (harg19 :
  arg19.IsWhole) (arg20 : Memref sig .tc .vmem S256x2048 .bf16) (harg20 : arg20.IsWhole) (arg21 : Memref sig .tc .vmem S256x2048 .f32) (harg21 :
  arg21.IsWhole) (arg22 : Memref sig .tc .vmem S256x2048 .bf16) (harg22 : arg22.IsWhole) (arg23 : Memref sig .tc .vmem S8x128x128 .f32) (harg23 :
  arg23.IsWhole) (arg24 : Memref sig .tc .vmem S2x128x128 .bf16) (harg24 : arg24.IsWhole) (arg25 : Memref sig .tc .vmem S2x128x128 .bf16) (harg25 :
  arg25.IsWhole) (hc0 : ¬cond0_0 i) (hc1 : cond0_1 i) (hc2 : ¬cond0_2 i) (x0 : Vec Ideal S8 .f32) (x1 : Vec Ideal S2x8 .f32) (x2 : Vec Ideal S256x2048
  .f32) (x3 : Vec Ideal S1x2048 .f32) (x4 : Vec Ideal S2048x5632 .bf16) (x5 : Vec Ideal S256x128 .f32) (x6 : Vec Ideal S256x128 .f32) (x7 : Vec Ideal
  S256x128 .f32) (x8 : Vec Ideal S256x128 .f32) (x9 : Vec Ideal S1x4x128 .f32) (x10 : Vec Ideal S8x128 .f32) (x11 : Vec Ideal S1x128 .f32) (x12 : Vec
  Ideal S1x128 .f32) (x13 : Vec Ideal S2048x2048 .bf16) (xs2 : Vec Ideal S256x4352 .f32) (xs3 : Vec Ideal S256x1280 .bf16) (xs5 : Vec Ideal S256x2048
  .f32) (xs7 : Vec Ideal S8x128x128 .f32) (xs8 : Vec Ideal S2x128x128 .bf16) (xs9 : Vec Ideal S2x128x128 .bf16)

theorem mid7 (hG : Given P s x0 x1 x5 x6 x7 x8 x9 x10 x11 x12 x13) (hZ : Held P s xs2 xs3) : View.canon (Val := Elt Ideal) (kernelRun0_B.sl.HS7_8 c arg2 harg2 arg6 harg6 arg7 harg7 arg10 harg10 arg11 harg11 arg18 harg18 arg19 harg19 arg23 harg23 x1 x5 x6 x9 x10 xs2 xs3 (stV P (2 * s.val))) = stV P (2 * s.val + 1) := by
  frame_out
  funext y
  canon_tiles x h <;> idx_vars x <;> apply state_piece (P := P) (s := s) 0 (turns hG 0 (fun n d => ?_) (fun n d => ?_))
  any_goals first
    | (pointwise; first | exact hG.log _ | exact hG.gamma _ | exact hG.cosR _ _ | exact hG.sinR _ _)
    | (intro n d; pointwise; first
        | exact hZ.zf _ _ _ _ (by simp only; omega) (by simp only; omega)
        | exact hZ.zv _ _ _ _ (by simp only; omega) (by simp only; omega)
        | rfl)
    | rfl
    | assumption
    | (simp only [Fin.isValue]; omega)

theorem mid8 (hG : Given P s x0 x1 x5 x6 x7 x8 x9 x10 x11 x12 x13) (hZ : Held P s xs2 xs3) : View.canon (Val := Elt Ideal) (kernelRun0_B.sl.HS8_2 c arg8 harg8 arg9 harg9 arg10 harg10 arg11 harg11 arg13 harg13 arg18 harg18 x7 x8 x9 x10 x12 xs2) = kaV P (2 * s.val + 1) := by
  frame_out
  funext y
  canon_tiles x h <;> idx_vars x <;> apply key_piece (P := P) (s := s) 0 (h := y 0) (turnsA hG 0 (fun n d => ?_) (fun n d => ?_))
  any_goals first
    | (pointwise; first | exact hG.cosA _ _ | exact hG.sinA _ _)
    | (intro n d; pointwise; exact hZ.zf _ _ _ _ (by simp only; omega) (by simp only; omega))
    | (intro d; pointwise; exact hG.kg _)
    | rfl
    | assumption
theorem mid9 (hG : Given P s x0 x1 x5 x6 x7 x8 x9 x10 x11 x12 x13) (hZ : Held P s xs2 xs3) : View.canon (Val := Elt Ideal) (kernelRun0_B.sl.HS9_2 c arg19 harg19 xs3) = vaV P (2 * s.val + 1) := by
  frame_out
  funext y
  canon_tiles x h <;> idx_vars x <;> apply val_piece (P := P) (s := s) 0 (h := y 0)
  any_goals first
    | (intro n d; pointwise; exact hZ.zv _ _ _ _ (by simp only; omega) (by simp only; omega))
    | rfl
    | assumption

end Cert.KernelIdeal.Tile
-- ==== Proof.MixB.lean ====
module
public import proofs.«01_k».proof.Proof.Gen.KernelIdeal.Value
public import Idealize.ShloMosaic.Lib.Pipeline.ValueKit
public import Idealize.ShloMosaic.Lib.Pointwise
public import proofs.«01_k».proof.Proof.Mid
@[expose] public section
noncomputable section
namespace Cert.KernelIdeal.Tile
set_option maxRecDepth 16384
set_option maxHeartbeats 2000000
set_option pp.proofs false
open Idealize Idealize.ShloMosaic Cert.Mix Cert.KernelIdeal.Gen
variable {P : Par} {s : Fin 32}
variable (c : Dev nD) (i : grid0.Coords) (arg1 : Memref sig .tc .smem S8 .f32) (harg1 : arg1.IsWhole) (arg2 : Memref sig .tc .smem S2x8 .f32) (harg2 :
  arg2.IsWhole) (arg3 : Memref sig .tc .vmem S256x2048 .f32) (harg3 : arg3.IsWhole) (arg4 : Memref sig .tc .vmem S1x2048 .f32) (harg4 : arg4.IsWhole)
  (arg5 : Memref sig .tc .vmem S2048x5632 .bf16) (harg5 : arg5.IsWhole) (arg6 : Memref sig .tc .vmem S256x128 .f32) (harg6 : arg6.IsWhole) (arg7 :
  Memref sig .tc .vmem S256x128 .f32) (harg7 : arg7.IsWhole) (arg8 : Memref sig .tc .vmem S256x128 .f32) (harg8 : arg8.IsWhole) (arg9 : Memref sig .tc
  .vmem S256x128 .f32) (harg9 : arg9.IsWhole) (arg10 : Memref sig .tc .vmem S1x4x128 .f32) (harg10 : arg10.IsWhole) (arg11 : Memref sig .tc .vmem S8x128
  .f32) (harg11 : arg11.IsWhole) (arg12 : Memref sig .tc .vmem S1x128 .f32) (harg12 : arg12.IsWhole) (arg13 : Memref sig .tc .vmem S1x128 .f32) (harg13
  : arg13.IsWhole) (arg14 : Memref sig .tc .vmem S2048x2048 .bf16) (harg14 : arg14.IsWhole) (arg15 : Memref sig .tc .vmem S256x2048 .f32) (harg15 :
  arg15.IsWhole) (arg16 : Memref sig .tc .vmem S256x4352 .f32) (harg16 : arg16.IsWhole) (arg17 : Memref sig .tc .vmem S256x1280 .bf16) (harg17 :
  arg17.IsWhole) (arg18 : Memref sig .tc .vmem S256x4352 .f32) (harg18 : arg18.IsWhole) (arg19 : Memref sig .tc .vmem S256x1280 .bf16) (harg19 :
  arg19.IsWhole) (arg20 : Memref sig .tc .vmem S256x2048 .bf16) (harg20 : arg20.IsWhole) (arg21 : Memref sig .tc .vmem S256x2048 .f32) (harg21 :
  arg21.IsWhole) (arg22 : Memref sig .tc .vmem S256x2048 .bf16) (harg22 : arg22.IsWhole) (arg23 : Memref sig .tc .vmem S8x128x128 .f32) (harg23 :
  arg23.IsWhole) (arg24 : Memref sig .tc .vmem S2x128x128 .bf16) (harg24 : arg24.IsWhole) (arg25 : Memref sig .tc .vmem S2x128x128 .bf16) (harg25 :
  arg25.IsWhole) (hc0 : ¬cond0_0 i) (hc1 : cond0_1 i) (hc2 : ¬cond0_2 i) (x0 : Vec Ideal S8 .f32) (x1 : Vec Ideal S2x8 .f32) (x2 : Vec Ideal S256x2048
  .f32) (x3 : Vec Ideal S1x2048 .f32) (x4 : Vec Ideal S2048x5632 .bf16) (x5 : Vec Ideal S256x128 .f32) (x6 : Vec Ideal S256x128 .f32) (x7 : Vec Ideal
  S256x128 .f32) (x8 : Vec Ideal S256x128 .f32) (x9 : Vec Ideal S1x4x128 .f32) (x10 : Vec Ideal S8x128 .f32) (x11 : Vec Ideal S1x128 .f32) (x12 : Vec
  Ideal S1x128 .f32) (x13 : Vec Ideal S2048x2048 .bf16) (xs2 : Vec Ideal S256x4352 .f32) (xs3 : Vec Ideal S256x1280 .bf16) (xs5 : Vec Ideal S256x2048
  .f32) (xs7 : Vec Ideal S8x128x128 .f32) (xs8 : Vec Ideal S2x128x128 .bf16) (xs9 : Vec Ideal S2x128x128 .bf16)

theorem mixB (hG : Given P s x0 x1 x5 x6 x7 x8 x9 x10 x11 x12 x13) (hZ : Held P s xs2 xs3) (hi : (i 0).val = s.val + 1) : View.canon (Val := Elt Ideal) (kernelRun0_B.sl.HS6_32 c i arg1 harg1 arg2 harg2 arg6 harg6 arg7 harg7 arg8 harg8 arg9 harg9 arg10 harg10 arg11 harg11 arg12 harg12 arg13 harg13 arg18 harg18 arg19 harg19 arg23 harg23 arg24 harg24 arg25 harg25 x0 x1 x5 x6 x7 x8 x9 x10 x11 x12 xs2 xs3 (stV P (2 * s.val)) (kaV P (2 * s.val)) (vaV P (2 * s.val))) = mixV P s := by
  have m7 := mid7 c arg2 harg2 arg6 harg6 arg7 harg7 arg10 harg10 arg11 harg11 arg18 harg18 arg19 harg19 arg23 harg23 x0 x1 x5 x6 x7 x8 x9 x10 x11 x12 x13 xs2 xs3 hG hZ
  frame_out at m7
  have m8 := mid8 c arg8 harg8 arg9 harg9 arg10 harg10 arg11 harg11 arg13 harg13 arg18 harg18 x0 x1 x5 x6 x7 x8 x9 x10 x11 x12 x13 xs2 xs3 hG hZ
  frame_out at m8
  have m9 := mid9 c arg19 harg19 x0 x1 x5 x6 x7 x8 x9 x10 x11 x12 x13 xs2 xs3 hG hZ
  frame_out at m9
  frame_out
  simp only [View.readCov_eq_canon', m7, m8, m9]
  clear m7 m8 m9
  funext y
  canon_tiles x h <;> idx_vars x
  case' piece0 => apply att_piece (P := P) (s := s) 1 (h := 1) (turnsA hG 1 (fun n d => ?_) (fun n d => ?_)) 3
  case' piece1 => apply att_piece (P := P) (s := s) 1 (h := 1) (turnsA hG 1 (fun n d => ?_) (fun n d => ?_)) 2
  case' piece2 => apply att_piece (P := P) (s := s) 1 (h := 1) (turnsA hG 1 (fun n d => ?_) (fun n d => ?_)) 1
  case' piece3 => apply att_piece (P := P) (s := s) 1 (h := 1) (turnsA hG 1 (fun n d => ?_) (fun n d => ?_)) 0
  case' piece4 => apply att_piece (P := P) (s := s) 1 (h := 0) (turnsA hG 1 (fun n d => ?_) (fun n d => ?_)) 3
  case' piece5 => apply att_piece (P := P) (s := s) 1 (h := 0) (turnsA hG 1 (fun n d => ?_) (fun n d => ?_)) 2
  case' piece6 => apply att_piece (P := P) (s := s) 1 (h := 0) (turnsA hG 1 (fun n d => ?_) (fun n d => ?_)) 1
  case' piece7 => apply att_piece (P := P) (s := s) 1 (h := 0) (turnsA hG 1 (fun n d => ?_) (fun n d => ?_)) 0
  case' piece8 | piece9 | piece10 | piece11 | piece12 | piece13 | piece14 | piece15 => apply ret_piece (P := P) (s := s) 1 (turns hG 1 (fun n d => ?_) (fun n d => ?_))
  case' piece16 => apply att_piece (P := P) (s := s) 0 (h := 1) (turnsA hG 0 (fun n d => ?_) (fun n d => ?_)) 3
  case' piece17 => apply att_piece (P := P) (s := s) 0 (h := 1) (turnsA hG 0 (fun n d => ?_) (fun n d => ?_)) 2
  case' piece18 => apply att_piece (P := P) (s := s) 0 (h := 1) (turnsA hG 0 (fun n d => ?_) (fun n d => ?_)) 1
  case' piece19 => apply att_piece (P := P) (s := s) 0 (h := 1) (turnsA hG 0 (fun n d => ?_) (fun n d => ?_)) 0
  case' piece20 => apply att_piece (P := P) (s := s) 0 (h := 0) (turnsA hG 0 (fun n d => ?_) (fun n d => ?_)) 3
  case' piece21 => apply att_piece (P := P) (s := s) 0 (h := 0) (turnsA hG 0 (fun n d => ?_) (fun n d => ?_)) 2
  case' piece22 => apply att_piece (P := P) (s := s) 0 (h := 0) (turnsA hG 0 (fun n d => ?_) (fun n d => ?_)) 1
  case' piece23 => apply att_piece (P := P) (s := s) 0 (h := 0) (turnsA hG 0 (fun n d => ?_) (fun n d => ?_)) 0
  case' piece24 | piece25 | piece26 | piece27 | piece28 | piece29 | piece30 | piece31 => apply ret_piece (P := P) (s := s) 0 (turns hG 0 (fun n d => ?_) (fun n d => ?_))
  any_goals first
    | (pointwise; first | exact hG.log _ | exact hG.cosR _ _ | exact hG.sinR _ _ | exact hG.cosA _ _ | exact hG.sinA _ _ | exact hG.sink _)
    | (intro n d; pointwise; first
        | exact hZ.zf _ _ _ _ (by simp only; omega) (by simp only; omega)
        | exact hZ.zv _ _ _ _ (by simp only; omega) (by simp only; omega)
        | rfl)
    | (intro d; pointwise; first | exact hG.qg _ | exact hG.kg _)
    | rfl
    | assumption
    | (simp only [Fin.isValue]; omega)
    | exact seen_word hi
    | exact iff_of_true rfl (by omega)

theorem soutB_7 (hG : Given P s x0 x1 x5 x6 x7 x8 x9 x10 x11 x12 x13) (hZ : Held P s xs2 xs3) : sout0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 xs2 xs3 xs5 (stV P (2 * s.val)) (kaV P (2 * s.val)) (vaV P (2 * s.val)) = stV P (2 * s.val + 2) := by
  have m7 := mid7 c arg2 harg2 arg6 harg6 arg7 harg7 arg10 harg10 arg11 harg11 arg18 harg18 arg19 harg19 arg23 harg23 x0 x1 x5 x6 x7 x8 x9 x10 x11 x12 x13 xs2 xs3 hG hZ
  frame_out at m7
  frame_out
  simp only [View.readCov_eq_canon', m7]
  clear m7
  funext y
  refine (canon_front _ y 8 (View.cover_of_tiled_head _ _ _ (by rfl) y)).trans ?_
  simp only [List.take_succ_cons, List.take_zero]
  canon_tiles x h <;> idx_vars x <;> apply state_piece (P := P) (s := s) 1 (turns hG 1 (fun n d => ?_) (fun n d => ?_))
  any_goals first
    | (pointwise; first | exact hG.log _ | exact hG.gamma _ | exact hG.cosR _ _ | exact hG.sinR _ _)
    | (intro n d; pointwise; first
        | exact hZ.zf _ _ _ _ (by simp only; omega) (by simp only; omega)
        | exact hZ.zv _ _ _ _ (by simp only; omega) (by simp only; omega)
        | rfl)
    | rfl
    | assumption
    | (simp only [Fin.isValue]; omega)

theorem soutB_8 (hG : Given P s x0 x1 x5 x6 x7 x8 x9 x10 x11 x12 x13) (hZ : Held P s xs2 xs3) : sout0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 xs2 xs3 xs5 (stV P (2 * s.val)) (kaV P (2 * s.val)) (vaV P (2 * s.val)) = kaV P (2 * s.val + 2) := by
  frame_out
  funext y
  refine (canon_front _ y 2 (View.cover_of_tiled_head _ _ _ (by rfl) y)).trans ?_
  simp only [List.take_succ_cons, List.take_zero]
  canon_tiles x h <;> idx_vars x <;> apply key_piece (P := P) (s := s) 1 (h := y 0) (turnsA hG 1 (fun n d => ?_) (fun n d => ?_))
  any_goals first
    | (pointwise; first | exact hG.cosA _ _ | exact hG.sinA _ _)
    | (intro n d; pointwise; exact hZ.zf _ _ _ _ (by simp only; omega) (by simp only; omega))
    | (intro d; pointwise; exact hG.kg _)
    | rfl
    | assumption

theorem soutB_9 (hG : Given P s x0 x1 x5 x6 x7 x8 x9 x10 x11 x12 x13) (hZ : Held P s xs2 xs3) : sout0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 xs2 xs3 xs5 (stV P (2 * s.val)) (kaV P (2 * s.val)) (vaV P (2 * s.val)) = vaV P (2 * s.val + 2) := by
  frame_out
  funext y
  refine (canon_front _ y 2 (View.cover_of_tiled_head _ _ _ (by rfl) y)).trans ?_
  simp only [List.take_succ_cons, List.take_zero]
  canon_tiles x h <;> idx_vars x <;> apply val_piece (P := P) (s := s) 1 (h := y 0)
  any_goals first
    | (intro n d; pointwise; exact hZ.zv _ _ _ _ (by simp only; omega) (by simp only; omega))
    | rfl
    | assumption

end Cert.KernelIdeal.Tile
-- ==== Proof.CaseB.lean ====
module
public import proofs.«01_k».proof.Proof.Gen.KernelIdeal.Value
public import Idealize.ShloMosaic.Lib.Pipeline.ValueKit
public import Idealize.ShloMosaic.Lib.Pointwise
public import proofs.«01_k».proof.Proof.MixB
@[expose] public section
noncomputable section
namespace Cert.KernelIdeal.Tile
set_option maxRecDepth 16384
set_option maxHeartbeats 2000000
set_option pp.proofs false
open Idealize Idealize.ShloMosaic Cert.Mix Cert.KernelIdeal.Gen
variable {P : Par} {s : Fin 32}
variable (c : Dev nD) (i : grid0.Coords) (arg1 : Memref sig .tc .smem S8 .f32) (harg1 : arg1.IsWhole) (arg2 : Memref sig .tc .smem S2x8 .f32) (harg2 :
  arg2.IsWhole) (arg3 : Memref sig .tc .vmem S256x2048 .f32) (harg3 : arg3.IsWhole) (arg4 : Memref sig .tc .vmem S1x2048 .f32) (harg4 : arg4.IsWhole)
  (arg5 : Memref sig .tc .vmem S2048x5632 .bf16) (harg5 : arg5.IsWhole) (arg6 : Memref sig .tc .vmem S256x128 .f32) (harg6 : arg6.IsWhole) (arg7 :
  Memref sig .tc .vmem S256x128 .f32) (harg7 : arg7.IsWhole) (arg8 : Memref sig .tc .vmem S256x128 .f32) (harg8 : arg8.IsWhole) (arg9 : Memref sig .tc
  .vmem S256x128 .f32) (harg9 : arg9.IsWhole) (arg10 : Memref sig .tc .vmem S1x4x128 .f32) (harg10 : arg10.IsWhole) (arg11 : Memref sig .tc .vmem S8x128
  .f32) (harg11 : arg11.IsWhole) (arg12 : Memref sig .tc .vmem S1x128 .f32) (harg12 : arg12.IsWhole) (arg13 : Memref sig .tc .vmem S1x128 .f32) (harg13
  : arg13.IsWhole) (arg14 : Memref sig .tc .vmem S2048x2048 .bf16) (harg14 : arg14.IsWhole) (arg15 : Memref sig .tc .vmem S256x2048 .f32) (harg15 :
  arg15.IsWhole) (arg16 : Memref sig .tc .vmem S256x4352 .f32) (harg16 : arg16.IsWhole) (arg17 : Memref sig .tc .vmem S256x1280 .bf16) (harg17 :
  arg17.IsWhole) (arg18 : Memref sig .tc .vmem S256x4352 .f32) (harg18 : arg18.IsWhole) (arg19 : Memref sig .tc .vmem S256x1280 .bf16) (harg19 :
  arg19.IsWhole) (arg20 : Memref sig .tc .vmem S256x2048 .bf16) (harg20 : arg20.IsWhole) (arg21 : Memref sig .tc .vmem S256x2048 .f32) (harg21 :
  arg21.IsWhole) (arg22 : Memref sig .tc .vmem S256x2048 .bf16) (harg22 : arg22.IsWhole) (arg23 : Memref sig .tc .vmem S8x128x128 .f32) (harg23 :
  arg23.IsWhole) (arg24 : Memref sig .tc .vmem S2x128x128 .bf16) (harg24 : arg24.IsWhole) (arg25 : Memref sig .tc .vmem S2x128x128 .bf16) (harg25 :
  arg25.IsWhole) (hc0 : ¬cond0_0 i) (hc1 : cond0_1 i) (hc2 : ¬cond0_2 i) (x0 : Vec Ideal S8 .f32) (x1 : Vec Ideal S2x8 .f32) (x2 : Vec Ideal S256x2048
  .f32) (x3 : Vec Ideal S1x2048 .f32) (x4 : Vec Ideal S2048x5632 .bf16) (x5 : Vec Ideal S256x128 .f32) (x6 : Vec Ideal S256x128 .f32) (x7 : Vec Ideal
  S256x128 .f32) (x8 : Vec Ideal S256x128 .f32) (x9 : Vec Ideal S1x4x128 .f32) (x10 : Vec Ideal S8x128 .f32) (x11 : Vec Ideal S1x128 .f32) (x12 : Vec
  Ideal S1x128 .f32) (x13 : Vec Ideal S2048x2048 .bf16) (xs2 : Vec Ideal S256x4352 .f32) (xs3 : Vec Ideal S256x1280 .bf16) (xs5 : Vec Ideal S256x2048
  .f32) (xs7 : Vec Ideal S8x128x128 .f32) (xs8 : Vec Ideal S2x128x128 .bf16) (xs9 : Vec Ideal S2x128x128 .bf16)

/-- The block written by a point is block `s` of the result. -/
theorem outB (hG : Given P s x0 x1 x5 x6 x7 x8 x9 x10 x11 x12 x13) (hZ : Held P s xs2 xs3) (hi : (i 0).val = s.val + 1) : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 xs2 xs3 (xV P s) (stV P (2 * s.val)) (kaV P (2 * s.val)) (vaV P (2 * s.val)) = outV P s := by
  have m : View.canon (Val := Elt Ideal) (kernelRun0_B.sl.HS6_32 c i arg1 harg1 arg2 harg2 arg6 harg6 arg7 harg7 arg8 harg8 arg9 harg9 arg10 harg10 arg11 harg11 arg12 harg12 arg13 harg13 arg18 harg18 arg19 harg19 arg23 harg23 arg24 harg24 arg25 harg25 x0 x1 x5 x6 x7 x8 x9 x10 x11 x12 xs2 xs3 (stV P (2 * s.val)) (kaV P (2 * s.val)) (vaV P (2 * s.val))) = mixV P s := mixB c i arg1 harg1 arg2 harg2 arg6 harg6 arg7 harg7 arg8 harg8 arg9 harg9 arg10 harg10 arg11 harg11 arg12 harg12 arg13 harg13 arg18 harg18 arg19 harg19 arg23 harg23 arg24 harg24 arg25 harg25 x0 x1 x5 x6 x7 x8 x9 x10 x11 x12 x13 xs2 xs3 hG hZ hi
  frame_out at m
  frame_out
  rw [View.readCov_eq_canon', m]
  exact out_tile (fun r k => by pointwise) hG.wout

theorem projB_2 (hF : Fresh P s x2 x3 x4) : View.canon (Val := Elt Ideal) (kernelRun0_B.sl.HS0_17 c arg3 harg3 arg4 harg4 arg5 harg5 arg20 x2 x3 x4) = zfV P s := by
  frame_out
  funext y
  canon_tiles x h <;> idx_vars x <;> apply zf_piece (P := P) (s := s) hF ⟨if (y 1).val < 2048 then (y 1).val else (y 1).val + 1024, by split <;> omega⟩
  all_goals first
    | assumption
    | (simp only; split <;> omega)
    | (intro k; pointwise; congr 2; refine Fin.ext ?_; simp only; split <;> omega)

theorem projB_3 (hF : Fresh P s x2 x3 x4) : View.canon (Val := Elt Ideal) (kernelRun0_B.sl.HS1_5 c arg3 harg3 arg4 harg4 arg5 harg5 arg20 x2 x3 x4) = zvV P s := by
  frame_out
  funext y
  canon_tiles x h <;> idx_vars x <;> apply zv_piece (P := P) (s := s) hF ⟨if (y 1).val < 1024 then (y 1).val + 2048 else (y 1).val + 4352, by split <;> omega⟩
  all_goals first
    | assumption
    | (simp only; split <;> omega)
    | (intro k; pointwise; congr 2; refine Fin.ext ?_; simp only; split <;> omega)

theorem soutB_2 (hF : Fresh P s x2 x3 x4) : sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 xs2 xs3 xs5 xs7 xs8 xs9 = zfV P s := by
  have m := projB_2 c arg3 harg3 arg4 harg4 arg5 harg5 arg20 x2 x3 x4 hF
  frame_out at m
  frame_out
  rw [View.readCov_eq_canon', m]
  funext y
  idx_vars y
  pointwise [k0_pay5]

theorem soutB_3 (hF : Fresh P s x2 x3 x4) : sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 xs2 xs3 xs5 xs7 xs8 xs9 = zvV P s := by
  have m := projB_3 c arg3 harg3 arg4 harg4 arg5 harg5 arg20 x2 x3 x4 hF
  frame_out at m
  frame_out
  rw [View.readCov_eq_canon', m]
  funext y
  idx_vars y
  pointwise [k0_pay6]

theorem soutB_5 (hF : Fresh P s x2 x3 x4) : sout0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 xs2 xs3 xs5 xs7 xs8 xs9 = xV P s := by
  frame_out
  funext y
  idx_vars y
  pointwise [k0_pay4]
  exact hF.x _ _

end Cert.KernelIdeal.Tile
-- ==== Proof.CaseC.lean ====
module
public import proofs.«01_k».proof.Proof.Gen.KernelIdeal.Value
public import Idealize.ShloMosaic.Lib.Pipeline.ValueKit
public import Idealize.ShloMosaic.Lib.Pointwise
public import proofs.«01_k».proof.Proof.MixB
@[expose] public section
noncomputable section
namespace Cert.KernelIdeal.Tile
set_option maxRecDepth 16384
set_option maxHeartbeats 2000000
set_option pp.proofs false
open Idealize Idealize.ShloMosaic Cert.Mix Cert.KernelIdeal.Gen
variable {P : Par} {s : Fin 32}
variable (c : Dev nD) (i : grid0.Coords) (arg1 : Memref sig .tc .smem S8 .f32) (harg1 : arg1.IsWhole) (arg2 : Memref sig .tc .smem S2x8 .f32) (harg2 :
  arg2.IsWhole) (arg3 : Memref sig .tc .vmem S256x2048 .f32) (harg3 : arg3.IsWhole) (arg4 : Memref sig .tc .vmem S1x2048 .f32) (harg4 : arg4.IsWhole)
  (arg5 : Memref sig .tc .vmem S2048x5632 .bf16) (harg5 : arg5.IsWhole) (arg6 : Memref sig .tc .vmem S256x128 .f32) (harg6 : arg6.IsWhole) (arg7 :
  Memref sig .tc .vmem S256x128 .f32) (harg7 : arg7.IsWhole) (arg8 : Memref sig .tc .vmem S256x128 .f32) (harg8 : arg8.IsWhole) (arg9 : Memref sig .tc
  .vmem S256x128 .f32) (harg9 : arg9.IsWhole) (arg10 : Memref sig .tc .vmem S1x4x128 .f32) (harg10 : arg10.IsWhole) (arg11 : Memref sig .tc .vmem S8x128
  .f32) (harg11 : arg11.IsWhole) (arg12 : Memref sig .tc .vmem S1x128 .f32) (harg12 : arg12.IsWhole) (arg13 : Memref sig .tc .vmem S1x128 .f32) (harg13
  : arg13.IsWhole) (arg14 : Memref sig .tc .vmem S2048x2048 .bf16) (harg14 : arg14.IsWhole) (arg15 : Memref sig .tc .vmem S256x2048 .f32) (harg15 :
  arg15.IsWhole) (arg16 : Memref sig .tc .vmem S256x4352 .f32) (harg16 : arg16.IsWhole) (arg17 : Memref sig .tc .vmem S256x1280 .bf16) (harg17 :
  arg17.IsWhole) (arg18 : Memref sig .tc .vmem S256x4352 .f32) (harg18 : arg18.IsWhole) (arg19 : Memref sig .tc .vmem S256x1280 .bf16) (harg19 :
  arg19.IsWhole) (arg20 : Memref sig .tc .vmem S256x2048 .bf16) (harg20 : arg20.IsWhole) (arg21 : Memref sig .tc .vmem S256x2048 .f32) (harg21 :
  arg21.IsWhole) (arg22 : Memref sig .tc .vmem S256x2048 .bf16) (harg22 : arg22.IsWhole) (arg23 : Memref sig .tc .vmem S8x128x128 .f32) (harg23 :
  arg23.IsWhole) (arg24 : Memref sig .tc .vmem S2x128x128 .bf16) (harg24 : arg24.IsWhole) (arg25 : Memref sig .tc .vmem S2x128x128 .bf16) (harg25 :
  arg25.IsWhole) (hc0 : ¬cond0_0 i) (hc1 : ¬cond0_1 i) (hc2 : cond0_2 i) (x0 : Vec Ideal S8 .f32) (x1 : Vec Ideal S2x8 .f32) (x2 : Vec Ideal S256x2048
  .f32) (x3 : Vec Ideal S1x2048 .f32) (x4 : Vec Ideal S2048x5632 .bf16) (x5 : Vec Ideal S256x128 .f32) (x6 : Vec Ideal S256x128 .f32) (x7 : Vec Ideal
  S256x128 .f32) (x8 : Vec Ideal S256x128 .f32) (x9 : Vec Ideal S1x4x128 .f32) (x10 : Vec Ideal S8x128 .f32) (x11 : Vec Ideal S1x128 .f32) (x12 : Vec
  Ideal S1x128 .f32) (x13 : Vec Ideal S2048x2048 .bf16) (xs2 : Vec Ideal S256x4352 .f32) (xs3 : Vec Ideal S256x1280 .bf16) (xs5 : Vec Ideal S256x2048
  .f32) (xs7 : Vec Ideal S8x128x128 .f32) (xs8 : Vec Ideal S2x128x128 .bf16) (xs9 : Vec Ideal S2x128x128 .bf16)

/-- The block written by a point is block `s` of the result. -/
theorem outC (hG : Given P s x0 x1 x5 x6 x7 x8 x9 x10 x11 x12 x13) (hZ : Held P s xs2 xs3) (hi : (i 0).val = s.val + 1) : out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 xs2 xs3 (xV P s) (stV P (2 * s.val)) (kaV P (2 * s.val)) (vaV P (2 * s.val)) = outV P s := by
  have m : View.canon (Val := Elt Ideal) (kernelRun0_C.sl.HS6_32 c i arg1 harg1 arg2 harg2 arg6 harg6 arg7 harg7 arg8 harg8 arg9 harg9 arg10 harg10 arg11 harg11 arg12 harg12 arg13 harg13 arg18 harg18 arg19 harg19 arg23 harg23 arg24 harg24 arg25 harg25 x0 x1 x5 x6 x7 x8 x9 x10 x11 x12 xs2 xs3 (stV P (2 * s.val)) (kaV P (2 * s.val)) (vaV P (2 * s.val))) = mixV P s := mixB c i arg1 harg1 arg2 harg2 arg6 harg6 arg7 harg7 arg8 harg8 arg9 harg9 arg10 harg10 arg11 harg11 arg12 harg12 arg13 harg13 arg18 harg18 arg19 harg19 arg23 harg23 arg24 harg24 arg25 harg25 x0 x1 x5 x6 x7 x8 x9 x10 x11 x12 x13 xs2 xs3 hG hZ hi
  frame_out at m
  frame_out
  rw [View.readCov_eq_canon', m]
  exact out_tile (fun r k => by pointwise) hG.wout

end Cert.KernelIdeal.Tile
-- ==== Proof.Induct.lean ====
module
public import proofs.«01_k».proof.Proof.CaseA
public import proofs.«01_k».proof.Proof.CaseB
public import proofs.«01_k».proof.Proof.CaseC
public import Idealize.ShloMosaic.Lib.Pipeline.ValueKit
@[expose] public section
noncomputable section
namespace Cert.KernelIdeal.Tile
set_option maxRecDepth 16384
set_option maxHeartbeats 2000000
open Idealize Idealize.ShloMosaic Idealize.ShloMosaic.TcCoe Cert.Mix Cert.KernelIdeal.Gen

variable (m : (ℓ : Loc nD τ sig) → Buf (Elt Ideal) ℓ)

/-- The inputs of the grid's points are those of the layer `P`: point `t` sees block `t` of the input, and the tables of the block before. -/
structure Feeds (P : Par) (c : Dev nD) : Prop where
  fresh : ∀ (t : Fin cfg0.N) (s : Fin 32), t.val = s.val → Fresh P s (iblk m c 2 t) (iblk m c 3 t) (iblk m c 4 t)
  given : ∀ (t : Fin cfg0.N) (s : Fin 32), t.val = s.val + 1 → Given P s (iblk m c 0 t) (iblk m c 1 t) (iblk m c 5 t) (iblk m c 6 t) (iblk m c 7 t)
    (iblk m c 8 t) (iblk m c 9 t) (iblk m c 10 t) (iblk m c 11 t) (iblk m c 12 t) (iblk m c 13 t)

variable {m}

theorem coord_val : ∀ t : Fin cfg0.N, (grid0.coords t 0).val = t.val := (by decide +kernel : ∀ t : Fin grid0.N, (grid0.coords t 0).val = t.val)

/-- What the points carry: block `n`'s projections and input, and the states, keys and values before it. -/
theorem carried {P : Par} {c : Dev nD} (hf : Feeds m P c) : ∀ (n : ℕ) (hn : n < cfg0.N) (s : Fin 32), n = s.val →
    (outsAt0 m c n hn).2 = (zfV P s, zvV P s, xV P s, stV P (2 * s.val), kaV P (2 * s.val), vaV P (2 * s.val)) := by
  intro n
  induction n with
  | zero =>
    intro hn s hs
    have e : 2 * s.val = 0 := by omega
    have hF := hf.fresh ⟨0, hn⟩ s hs
    rw [outsAt0_A m c ⟨0, hn⟩ (by rfl) (by simp only; omega) (by simp only; omega), e]
    simp only [Prod.mk.injEq]
    refine ⟨?_, ?_, ?_, ?_, ?_, ?_⟩
    · apply soutA_2; exact hF
    · apply soutA_3; exact hF
    · apply soutA_5; exact hF
    · apply soutA_7
    · apply soutA_8
    · apply soutA_9
  | succ n ih =>
    intro hn s hs
    have hlt := s.2
    obtain ⟨q, hq⟩ : ∃ q : Fin 32, n = q.val := ⟨⟨n, by omega⟩, rfl⟩
    have e : 2 * s.val = 2 * q.val + 2 := by omega
    have i := ih (Nat.lt_of_succ_lt hn) q hq
    have hF := hf.fresh ⟨n + 1, hn⟩ s hs
    have hG := hf.given ⟨n + 1, hn⟩ q (by simp only; omega)
    rw [outsAt0_B m c ⟨n + 1, hn⟩ (by simp only; omega) (by simp only; omega) (by simp only; omega), e]
    simp only [Nat.add_sub_cancel, i, Prod.mk.injEq]
    refine ⟨?_, ?_, ?_, ?_, ?_, ?_⟩
    · apply soutB_2; exact hF
    · apply soutB_3; exact hF
    · apply soutB_5; exact hF
    · apply soutB_7; exacts [hG, held P q]
    · apply soutB_8; exacts [hG, held P q]
    · apply soutB_9; exacts [hG, held P q]

/-- What a point after the first writes: the block before its own. -/
theorem written {P : Par} {c : Dev nD} (hf : Feeds m P c) (t : Fin cfg0.N) (s : Fin 32) (hs : t.val = s.val + 1) :
    (outsAt0 m c t.val t.isLt).1 = outV P s := by
  have i := carried hf (t.val - 1) (by omega) s (by omega)
  have hG := hf.given t s hs
  have hc := (coord_val t).trans hs
  have hlt := s.2
  by_cases h : t.val ≤ 31
  · rw [outsAt0_B m c t (by omega) (by omega) (by omega)]
    simp only [i]
    apply outB
    exacts [hG, held P s, hc]
  · rw [outsAt0_C m c t (by omega) (by omega) (by omega)]
    simp only [i]
    apply outC
    exacts [hG, held P s, hc]

theorem idx14 : ∀ t : Fin cfg0.N, win0_14.index t = ![t.val - 1, 0] :=
  (by decide +kernel : ∀ t : Fin grid0.N, win0_14.index t = ![t.val - 1, 0])

theorem out_eq {P : Par} {r r' : Fin 8192} {j j' : Fin 2048} (hr : r.val = r'.val) (hj : j.val = j'.val) : P.out r j = P.out r' j' := by
  rw [Fin.ext hr, Fin.ext hj]

/-- The array after the grid. -/
theorem final {P : Par} {c : Dev nD} (hf : Feeds m P c) :
    (dats m 0 c).arrAt 14 cfg0.N = fun y => P.out (y 0) (y 1) := by
  refine (dats m 0 c).arrAt_eq_of_covers 14 (fun y => P.out (y 0) (y 1)) (by decide +kernel) fun t hfl y => ?_
  blk_simp
  rw [after0_14]
  have ht : 1 ≤ t.val := by
    have h : ∀ t : Fin cfg0.N, (cfg0.win 14).flush t = true → 1 ≤ t.val :=
      (by decide +kernel : ∀ t : Fin grid0.N, win0_14.flush t = true → 1 ≤ t.val)
    exact h t hfl
  have hN : t.val < 33 := t.2
  rw [written hf t ⟨t.val - 1, by omega⟩ (by simp only; omega)]
  refine out_eq ?_ ?_
  · blk_simp [idx14]
  · blk_simp [idx14]

end Cert.KernelIdeal.Tile

end
-- ==== Proof.Feed.lean ====
module
public import proofs.«01_k».proof.Proof.Induct
public import Idealize.ShloMosaic.Lib.Pointwise
public import Idealize.ShloMosaic.Lib.StableHlo.ReadAt
@[expose] public section
noncomputable section
namespace Cert.KernelIdeal.Tile
set_option maxRecDepth 16384
set_option maxHeartbeats 2000000
set_option pp.proofs false
open Idealize Idealize.ShloMosaic Idealize.ShloMosaic.TcCoe Cert.Mix Cert.KernelIdeal.Gen

variable (m : (ℓ : Loc nD τ sig) → Buf (Elt Ideal) ℓ)

/-- The layer whose numbers are the kernel's arguments. -/
def parOf (c : Dev nD) : Par where
  x r k := m ((c.tc : Thread nD τ).loc main_arg0) (ix2 r k)
  gain k := m ((c.tc : Thread nD τ).loc main_arg1) (ix2 0 k)
  w k j := m ((c.tc : Thread nD τ).loc main_arg2) (ix2 k j)
  wout k j := m ((c.tc : Thread nD τ).loc main_arg3) (ix2 k j)
  sinks h := m ((c.tc : Thread nD τ).loc main_arg4) (ix1 h)
  qg d := m ((c.tc : Thread nD τ).loc main_arg5) (ix2 0 d)
  kg d := m ((c.tc : Thread nD τ).loc main_arg6) (ix2 0 d)

variable {m}

/-! ## Where each block of an argument lies -/
theorem idx0 : ∀ t : Fin cfg0.N, win0_0.index t = ![0] :=
  (by decide +kernel : ∀ t : Fin grid0.N, win0_0.index t = ![0])

theorem idx1 : ∀ t : Fin cfg0.N, win0_1.index t = ![0, 0] :=
  (by decide +kernel : ∀ t : Fin grid0.N, win0_1.index t = ![0, 0])

theorem idx2 : ∀ t : Fin cfg0.N, win0_2.index t = ![min t.val 31, 0] :=
  (by decide +kernel : ∀ t : Fin grid0.N, win0_2.index t = ![min t.val 31, 0])

theorem idx3 : ∀ t : Fin cfg0.N, win0_3.index t = ![0, 0] :=
  (by decide +kernel : ∀ t : Fin grid0.N, win0_3.index t = ![0, 0])

theorem idx4 : ∀ t : Fin cfg0.N, win0_4.index t = ![0, 0] :=
  (by decide +kernel : ∀ t : Fin grid0.N, win0_4.index t = ![0, 0])

theorem idx5 : ∀ t : Fin cfg0.N, win0_5.index t = ![0, 0] :=
  (by decide +kernel : ∀ t : Fin grid0.N, win0_5.index t = ![0, 0])

theorem idx6 : ∀ t : Fin cfg0.N, win0_6.index t = ![0, 0] :=
  (by decide +kernel : ∀ t : Fin grid0.N, win0_6.index t = ![0, 0])

theorem idx7 : ∀ t : Fin cfg0.N, win0_7.index t = ![0, 0] :=
  (by decide +kernel : ∀ t : Fin grid0.N, win0_7.index t = ![0, 0])

theorem idx8 : ∀ t : Fin cfg0.N, win0_8.index t = ![0, 0] :=
  (by decide +kernel : ∀ t : Fin grid0.N, win0_8.index t = ![0, 0])

theorem idx9 : ∀ t : Fin cfg0.N, win0_9.index t = ![t.val - 1, 0, 0] :=
  (by decide +kernel : ∀ t : Fin grid0.N, win0_9.index t = ![t.val - 1, 0, 0])

theorem idx10 : ∀ t : Fin cfg0.N, win0_10.index t = ![0, 0] :=
  (by decide +kernel : ∀ t : Fin grid0.N, win0_10.index t = ![0, 0])

theorem idx11 : ∀ t : Fin cfg0.N, win0_11.index t = ![0, 0] :=
  (by decide +kernel : ∀ t : Fin grid0.N, win0_11.index t = ![0, 0])

theorem idx12 : ∀ t : Fin cfg0.N, win0_12.index t = ![0, 0] :=
  (by decide +kernel : ∀ t : Fin grid0.N, win0_12.index t = ![0, 0])

theorem idx13 : ∀ t : Fin cfg0.N, win0_13.index t = ![0, 0] :=
  (by decide +kernel : ∀ t : Fin grid0.N, win0_13.index t = ![0, 0])

theorem blk0 (c : Dev nD) (t : Fin cfg0.N) (h : Fin 8) : iblk m c 0 t (ix1 h) = V m c main_arg4 (ix1 h) := by
  unfold iblk
  blk_ext [idx0]

theorem blk1 (c : Dev nD) (t : Fin cfg0.N) (a : Fin 2) (h : Fin 8) : iblk m c 1 t (ix2 a h) = V m c main_v90 (ix2 a h) := by
  unfold iblk
  blk_ext [idx1]

theorem blk3 (c : Dev nD) (t : Fin cfg0.N) (k : Fin 2048) : iblk m c 3 t (ix2 0 k) = V m c main_arg1 (ix2 0 k) := by
  unfold iblk
  blk_ext [idx3]

theorem blk4 (c : Dev nD) (t : Fin cfg0.N) (k : Fin 2048) (j : Fin 5632) : iblk m c 4 t (ix2 k j) = V m c main_arg2 (ix2 k j) := by
  unfold iblk
  blk_ext [idx4]

theorem blk5 (c : Dev nD) (t : Fin cfg0.N) (r : Fin 256) (d : Fin 128) : iblk m c 5 t (ix2 r d) = V m c main_v95 (ix2 r d) := by
  unfold iblk
  blk_ext [idx5]

theorem blk6 (c : Dev nD) (t : Fin cfg0.N) (r : Fin 256) (d : Fin 128) : iblk m c 6 t (ix2 r d) = V m c main_v100 (ix2 r d) := by
  unfold iblk
  blk_ext [idx6]

theorem blk7 (c : Dev nD) (t : Fin cfg0.N) (r : Fin 256) (d : Fin 128) : iblk m c 7 t (ix2 r d) = V m c main_v105 (ix2 r d) := by
  unfold iblk
  blk_ext [idx7]

theorem blk8 (c : Dev nD) (t : Fin cfg0.N) (r : Fin 256) (d : Fin 128) : iblk m c 8 t (ix2 r d) = V m c main_v110 (ix2 r d) := by
  unfold iblk
  blk_ext [idx8]

theorem blk10 (c : Dev nD) (t : Fin cfg0.N) (a : Fin 8) (d : Fin 128) : iblk m c 10 t (ix2 a d) = V m c main_v76 (ix2 a d) := by
  unfold iblk
  blk_ext [idx10]

theorem blk11 (c : Dev nD) (t : Fin cfg0.N) (d : Fin 128) : iblk m c 11 t (ix2 0 d) = V m c main_arg5 (ix2 0 d) := by
  unfold iblk
  blk_ext [idx11]

theorem blk12 (c : Dev nD) (t : Fin cfg0.N) (d : Fin 128) : iblk m c 12 t (ix2 0 d) = V m c main_arg6 (ix2 0 d) := by
  unfold iblk
  blk_ext [idx12]

theorem blk13 (c : Dev nD) (t : Fin cfg0.N) (k j : Fin 2048) : iblk m c 13 t (ix2 k j) = V m c main_arg3 (ix2 k j) := by
  unfold iblk
  blk_ext [idx13]

theorem blk2 (c : Dev nD) (t : Fin cfg0.N) (s : Fin 32) (r : Fin 256) (k : Fin 2048) (ht : t.val = s.val) :
    iblk m c 2 t (ix2 r k) = V m c main_arg0 (ix2 (bRow s r) k) := by
  unfold iblk
  blk_ext [idx2, bRow]

theorem blk9 (c : Dev nD) (t : Fin cfg0.N) (s : Fin 32) (a : Fin 4) (d : Fin 128) (ht : t.val = s.val + 1) :
    iblk m c 9 t (ix3 0 a d) = V m c main_v53 (ix3 s a d) := by
  unfold iblk
  blk_ext [idx9]

/-! ## The tables that the host computes -/

theorem lt_word (n m : ℕ) (hn : n < 2 ^ 31) (hm : m < 2 ^ 31) : IntOp.cmpi .slt (BitVec.ofNat 32 n) (BitVec.ofNat 32 m) = 1#1 ↔ n < m := by
  word_omega

theorem n256_lit : Ideal.ofBits .f32 0x43800000#32 = ((256 : ℝ) : EReal) := by simp [Ideal.ofBits, Ideal.ieee, -EReal.coe_mul]; norm_num
theorem neg_one_lit : Ideal.ofBits .f32 0xBF800000#32 = (-1 : EReal) := by
  have e : Ideal.ofBits .f32 0xBF800000#32 = ((-1 : ℝ) : EReal) := by simp [Ideal.ofBits, Ideal.ieee, -EReal.coe_mul]; norm_num
  rw [e]; rfl

/-- The first row of block `s`, as a number. -/
theorem block_start (s : Fin 32) : (FloatOps.sitofp (F := Ideal) .f32 (BitVec.ofNat 32 s.val)) * Ideal.ofBits .f32 0x43800000#32 = nat (s.val * 256) := by
  rw [sitofp_nat _ (by omega), n256_lit, nat, nat, ← EReal.coe_mul]
  push_cast; rfl

/-- The retention's frequencies, written twice. -/
theorem twice_freqR (d : Fin 128) :
    (if h : d.val < 64 then
      Ideal.pow (Ideal.ofBits .f32 0x461C4000#32) (Ideal.div (-(Ideal.ofBits .f32 0x40000000#32 * FloatOps.sitofp (F := Ideal) .f32 (BitVec.ofNat 32 d.val))) (Ideal.ofBits .f32 0x43000000#32))
    else
      Ideal.pow (Ideal.ofBits .f32 0x461C4000#32) (Ideal.div (-(Ideal.ofBits .f32 0x40000000#32 * FloatOps.sitofp (F := Ideal) .f32 (BitVec.ofNat 32 (d.val - 64)))) (Ideal.ofBits .f32 0x43000000#32)))
    = freqR (d.val % 64) := by
  rw [sitofp_nat _ (by omega), sitofp_nat _ (by omega), freqR, zero_add]
  split
  · rw [Nat.mod_eq_of_lt (by omega)]
  · rw [show d.val % 64 = d.val - 64 by omega]

/-- The attention's frequencies, written twice, and zeros after them. -/
theorem twice_freqA (d : Fin 128) :
    (if h : d.val < 16 then
      Ideal.pow (Ideal.ofBits .f32 0x48F42400#32) (Ideal.div (-(Ideal.ofBits .f32 0x40000000#32 * FloatOps.sitofp (F := Ideal) .f32 (BitVec.ofNat 32 d.val))) (Ideal.ofBits .f32 0x42000000#32))
    else if h : d.val - 16 < 16 then
      Ideal.pow (Ideal.ofBits .f32 0x48F42400#32) (Ideal.div (-(Ideal.ofBits .f32 0x40000000#32 * FloatOps.sitofp (F := Ideal) .f32 (BitVec.ofNat 32 (d.val - 16)))) (Ideal.ofBits .f32 0x42000000#32))
    else 0)
    = laneFreq d.val := by
  rw [sitofp_nat _ (by omega), sitofp_nat _ (by omega), laneFreq, freqA, zero_add]
  by_cases h : d.val < 16
  · rw [dif_pos h, if_pos (by omega), Nat.mod_eq_of_lt h]
  · rw [dif_neg h]
    by_cases h' : d.val - 16 < 16
    · rw [dif_pos h', if_pos (by omega), show d.val % 16 = d.val - 16 by omega]
    · rw [dif_neg h', if_neg (by omega)]

theorem V95 (c : Dev nD) (r : Fin 256) (d : Fin 128) : V m c main_v95 (ix2 r d) = Ideal.cos (nat r.val * freqR (d.val % 64)) := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  repeat after_reads_at
  rw [twice_freqR, sitofp_nat _ (by omega)]

theorem V100 (c : Dev nD) (r : Fin 256) (d : Fin 128) : V m c main_v100 (ix2 r d) = Ideal.sin (nat r.val * freqR (d.val % 64)) := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  repeat after_reads_at
  rw [twice_freqR, sitofp_nat _ (by omega)]

theorem V105 (c : Dev nD) (r : Fin 256) (d : Fin 128) : V m c main_v105 (ix2 r d) = Ideal.cos (nat r.val * laneFreq d.val) := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  repeat after_reads_at
  rw [twice_freqA, sitofp_nat _ (by omega)]

theorem V110 (c : Dev nD) (r : Fin 256) (d : Fin 128) : V m c main_v110 (ix2 r d) = Ideal.sin (nat r.val * laneFreq d.val) := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  repeat after_reads_at
  rw [twice_freqA, sitofp_nat _ (by omega)]

theorem V53_0 (c : Dev nD) (s : Fin 32) (d : Fin 128) : V m c main_v53 (ix3 s 0 d) = Ideal.cos (nat (s.val * 256) * freqR (d.val % 64)) := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  repeat after_reads_at
  rw [twice_freqR, block_start]

theorem V53_1 (c : Dev nD) (s : Fin 32) (d : Fin 128) : V m c main_v53 (ix3 s 1 d) = Ideal.sin (nat (s.val * 256) * freqR (d.val % 64)) := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  repeat after_reads_at
  rw [twice_freqR, block_start]

theorem V53_2 (c : Dev nD) (s : Fin 32) (d : Fin 128) : V m c main_v53 (ix3 s 2 d) = Ideal.cos (nat (s.val * 256) * laneFreq d.val) := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  repeat after_reads_at
  rw [twice_freqA, block_start]

theorem V53_3 (c : Dev nD) (s : Fin 32) (d : Fin 128) : V m c main_v53 (ix3 s 3 d) = Ideal.sin (nat (s.val * 256) * laneFreq d.val) := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  repeat after_reads_at
  rw [twice_freqA, block_start]

theorem V90_0 (c : Dev nD) (h : Fin 8) : V m c main_v90 (ix2 0 h) = lg h.val := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  repeat after_reads_at
  rw [sitofp_nat _ (by omega), lg]

theorem V90_1 (c : Dev nD) (h : Fin 8) : V m c main_v90 (ix2 1 h) = gam h.val := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  repeat after_reads_at
  rw [sitofp_nat _ (by omega), gam, lg]

theorem band_word (d : Fin 128) :
    IntOp.andi (IntOp.cmpi .sge (BitVec.ofNat 32 d.val) 16#32) (IntOp.cmpi .slt (BitVec.ofNat 32 d.val) 32#32) = 1#1 ↔ 16 ≤ d.val ∧ d.val < 32 :=
  (by decide +kernel : ∀ d : Fin 128,
    IntOp.andi (IntOp.cmpi .sge (BitVec.ofNat 32 d.val) 16#32) (IntOp.cmpi .slt (BitVec.ofNat 32 d.val) 32#32) = 1#1 ↔ 16 ≤ d.val ∧ d.val < 32) d

theorem V76_0 (c : Dev nD) (d : Fin 128) : V m c main_v76 (ix2 0 d) = (if d.val < 64 then -1 else 1 : EReal) := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  after_reads_at
  simp only [id]
  pointwise
  rw [select_ite, neg_one_lit]
  exact if_congr (lt_word d.val 64 (by omega) (by omega)) rfl rfl

theorem V76_1 (c : Dev nD) (d : Fin 128) : V m c main_v76 (ix2 1 d) = (if d.val < 16 then -1 else 0 : EReal) := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  after_reads_at
  simp only [id]
  pointwise
  rw [select_ite, if_neg (by decide), select_ite, neg_one_lit]
  exact if_congr (lt_word d.val 16 (by omega) (by omega)) rfl rfl

theorem V76_2 (c : Dev nD) (d : Fin 128) : V m c main_v76 (ix2 2 d) = (if 16 ≤ d.val ∧ d.val < 32 then 1 else 0 : EReal) := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  after_reads_at
  simp only [id]
  pointwise
  rw [select_ite, if_neg (by decide), select_ite, if_neg (by decide), select_ite]
  exact if_congr (band_word d) rfl rfl

/-! ## What the blocks hold -/

/-- Every block holds what the layer's description says of it. -/
theorem feeds (c : Dev nD) : Feeds m (parOf m c) c where
  fresh t s ht :=
    { x := fun r k => by rw [blk2 c t s r k ht, V_main_arg0]; rfl
      gain := fun k => by rw [blk3, V_main_arg1]; rfl
      w := fun k j => by rw [blk4, V_main_arg2]; rfl }
  given t s ht :=
    { sink := fun h => by rw [blk0, V_main_arg4]; rfl
      log := fun h => (blk1 c t 0 h).trans (V90_0 c h)
      gamma := fun h => (blk1 c t 1 h).trans (V90_1 c h)
      cosR := fun r d => (blk5 c t r d).trans (V95 c r d)
      sinR := fun r d => (blk6 c t r d).trans (V100 c r d)
      cosA := fun r d => (blk7 c t r d).trans (V105 c r d)
      sinA := fun r d => (blk8 c t r d).trans (V110 c r d)
      offCosR := fun d => (blk9 c t s 0 d ht).trans (V53_0 c s d)
      offSinR := fun d => (blk9 c t s 1 d ht).trans (V53_1 c s d)
      offCosA := fun d => (blk9 c t s 2 d ht).trans (V53_2 c s d)
      offSinA := fun d => (blk9 c t s 3 d ht).trans (V53_3 c s d)
      sign := fun d => (blk10 c t 0 d).trans (V76_0 c d)
      low := fun d => (blk10 c t 1 d).trans (V76_1 c d)
      high := fun d => (blk10 c t 2 d).trans (V76_2 c d)
      qg := fun d => by rw [blk11, V_main_arg5]; rfl
      kg := fun d => by rw [blk12, V_main_arg6]; rfl
      wout := fun k j => by rw [blk13, V_main_arg3]; rfl }

/-- The array that the kernel leaves is the layer's. -/
theorem kernel_array (c : Dev nD) : (Cert.KernelIdeal.Gen.dats m 0 c).arrAt 14 cfg0.N = fun y => (parOf m c).out (y 0) (y 1) :=
  final (feeds c)

end Cert.KernelIdeal.Tile
end
-- ==== Proof.RefA.lean ====
module
public import proofs.«01_k».proof.Proof.Gen.ReferenceIdeal.Read
public import proofs.«01_k».proof.Proof.Model
public import proofs.«01_k».proof.Proof.Step
public import Idealize.ShloMosaic.Lib.Pointwise
@[expose] public section
noncomputable section
namespace Cert.ReferenceIdeal.Read
set_option maxRecDepth 16384
set_option maxHeartbeats 2000000
set_option pp.proofs false
open Idealize Idealize.ShloMosaic Cert.Mix
open Cert.KernelIdeal.Tile (sitofp_nat select_ite)
open scoped BigOperators

variable (x0 : (⟨S8192x2048, .f32⟩ : BufTy).Contents (Elt Ideal)) (x1 : (⟨S1x2048, .f32⟩ : BufTy).Contents (Elt Ideal)) (x2 : (⟨S2048x5632, .bf16⟩ : BufTy).Contents (Elt Ideal)) (x3 : (⟨S2048x2048, .bf16⟩ : BufTy).Contents (Elt Ideal)) (x4 : (⟨S8, .f32⟩ : BufTy).Contents (Elt Ideal)) (x5 : (⟨S1x128, .f32⟩ : BufTy).Contents (Elt Ideal)) (x6 : (⟨S1x128, .f32⟩ : BufTy).Contents (Elt Ideal))

/-- The layer whose numbers are the reference's arguments. -/
def parR : Par where
  x r k := x0 (ix2 r k)
  gain k := x1 (ix2 0 k)
  w k j := x2 (ix2 k j)
  wout k j := x3 (ix2 k j)
  sinks h := x4 (ix1 h)
  qg d := x5 (ix2 0 d)
  kg d := x6 (ix2 0 d)

/-- The joint projection. -/
theorem v51_at (r : Fin 8192) (j : Fin 5632) : val_main_v51 (F := Ideal) x0 x1 x2 (ix2 r j) = (parR x0 x1 x2 x3 x4 x5 x6).z r j := by
  pointwise [val_main_v38, val_main_cst_7, val_main_v39, val_main_v40, val_main_cst_8, val_main_v41, val_main_v42, val_main_cst_9, val_main_v43, val_main_v44, val_main_v45, val_main_v46, val_main_v47, val_main_v48, val_main_v49, val_main_v50, val_main_v51]
  rfl

/-! ## The tables of positions -/

theorem v36_at (r : Fin 8192) (d : Fin 128) : val_main_v36 (F := Ideal) (ix2 r d) = Ideal.cos (nat r.val * freqR (d.val % 64)) := by
  pointwise [val_main_v19, val_main_cst_3, val_main_v20, val_main_v21, val_main_cst_4, val_main_v22, val_main_v23, val_main_v24, val_main_cst_5, val_main_v25, val_main_v26, val_main_cst_6, val_main_v27, val_main_v28, val_main_v29, val_main_v30, val_main_v31, val_main_v32, val_main_v33, val_main_v34, val_main_v35, val_main_v36]
  rw [sitofp_nat _ (by omega), sitofp_nat _ (by omega), sitofp_nat _ (by omega), freqR, zero_add]
  split
  · rw [Nat.mod_eq_of_lt (by omega)]
  · rw [show d.val % 64 = d.val - 64 by omega]

theorem v37_at (r : Fin 8192) (d : Fin 128) : val_main_v37 (F := Ideal) (ix2 r d) = Ideal.sin (nat r.val * freqR (d.val % 64)) := by
  pointwise [val_main_v19, val_main_cst_3, val_main_v20, val_main_v21, val_main_cst_4, val_main_v22, val_main_v23, val_main_v24, val_main_cst_5, val_main_v25, val_main_v26, val_main_cst_6, val_main_v27, val_main_v28, val_main_v29, val_main_v30, val_main_v31, val_main_v32, val_main_v33, val_main_v34, val_main_v35, val_main_v36, val_main_v37]
  rw [sitofp_nat _ (by omega), sitofp_nat _ (by omega), sitofp_nat _ (by omega), freqR, zero_add]
  split
  · rw [Nat.mod_eq_of_lt (by omega)]
  · rw [show d.val % 64 = d.val - 64 by omega]

theorem v17_at (r : Fin 8192) (d : Fin 32) : val_main_v17 (F := Ideal) (ix2 r d) = Ideal.cos (nat r.val * freqA (d.val % 16)) := by
  pointwise [val_main_v0, val_main_cst, val_main_v1, val_main_v2, val_main_cst_0, val_main_v3, val_main_v4, val_main_v5, val_main_cst_1, val_main_v6, val_main_v7, val_main_cst_2, val_main_v8, val_main_v9, val_main_v10, val_main_v11, val_main_v12, val_main_v13, val_main_v14, val_main_v15, val_main_v16, val_main_v17]
  rw [sitofp_nat _ (by omega), sitofp_nat _ (by omega), sitofp_nat _ (by omega), freqA, zero_add]
  split
  · rw [Nat.mod_eq_of_lt (by omega)]
  · rw [show d.val % 16 = d.val - 16 by omega]

theorem v18_at (r : Fin 8192) (d : Fin 32) : val_main_v18 (F := Ideal) (ix2 r d) = Ideal.sin (nat r.val * freqA (d.val % 16)) := by
  pointwise [val_main_v0, val_main_cst, val_main_v1, val_main_v2, val_main_cst_0, val_main_v3, val_main_v4, val_main_v5, val_main_cst_1, val_main_v6, val_main_v7, val_main_cst_2, val_main_v8, val_main_v9, val_main_v10, val_main_v11, val_main_v12, val_main_v13, val_main_v14, val_main_v15, val_main_v16, val_main_v17, val_main_v18]
  rw [sitofp_nat _ (by omega), sitofp_nat _ (by omega), sitofp_nat _ (by omega), freqA, zero_add]
  split
  · rw [Nat.mod_eq_of_lt (by omega)]
  · rw [show d.val % 16 = d.val - 16 by omega]

end Cert.ReferenceIdeal.Read
end
-- ==== Proof.RefB.lean ====
module
public import proofs.«01_k».proof.Proof.RefA
@[expose] public section
noncomputable section
namespace Cert.ReferenceIdeal.Read
set_option maxRecDepth 16384
set_option maxHeartbeats 2000000
set_option pp.proofs false
open Idealize Idealize.ShloMosaic Cert.Mix
open Cert.KernelIdeal.Tile (sitofp_nat select_ite)
open scoped BigOperators

variable (x0 : (⟨S8192x2048, .f32⟩ : BufTy).Contents (Elt Ideal)) (x1 : (⟨S1x2048, .f32⟩ : BufTy).Contents (Elt Ideal)) (x2 : (⟨S2048x5632, .bf16⟩ : BufTy).Contents (Elt Ideal)) (x3 : (⟨S2048x2048, .bf16⟩ : BufTy).Contents (Elt Ideal)) (x4 : (⟨S8, .f32⟩ : BufTy).Contents (Elt Ideal)) (x5 : (⟨S1x128, .f32⟩ : BufTy).Contents (Elt Ideal)) (x6 : (⟨S1x128, .f32⟩ : BufTy).Contents (Elt Ideal))

/-! ## Numbers -/

theorem zero_lit : Ideal.ofBits .f32 0x00000000#32 = 0 := by simp [Ideal.ofBits, Ideal.ieee]

theorem nat_sub (n m : ℕ) : nat n - nat m = (((n : ℝ) - m : ℝ) : EReal) := (EReal.coe_sub _ _).symm

theorem nat_sub_of_le {n m : ℕ} (h : m ≤ n) : nat n - nat m = nat (n - m) := by
  rw [nat_sub, nat, Nat.cast_sub h]

theorem nat_sub_nonneg (n m : ℕ) : 0 ≤ nat n - nat m ↔ m ≤ n := by
  rw [nat_sub, ← EReal.coe_zero, EReal.coe_le_coe_iff, sub_nonneg, Nat.cast_le]

theorem nat_back (c b : ℕ) : nat c - 1 - nat b = (((c : ℝ) - 1 - b : ℝ) : EReal) := by
  rw [← EReal.coe_one, ← EReal.coe_sub, ← EReal.coe_sub]

theorem nat_back_nonneg (c b : ℕ) : 0 ≤ nat c - 1 - nat b ↔ b < c := by
  rw [nat_back, ← EReal.coe_zero, EReal.coe_le_coe_iff, sub_sub, sub_nonneg, ← Nat.cast_one, ← Nat.cast_add, Nat.cast_le]
  omega

theorem n127_lit : Ideal.ofBits .f32 0x42FE0000#32 = nat 127 := by simp [Ideal.ofBits, Ideal.ieee, -EReal.coe_mul]; norm_num; rfl

/-! ## The heads' inputs -/

theorem v70_at (c : Fin 64) (n d : Fin 128) (h : Fin 8) : val_main_v70 (F := Ideal) x0 x1 x2 (ix3 (row c n) h d) = (parR x0 x1 x2 x3 x4 x5 x6).q c h n d := by
  pointwise [val_main_v60, val_main_v61, val_main_v62, val_main_v63, val_main_v64, val_main_v65, val_main_v66, val_main_v67, val_main_v68, val_main_v69, val_main_v70, val_main_v59, val_main_v52]
  simp only [v51_at x0 x1 x2 x3 x4 x5 x6, v36_at, v37_at, Nat.add_assoc, Par.q, Par.k, rot, Par.zq, Par.zk, Par.zv, Par.tile, cosR, sinR]

theorem v85_at (c : Fin 64) (n d : Fin 128) (h : Fin 8) : val_main_v85 (F := Ideal) x0 x1 x2 (ix3 (row c n) h d) = (parR x0 x1 x2 x3 x4 x5 x6).k c h n d := by
  pointwise [val_main_v71, val_main_v72, val_main_v73, val_main_v74, val_main_v75, val_main_v76, val_main_v77, val_main_v78, val_main_v79, val_main_v80, val_main_v81, val_main_v82, val_main_cst_10, val_main_v84, val_main_v85, val_main_v53]
  simp only [v51_at x0 x1 x2 x3 x4 x5 x6, v36_at, v37_at, Nat.add_assoc, Par.q, Par.k, rot, Par.zq, Par.zk, Par.zv, Par.tile, cosR, sinR]

theorem v83_at (c : Fin 64) (n d : Fin 128) (h : Fin 8) : val_main_v83 (F := Ideal) x0 x1 x2 (ix3 (row c n) h d) = (parR x0 x1 x2 x3 x4 x5 x6).zv c h n d := by
  pointwise [val_main_v83, val_main_v54]
  simp only [v51_at x0 x1 x2 x3 x4 x5 x6, v36_at, v37_at, Nat.add_assoc, Par.q, Par.k, rot, Par.zq, Par.zk, Par.zv, Par.tile, cosR, sinR]

theorem v112_at (c : Fin 64) (n d : Fin 128) (h : Fin 8) : val_main_v112 (F := Ideal) x0 x1 x2 (ix4 c n h d) = (parR x0 x1 x2 x3 x4 x5 x6).q c h n d := by
  pointwise [val_main_v112]
  exact v70_at x0 x1 x2 x3 x4 x5 x6 c n d h

theorem v113_at (c : Fin 64) (n d : Fin 128) (h : Fin 8) : val_main_v113 (F := Ideal) x0 x1 x2 (ix4 c n h d) = (parR x0 x1 x2 x3 x4 x5 x6).k c h n d := by
  pointwise [val_main_v113]
  exact v85_at x0 x1 x2 x3 x4 x5 x6 c n d h

theorem v114_at (c : Fin 64) (n d : Fin 128) (h : Fin 8) : val_main_v114 (F := Ideal) x0 x1 x2 (ix4 c n h d) = (parR x0 x1 x2 x3 x4 x5 x6).zv c h n d := by
  pointwise [val_main_v114]
  exact v83_at x0 x1 x2 x3 x4 x5 x6 c n d h

/-! ## Retention -/

theorem v93_at (h : Fin 8) : val_main_v93 (F := Ideal) (ix1 h) = lg h.val := by
  pointwise [val_main_v86, val_main_cst_11, val_main_v87, val_main_v88, val_main_cst_12, val_main_v89, val_main_v90, val_main_v91, val_main_v92, val_main_v93]
  rw [sitofp_nat _ (by omega), lg]

theorem v111_at (h : Fin 8) (n m : Fin 128) : val_main_v111 (F := Ideal) (ix3 h n m) = decay (lg h.val) n m := by
  pointwise [val_main_v94, val_main_v95, val_main_v96, val_main_v97, val_main_v98, val_main_v99, val_main_v100, val_main_cst_13, val_main_v101, val_main_v102, val_main_cst_14, val_main_v103, val_main_v104, val_main_v105, val_main_v106, val_main_v107, val_main_v108, val_main_v109, val_main_v110, val_main_cst_15, val_main_call0_v0, val_main_call0_v1, val_main_call0_v2, val_main_v111]
  rw [sitofp_nat _ (by omega), sitofp_nat _ (by omega), v93_at, decay]
  by_cases hm : m.val ≤ n.val
  · rw [if_pos ((nat_sub_nonneg _ _).2 hm), if_pos hm, max_eq_left ((nat_sub_nonneg _ _).2 hm), nat_sub_of_le hm]
  · rw [if_neg fun e => hm ((nat_sub_nonneg _ _).1 e), if_neg hm]
    exact zero_lit

theorem v120_at (c : Fin 64) (n e : Fin 128) (h : Fin 8) : val_main_v120 (F := Ideal) x0 x1 x2 (ix4 c n h e)
    = ∑ m, scores (lg h.val) ((parR x0 x1 x2 x3 x4 x5 x6).q c h) ((parR x0 x1 x2 x3 x4 x5 x6).k c h) n m * (parR x0 x1 x2 x3 x4 x5 x6).zv c h m e := by
  pointwise [val_main_v115, val_main_v116, val_main_v117, val_main_v118, val_main_v119, val_main_v120]
  refine Finset.sum_congr rfl fun m _ => ?_
  simp only [v112_at x0 x1 x2 x3 x4 x5 x6, v113_at x0 x1 x2 x3 x4 x5 x6, v114_at x0 x1 x2 x3 x4 x5 x6, v111_at]
  exact mul_comm _ _

theorem v133_at (c : Fin 64) (d e : Fin 128) (h : Fin 8) : val_main_v133 (F := Ideal) x0 x1 x2 (ix4 c h d e)
    = tail (lg h.val) ((parR x0 x1 x2 x3 x4 x5 x6).k c h) ((parR x0 x1 x2 x3 x4 x5 x6).zv c h) d e := by
  pointwise [val_main_v121, val_main_v122, val_main_v123, val_main_v124, val_main_v125, val_main_v126, val_main_v127, val_main_v128, val_main_v129, val_main_v130, val_main_v131, val_main_v132, val_main_v133, val_main_cst_16, val_main_v94]
  refine Finset.sum_congr rfl fun m _ => ?_
  rw [v113_at x0 x1 x2 x3 x4 x5 x6, v114_at x0 x1 x2 x3 x4 x5 x6, v93_at, sitofp_nat _ (by omega), n127_lit, nat_sub_of_le (by omega)]

theorem v153_at (h : Fin 8) (c b : Fin 64) : val_main_v153 (F := Ideal) (ix3 h c b)
    = if b.val < c.val then Ideal.exp ((((c.val : ℝ) - 1 - b.val : ℝ) : EReal) * (Ideal.ofBits .f32 0x43000000#32 * lg h.val)) else 0 := by
  pointwise [val_main_v134, val_main_v135, val_main_cst_17, val_main_v136, val_main_v137, val_main_v138, val_main_v139, val_main_v140, val_main_v141, val_main_v142, val_main_cst_18, val_main_v143, val_main_v144, val_main_v145, val_main_cst_19, val_main_v146, val_main_v147, val_main_v148, val_main_v149, val_main_v150, val_main_v151, val_main_v152, val_main_cst_20, val_main_call1_v0, val_main_call1_v1, val_main_call1_v2, val_main_v153]
  rw [sitofp_nat _ (by omega), sitofp_nat _ (by omega), v93_at]
  by_cases hb : b.val < c.val
  · rw [if_pos ((nat_back_nonneg _ _).2 hb), if_pos hb, nat_back]
  · rw [if_neg fun e => hb ((nat_back_nonneg _ _).1 e), if_neg hb]
    exact zero_lit

/-- A head's decay is a real number: the exponential whose logarithm is taken is below one. -/
theorem isReal_lg (h : ℕ) : IsReal (lg h) := by
  have hl : ∃ l : ℝ, 0 < l ∧ Ideal.ofBits .f32 0x3F317218#32 = (l : EReal) :=
    ⟨11629080 / 16777216, by norm_num, by simp [Ideal.ofBits, Ideal.ieee, -EReal.coe_mul]; norm_num⟩
  have h5 : Ideal.ofBits .f32 0xC0A00000#32 = ((-5 : ℝ) : EReal) := by simp [Ideal.ofBits, Ideal.ieee, -EReal.coe_mul]; norm_num
  obtain ⟨l, h0, hl⟩ := hl
  have hlt : Real.exp (l * (-5 - h)) < 1 := by
    rw [Real.exp_lt_one_iff]
    have : (0 : ℝ) ≤ h := Nat.cast_nonneg h
    nlinarith
  have e : lg h = Ideal.log ((1 - Real.exp (l * (-5 - h)) : ℝ) : EReal) := by
    rw [lg, hl, h5, nat, ← EReal.coe_sub, ← EReal.coe_mul]
    show Ideal.log (1 + -((Real.exp (l * (-5 - h)) : ℝ) : EReal)) = _
    rw [← EReal.coe_one, ← EReal.coe_neg, ← EReal.coe_add, ← sub_eq_add_neg]
  rw [e]
  show IsReal (if 1 - Real.exp (l * (-5 - h)) ≤ 0 then ⊥ else ((Real.log (1 - Real.exp (l * (-5 - h))) : ℝ) : EReal))
  rw [if_neg (by linarith)]
  exact .coe _

theorem v155_at (c : Fin 64) (d e : Fin 128) (h : Fin 8) : val_main_v155 (F := Ideal) x0 x1 x2 (ix4 c h d e) = (parR x0 x1 x2 x3 x4 x5 x6).state h c.val d e := by
  pointwise [val_main_v154, val_main_v155]
  obtain ⟨l, hl⟩ := isReal_lg h.val
  have hg : gam h.val = ((Real.exp (128 * l) : ℝ) : EReal) := by
    rw [gam, hl, Cert.KernelIdeal.Tile.n128_lit, ← EReal.coe_mul]; rfl
  rw [Par.state, hg, decayed_eq_sum _ _ 64 c.val (by omega)]
  refine Finset.sum_congr rfl fun b _ => ?_
  rw [v133_at x0 x1 x2 x3 x4 x5 x6, v153_at, Par.kv, dif_pos b.2, hl, Cert.KernelIdeal.Tile.n128_lit, ← EReal.coe_mul, ← EReal.coe_mul]
  rfl

theorem v170_at (c : Fin 64) (n e : Fin 128) (h : Fin 8) : val_main_v170 (F := Ideal) x0 x1 x2 (ix4 c n h e)
    = readOut (lg h.val) ((parR x0 x1 x2 x3 x4 x5 x6).q c h) ((parR x0 x1 x2 x3 x4 x5 x6).k c h) ((parR x0 x1 x2 x3 x4 x5 x6).zv c h) ((parR x0 x1 x2 x3 x4 x5 x6).state h c.val) n e := by
  pointwise [val_main_v156, val_main_v157, val_main_v158, val_main_v159, val_main_v160, val_main_v161, val_main_v162, val_main_v163, val_main_v164, val_main_v165, val_main_v166, val_main_v167, val_main_v168, val_main_v169, val_main_v170, val_main_cst_21, val_main_v94]
  rw [v120_at x0 x1 x2 x3 x4 x5 x6, readOut]
  refine congrArg (_ + ·) (Finset.sum_congr rfl fun d _ => ?_)
  rw [v155_at x0 x1 x2 x3 x4 x5 x6, v112_at x0 x1 x2 x3 x4 x5 x6, v93_at, sitofp_nat _ (by omega)]
  have e1 : nat n.val + 1 = nat (n.val + 1) := by rw [nat, nat, Nat.cast_add, Nat.cast_one, EReal.coe_add, EReal.coe_one]
  rw [e1]
  exact mul_comm _ _

theorem v184_at (c : Fin 64) (n : Fin 128) (j : Fin 1024) : val_main_v184 (F := Ideal) x0 x1 x2 (ix2 (row c n) j)
    = (parR x0 x1 x2 x3 x4 x5 x6).ret c ⟨j.val / 128, by omega⟩ n ⟨j.val % 128, by omega⟩ := by
  pointwise [val_main_v171, val_main_v172, val_main_cst_22, val_main_v173, val_main_v174, val_main_cst_23, val_main_v175, val_main_v176, val_main_cst_24, val_main_v177, val_main_v178, val_main_v179, val_main_v180, val_main_v181, val_main_call2_v0, val_main_call2_v1, val_main_call2_cst, val_main_call2_v2, val_main_call2_v3, val_main_call2_cst_0, val_main_call2_v4, val_main_call2_v5, val_main_v182, val_main_v183, val_main_v184, val_main_v55]
  have e1 : (⟨(c.val * 128 + n.val) / 128, by omega⟩ : Fin 64) = c := Fin.ext (by show (c.val * 128 + n.val) / 128 = c.val; omega)
  have e2 : (⟨(c.val * 128 + n.val) % 128, by omega⟩ : Fin 128) = n := Fin.ext (by show (c.val * 128 + n.val) % 128 = n.val; omega)
  rw [e1, e2]
  simp only [v170_at x0 x1 x2 x3 x4 x5 x6, v51_at x0 x1 x2 x3 x4 x5 x6]
  have e3 : (parR x0 x1 x2 x3 x4 x5 x6).z (row c n) ⟨3072 + j.val, by omega⟩ = (parR x0 x1 x2 x3 x4 x5 x6).zg c ⟨j.val / 128, by omega⟩ n ⟨j.val % 128, by omega⟩ := by
    rw [Par.zg, Par.tile]
    congr 1
    exact Fin.ext (by show 3072 + j.val = 3072 + j.val / 128 * 128 + j.val % 128; omega)
  rw [e3]
  rfl

end Cert.ReferenceIdeal.Read
end
-- ==== Proof.RefC.lean ====
module
public import proofs.«01_k».proof.Proof.RefB
@[expose] public section
noncomputable section
namespace Cert.ReferenceIdeal.Read
set_option maxRecDepth 16384
set_option maxHeartbeats 2000000
set_option pp.proofs false
open Idealize Idealize.ShloMosaic Cert.Mix
open Cert.KernelIdeal.Tile (sitofp_nat select_ite)
open scoped BigOperators

variable (x0 : (⟨S8192x2048, .f32⟩ : BufTy).Contents (Elt Ideal)) (x1 : (⟨S1x2048, .f32⟩ : BufTy).Contents (Elt Ideal)) (x2 : (⟨S2048x5632, .bf16⟩ : BufTy).Contents (Elt Ideal)) (x3 : (⟨S2048x2048, .bf16⟩ : BufTy).Contents (Elt Ideal)) (x4 : (⟨S8, .f32⟩ : BufTy).Contents (Elt Ideal)) (x5 : (⟨S1x128, .f32⟩ : BufTy).Contents (Elt Ideal)) (x6 : (⟨S1x128, .f32⟩ : BufTy).Contents (Elt Ideal))

/-! ## Rows of real numbers -/

theorem isReal_neg {x : EReal} (hx : IsReal x) : IsReal (-x) := by
  obtain ⟨r, rfl⟩ := hx
  exact ⟨-r, (EReal.coe_neg r).symm⟩

theorem eps_lit : ∃ e : ℝ, 0 < e ∧ eps = (e : EReal) :=
  ⟨8796093 / 2 ^ 43, by norm_num, by simp [eps, Ideal.ofBits, Ideal.ieee, -EReal.coe_mul]; norm_num⟩

theorem isReal_scale : IsReal scale := ⟨11863283 / 2 ^ 27, by simp [scale, Ideal.ofBits, Ideal.ieee, -EReal.coe_mul]; norm_num⟩

theorem isReal_least : IsReal (Ideal.ofBits .f32 0xFF7FFFFF#32) :=
  ⟨-(16777215 * 2 ^ 104), by simp [Ideal.ofBits, Ideal.ieee, -EReal.coe_mul]⟩

theorem one_lit : Ideal.ofBits .f32 0x3F800000#32 = 1 := by
  have e : Ideal.ofBits .f32 0x3F800000#32 = ((1 : ℝ) : EReal) := by simp [Ideal.ofBits, Ideal.ieee, -EReal.coe_mul]; norm_num
  rw [e]; rfl

theorem least_lit : Ideal.ofBits .f32 0xFF800000#32 = ⊥ := by simp [Ideal.ofBits, Ideal.ieee]

theorem isReal_row {g : Fin 128 → EReal} (hg : ∀ d, IsReal (g d)) (t : Mat) (n d : Fin 128) : IsReal (rms g t n d) := by
  obtain ⟨e, he, hl⟩ := eps_lit
  rw [rms, Cert.KernelIdeal.Tile.n128_lit, hl]
  exact (isReal_rms (t n) (by norm_num) he d).mul (hg d)

theorem isReal_freqA (i : ℕ) : IsReal (nat i) := .coe _

theorem isReal_cosA (c : Fin 64) (n d : Fin 128) : IsReal (cosA c n d) := by
  obtain ⟨f, hf⟩ := Cert.KernelIdeal.Tile.isReal_freqA (d.val % 16)
  rw [cosA, hf, nat, ← EReal.coe_mul]
  exact .coe _

theorem isReal_sinA (c : Fin 64) (n d : Fin 128) : IsReal (sinA c n d) := by
  obtain ⟨f, hf⟩ := Cert.KernelIdeal.Tile.isReal_freqA (d.val % 16)
  rw [sinA, hf, nat, ← EReal.coe_mul]
  exact .coe _

theorem isReal_rotA (c : Fin 64) {t : Mat} (ht : ∀ n d, IsReal (t n d)) (n d : Fin 128) : IsReal (rotA (cosA c) (sinA c) t n d) := by
  rw [rotA]
  split
  · refine ((ht n d).mul (isReal_cosA c n d)).add (IsReal.mul ?_ (isReal_sinA c n d))
    split
    · exact isReal_neg (ht _ _)
    · exact ht _ _
  · exact ht n d

theorem isReal_keys {P : Par} (hk : ∀ d, IsReal (P.kg d)) (c : Fin 64) (h : Fin 2) (j : Fin 256) (d : Fin 128) : IsReal (P.keys c h j d) := by
  have e : ∀ b n d, IsReal (P.ka b h n d) := fun b => isReal_rotA b (isReal_row hk _)
  rw [Par.keys, stack]
  split
  · rw [before]
    split
    · exact e _ _ _
    · exact .zero
  · exact e _ _ _

theorem isReal_attS {P : Par} (hq : ∀ d, IsReal (P.qg d)) (hk : ∀ d, IsReal (P.kg d)) (first : Prop) (c : Fin 64) (h : Fin 8) (i : Fin 2) (n : Fin 128) (j : Fin 256) :
    IsReal (attS first (P.qa c h) (P.keys c i) n j) := by
  rw [attS]
  split
  · exact (IsReal.sum _ fun d => (isReal_rotA c (isReal_row hq _) n d).mul (isReal_keys hk c i j d)).mul isReal_scale
  · exact isReal_least

/-- The greatest of some real numbers and of minus infinity, and of one more real number, is real. -/
theorem isReal_rowMax {s : Fin 256 → EReal} {k : EReal} (hs : ∀ j, IsReal (s j)) (hk : IsReal k) : IsReal (rowMax s k) := by
  classical
  have e : ∀ S : Finset (Fin 256), IsReal (max (Finset.fold max (⊥ : EReal) s S) k) := fun S => by
    induction S using Finset.induction_on with
    | empty => rw [Finset.fold_empty, max_eq_right bot_le]; exact hk
    | insert a S ha ih => rw [Finset.fold_insert ha, max_assoc]; exact (hs a).sup ih
  rw [rowMax, least_lit]
  exact e _

/-- The greatest entry of a row with one entry more at its end. -/
theorem fold_last {s : Fin 256 → EReal} {k : EReal} {f : Fin 257 → EReal} (hf : ∀ j : Fin 256, f ⟨j.val, by omega⟩ = s j) (hl : f ⟨256, by omega⟩ = k) (b : EReal) :
    Finset.fold max b f Finset.univ = max (Finset.fold max b s Finset.univ) k := by
  rw [Fin.univ_castSuccEmb, Finset.fold_cons, Finset.fold_map, max_comm]
  congr 1
  exact congrArg (fun g => Finset.fold max b g Finset.univ) (funext hf)

/-! ## Queries, keys and values -/

/-- Head `g` of the four that read head `h` of keys. -/
abbrev hd (h : Fin 2) (g : Fin 4) : Fin 8 := ⟨h.val * 4 + g.val, by omega⟩

theorem v198_at (c : Fin 64) (n d : Fin 128) (h : Fin 8) : val_main_v198 (F := Ideal) x0 x1 x2 x5 (ix3 (row c n) h d) = rms (parR x0 x1 x2 x3 x4 x5 x6).qg ((parR x0 x1 x2 x3 x4 x5 x6).zqa c h) n d := by
  pointwise [val_main_v185, val_main_v186, val_main_cst_25, val_main_v187, val_main_v188, val_main_cst_26, val_main_v189, val_main_v190, val_main_cst_27, val_main_v191, val_main_v192, val_main_v193, val_main_v194, val_main_v195, val_main_v196, val_main_v197, val_main_v198, val_main_v56]
  simp only [v51_at x0 x1 x2 x3 x4 x5 x6, ← Nat.add_assoc]
  rfl

theorem v212_at (c : Fin 64) (n d : Fin 128) (h : Fin 2) : val_main_v212 (F := Ideal) x0 x1 x2 x6 (ix3 (row c n) h d) = rms (parR x0 x1 x2 x3 x4 x5 x6).kg ((parR x0 x1 x2 x3 x4 x5 x6).zka c h) n d := by
  pointwise [val_main_v199, val_main_v200, val_main_cst_28, val_main_v201, val_main_v202, val_main_cst_29, val_main_v203, val_main_v204, val_main_cst_30, val_main_v205, val_main_v206, val_main_v207, val_main_v208, val_main_v209, val_main_v210, val_main_v211, val_main_v212, val_main_v57]
  simp only [v51_at x0 x1 x2 x3 x4 x5 x6, ← Nat.add_assoc]
  rfl

theorem v226_at (c : Fin 64) (n d : Fin 128) (h : Fin 8) : val_main_v226 (F := Ideal) x0 x1 x2 x5 (ix3 (row c n) h d) = (parR x0 x1 x2 x3 x4 x5 x6).qa c h n d := by
  pointwise [val_main_v213, val_main_v214, val_main_v215, val_main_v216, val_main_v217, val_main_v218, val_main_v219, val_main_v220, val_main_v221, val_main_v222, val_main_v223, val_main_v224, val_main_v225, val_main_v226]
  rw [Par.qa, rotA]
  simp only [v198_at x0 x1 x2 x3 x4 x5 x6]
  by_cases hd : d.val < 32
  · rw [dif_pos hd, dif_pos hd, v17_at, v18_at]
    rfl
  · rw [dif_neg hd, dif_neg hd]
    congr 1
    exact Fin.ext (by show 32 + (d.val - 32) = d.val; omega)

theorem v240_at (c : Fin 64) (n d : Fin 128) (h : Fin 2) : val_main_v240 (F := Ideal) x0 x1 x2 x6 (ix3 (row c n) h d) = (parR x0 x1 x2 x3 x4 x5 x6).ka c h n d := by
  pointwise [val_main_v227, val_main_v228, val_main_v229, val_main_v230, val_main_v231, val_main_v232, val_main_v233, val_main_v234, val_main_v235, val_main_v236, val_main_v237, val_main_v238, val_main_v239, val_main_v240]
  rw [Par.ka, rotA]
  simp only [v212_at x0 x1 x2 x3 x4 x5 x6]
  by_cases hd : d.val < 32
  · rw [dif_pos hd, dif_pos hd, v17_at, v18_at]
    rfl
  · rw [dif_neg hd, dif_neg hd]
    congr 1
    exact Fin.ext (by show 32 + (d.val - 32) = d.val; omega)

theorem v242_at (c : Fin 64) (n d : Fin 128) (h : Fin 2) (g : Fin 4) : val_main_v242 (F := Ideal) x0 x1 x2 x5 (ix5 c n h g d) = (parR x0 x1 x2 x3 x4 x5 x6).qa c (hd h g) n d := by
  pointwise [val_main_v242]
  exact v226_at x0 x1 x2 x3 x4 x5 x6 c n d (hd h g)

theorem v249_at (c : Fin 64) (d : Fin 128) (j : Fin 256) (h : Fin 2) : val_main_v249 (F := Ideal) x0 x1 x2 x6 (ix4 c j h d) = (parR x0 x1 x2 x3 x4 x5 x6).keys c h j d := by
  pointwise [val_main_v243, val_main_v244, val_main_v245, val_main_cst_31, val_main_v246, val_main_v247, val_main_v248, val_main_v249]
  rw [Par.keys, stack]
  by_cases hj : j.val < 128
  · rw [dif_pos hj, dif_pos hj, before]
    by_cases hc : c.val < 1
    · rw [dif_pos hc, dif_neg (by omega)]
    · rw [dif_neg hc, dif_pos (by omega)]
      exact v240_at x0 x1 x2 x3 x4 x5 x6 ⟨c.val - 1, by omega⟩ ⟨j.val, hj⟩ d h
  · rw [dif_neg hj, dif_neg hj]
    exact v240_at x0 x1 x2 x3 x4 x5 x6 c ⟨j.val - 128, by omega⟩ d h

theorem v51_va (c : Fin 64) (n d : Fin 128) (h : Fin 2) : val_main_v51 (F := Ideal) x0 x1 x2 (ix2 (row c n) ⟨5376 + (h.val * 128 + d.val), by omega⟩) = (parR x0 x1 x2 x3 x4 x5 x6).zva c h n d := by
  simp only [v51_at x0 x1 x2 x3 x4 x5 x6, ← Nat.add_assoc]
  rfl

theorem v254_at (c : Fin 64) (d : Fin 128) (j : Fin 256) (h : Fin 2) : val_main_v254 (F := Ideal) x0 x1 x2 (ix4 c j h d) = (parR x0 x1 x2 x3 x4 x5 x6).vals c h j d := by
  pointwise [val_main_v250, val_main_cst_32, val_main_v251, val_main_v252, val_main_v253, val_main_v254, val_main_v244, val_main_v241, val_main_v58]
  rw [Par.vals, stack]
  by_cases hj : j.val < 128
  · rw [dif_pos hj, dif_pos hj, before]
    by_cases hc : c.val < 1
    · rw [dif_pos hc, dif_neg (by omega)]
    · rw [dif_neg hc, dif_pos (by omega)]
      exact v51_va x0 x1 x2 x3 x4 x5 x6 ⟨c.val - 1, by omega⟩ ⟨j.val, hj⟩ d h
  · rw [dif_neg hj, dif_neg hj]
    exact v51_va x0 x1 x2 x3 x4 x5 x6 c ⟨j.val - 128, by omega⟩ d h

end Cert.ReferenceIdeal.Read
end
-- ==== Proof.RefD.lean ====
module
public import proofs.«01_k».proof.Proof.RefC
@[expose] public section
noncomputable section
namespace Cert.ReferenceIdeal.Read
set_option maxRecDepth 16384
set_option maxHeartbeats 2000000
set_option pp.proofs false
open Idealize Idealize.ShloMosaic Cert.Mix
open Cert.KernelIdeal.Tile (sitofp_nat select_ite)
open scoped BigOperators

variable (x0 : (⟨S8192x2048, .f32⟩ : BufTy).Contents (Elt Ideal)) (x1 : (⟨S1x2048, .f32⟩ : BufTy).Contents (Elt Ideal)) (x2 : (⟨S2048x5632, .bf16⟩ : BufTy).Contents (Elt Ideal)) (x3 : (⟨S2048x2048, .bf16⟩ : BufTy).Contents (Elt Ideal)) (x4 : (⟨S8, .f32⟩ : BufTy).Contents (Elt Ideal)) (x5 : (⟨S1x128, .f32⟩ : BufTy).Contents (Elt Ideal)) (x6 : (⟨S1x128, .f32⟩ : BufTy).Contents (Elt Ideal))

/-! ## Attention -/

theorem and_word (a b : BitVec 1) : IntOp.andi a b = 1#1 ↔ a = 1#1 ∧ b = 1#1 := by
  revert a b; decide

theorem window_word (n : Fin 128) (j : Fin 256) :
    IntOp.andi (IntOp.cmpi .sge (IntOp.subi (IntOp.addi 128#32 (BitVec.ofNat 32 n.val)) (BitVec.ofNat 32 j.val)) 0#32)
      (IntOp.cmpi .slt (IntOp.subi (IntOp.addi 128#32 (BitVec.ofNat 32 n.val)) (BitVec.ofNat 32 j.val)) 128#32) = 1#1 ↔ j.val ≤ n.val + 128 ∧ n.val < j.val := by
  revert n j; decide +kernel

theorem start_word (c : Fin 64) (j : Fin 256) :
    IntOp.cmpi .sge (IntOp.addi (IntOp.muli (IntOp.subi (BitVec.ofNat 32 c.val) 1#32) 128#32) (BitVec.ofNat 32 j.val)) 0#32 = 1#1 ↔ 128 ≤ j.val ∨ ¬c.val = 0 := by
  revert c j; decide +kernel

theorem v288_at (c : Fin 64) (n : Fin 128) (j : Fin 256) (h : Fin 2) (g : Fin 4) : val_main_v288 (F := Ideal) x0 x1 x2 x5 x6 (ix5 c h g n j)
    = attS (c.val = 0) ((parR x0 x1 x2 x3 x4 x5 x6).qa c (hd h g)) ((parR x0 x1 x2 x3 x4 x5 x6).keys c h) n j := by
  pointwise [val_main_v255, val_main_v256, val_main_cst_33, val_main_v257, val_main_v258, val_main_v259, val_main_v260, val_main_v261, val_main_v262, val_main_v263, val_main_v264, val_main_c, val_main_v265, val_main_v266, val_main_v267, val_main_v268, val_main_v269, val_main_c_34, val_main_v270, val_main_v271, val_main_c_35, val_main_v272, val_main_v273, val_main_v274, val_main_v275, val_main_v276, val_main_c_36, val_main_v277, val_main_v278, val_main_c_37, val_main_v279, val_main_v280, val_main_v281, val_main_c_38, val_main_v282, val_main_v283, val_main_v284, val_main_v285, val_main_v286, val_main_v287, val_main_cst_39, val_main_call3_v0, val_main_call3_v1, val_main_v288]
  rw [select_ite, attS]
  have hm : ∀ a b : BitVec 1, (a = 1#1 ↔ j.val ≤ n.val + 128 ∧ n.val < j.val) → (b = 1#1 ↔ 128 ≤ j.val ∨ ¬c.val = 0) → (IntOp.andi a b = 1#1 ↔ seen (c.val = 0) n j) := fun a b ha hb => by
    rw [and_word, ha, hb, and_assoc, seen]
  have hm := hm _ _ (window_word n j) (start_word c j)
  by_cases hn : seen (c.val = 0) n j
  swap
  · rw [if_neg hn, if_neg fun e => hn (hm.1 e)]
  rw [if_pos hn, if_pos (hm.2 hn)]
  refine congrArg (· * _) (Finset.sum_congr rfl fun d _ => ?_)
  rw [v249_at x0 x1 x2 x3 x4 x5 x6, v242_at x0 x1 x2 x3 x4 x5 x6]
  exact mul_comm _ _

theorem v291_at (c : Fin 64) (n : Fin 128) (h : Fin 2) (g : Fin 4) (j : Fin 257) : val_main_v291 (F := Ideal) x0 x1 x2 x4 x5 x6 (ix5 c h g n j)
    = if hj : j.val < 256 then attS (c.val = 0) ((parR x0 x1 x2 x3 x4 x5 x6).qa c (hd h g)) ((parR x0 x1 x2 x3 x4 x5 x6).keys c h) n ⟨j.val, hj⟩ else (parR x0 x1 x2 x3 x4 x5 x6).sinks (hd h g) := by
  pointwise [val_main_v291, val_main_v290, val_main_v289]
  simp only [v288_at x0 x1 x2 x3 x4 x5 x6]
  rfl

theorem v292_at (c : Fin 64) (n : Fin 128) (h : Fin 2) (g : Fin 4) : val_main_v292 (F := Ideal) x0 x1 x2 x4 x5 x6 (ix4 c h g n)
    = rowMax (attS (c.val = 0) ((parR x0 x1 x2 x3 x4 x5 x6).qa c (hd h g)) ((parR x0 x1 x2 x3 x4 x5 x6).keys c h) n) ((parR x0 x1 x2 x3 x4 x5 x6).sinks (hd h g)) := by
  pointwise [val_main_v292]
  refine fold_last (fun j => ?_) ?_ _
  · rw [v291_at x0 x1 x2 x3 x4 x5 x6, dif_pos j.2]
  · rw [v291_at x0 x1 x2 x3 x4 x5 x6, dif_neg (by decide)]

theorem max_least (w : EReal) : FloatOps.maximumf (F := Ideal) (φ := .f32) (FloatOps.ofBits .f32 0xFF800000#32) w = w := by
  show max (Ideal.ofBits .f32 0xFF800000#32) w = w
  rw [least_lit, max_eq_right bot_le]

theorem v294_at (c : Fin 64) (n : Fin 128) (h : Fin 2) (g : Fin 4) : val_main_v294 (F := Ideal) x0 x1 x2 x4 x5 x6 (ix4 c h g n)
    = rowMax (attS (c.val = 0) ((parR x0 x1 x2 x3 x4 x5 x6).qa c (hd h g)) ((parR x0 x1 x2 x3 x4 x5 x6).keys c h) n) ((parR x0 x1 x2 x3 x4 x5 x6).sinks (hd h g)) := by
  rw [val_main_v294_apply, val_main_v293_apply, v292_at x0 x1 x2 x3 x4 x5 x6]
  exact max_least _

theorem v305_at (hs : ∀ h, IsReal ((parR x0 x1 x2 x3 x4 x5 x6).sinks h)) (hq : ∀ d, IsReal ((parR x0 x1 x2 x3 x4 x5 x6).qg d)) (hk : ∀ d, IsReal ((parR x0 x1 x2 x3 x4 x5 x6).kg d))
    (c : Fin 64) (n e : Fin 128) (h : Fin 2) (g : Fin 4) : val_main_v305 (F := Ideal) x0 x1 x2 x4 x5 x6 (ix5 c n h g e)
    = (parR x0 x1 x2 x3 x4 x5 x6).att c (hd h g) n e := by
  pointwise [val_main_v295, val_main_v296, val_main_v297, val_main_v298, val_main_cst_42, val_main_v299, val_main_v300, val_main_v301, val_main_v302, val_main_v303, val_main_v304, val_main_v305, val_main_v291, val_main_v290, val_main_v289]
  have ek : kvOf (hd h g) = h := Fin.ext (by show (h.val * 4 + g.val) / 4 = h.val; omega)
  have hr : ∀ j, IsReal (attS (c.val = 0) ((parR x0 x1 x2 x3 x4 x5 x6).qa c (hd h g)) ((parR x0 x1 x2 x3 x4 x5 x6).keys c h) n j) := isReal_attS hq hk _ c _ h n
  rw [Par.att, ek, attO, one_lit]
  refine Eq.trans ?_ (softmax_sink _ (fun j => (parR x0 x1 x2 x3 x4 x5 x6).vals c h j e) hr (isReal_rowMax hr (hs (hd h g))) (hs (hd h g))).symm
  refine Finset.sum_congr rfl fun j _ => ?_
  simp only [v288_at x0 x1 x2 x3 x4 x5 x6, v294_at x0 x1 x2 x3 x4 x5 x6, v254_at x0 x1 x2 x3 x4 x5 x6]
  rw [mul_comm]
  simp only [Finset.univ_unique, Finset.sum_singleton]
  rfl

end Cert.ReferenceIdeal.Read
end
-- ==== Proof.RefE.lean ====
module
public import proofs.«01_k».proof.Proof.RefD
@[expose] public section
noncomputable section
namespace Cert.ReferenceIdeal.Read
set_option maxRecDepth 16384
set_option maxHeartbeats 2000000
set_option pp.proofs false
open Idealize Idealize.ShloMosaic Cert.Mix
open Cert.KernelIdeal.Tile (sitofp_nat select_ite)
open scoped BigOperators

variable (x0 : (⟨S8192x2048, .f32⟩ : BufTy).Contents (Elt Ideal)) (x1 : (⟨S1x2048, .f32⟩ : BufTy).Contents (Elt Ideal)) (x2 : (⟨S2048x5632, .bf16⟩ : BufTy).Contents (Elt Ideal)) (x3 : (⟨S2048x2048, .bf16⟩ : BufTy).Contents (Elt Ideal)) (x4 : (⟨S8, .f32⟩ : BufTy).Contents (Elt Ideal)) (x5 : (⟨S1x128, .f32⟩ : BufTy).Contents (Elt Ideal)) (x6 : (⟨S1x128, .f32⟩ : BufTy).Contents (Elt Ideal))

/-! ## The result -/

theorem mix_low (c : Fin 64) (n : Fin 128) (x : Fin 1024) : (parR x0 x1 x2 x3 x4 x5 x6).mix c n ⟨x.val, by omega⟩ = (parR x0 x1 x2 x3 x4 x5 x6).ret c ⟨x.val / 128, by omega⟩ n ⟨x.val % 128, by omega⟩ :=
  dif_pos x.2

theorem mix_high (c : Fin 64) (n : Fin 128) (x : Fin 1024) : (parR x0 x1 x2 x3 x4 x5 x6).mix c n ⟨1024 + x.val, by omega⟩ = (parR x0 x1 x2 x3 x4 x5 x6).att c (hd ⟨x.val / 512, by omega⟩ ⟨x.val / 128 % 4, by omega⟩) n ⟨x.val % 128, by omega⟩ := by
  rw [Par.mix, dif_neg (by show ¬1024 + x.val < 1024; omega)]
  have e1 : (⟨(1024 + x.val - 1024) / 128, by omega⟩ : Fin 8) = hd ⟨x.val / 512, by omega⟩ ⟨x.val / 128 % 4, by omega⟩ := Fin.ext (by show (1024 + x.val - 1024) / 128 = x.val / 512 * 4 + x.val / 128 % 4; omega)
  have e2 : (⟨(1024 + x.val) % 128, by omega⟩ : Fin 128) = ⟨x.val % 128, by omega⟩ := Fin.ext (by show (1024 + x.val) % 128 = x.val % 128; omega)
  exact congrArg₂ (fun a b => (parR x0 x1 x2 x3 x4 x5 x6).att c a n b) e1 e2

/-- The reference's result is the layer's. -/
theorem v310_at (hs : ∀ h, IsReal ((parR x0 x1 x2 x3 x4 x5 x6).sinks h)) (hq : ∀ d, IsReal ((parR x0 x1 x2 x3 x4 x5 x6).qg d)) (hk : ∀ d, IsReal ((parR x0 x1 x2 x3 x4 x5 x6).kg d))
    (r : Fin 8192) (j : Fin 2048) : val_main_v310 (F := Ideal) x0 x1 x2 x3 x4 x5 x6 (ix2 r j) = (parR x0 x1 x2 x3 x4 x5 x6).out r j := by
  pointwise [val_main_v306, val_main_v307, val_main_v308, val_main_v309, val_main_v310]
  rw [Par.out]
  refine congrArg (x0 (ix2 r j) + ·) ?_
  have hr : r = row ⟨r.val / 128, by omega⟩ ⟨r.val % 128, by omega⟩ := Fin.ext (by show r.val = r.val / 128 * 128 + r.val % 128; omega)
  refine Eq.trans ?_ (Fin.sum_univ_add (a := 1024) (b := 1024) fun k => (parR x0 x1 x2 x3 x4 x5 x6).mix ⟨r.val / 128, by omega⟩ ⟨r.val % 128, by omega⟩ k * (parR x0 x1 x2 x3 x4 x5 x6).wout k j).symm
  refine congrArg₂ (· + ·) (Finset.sum_congr rfl fun x _ => ?_) (Finset.sum_congr rfl fun x _ => ?_)
  · refine congrArg₂ (· * ·) ?_ rfl
    refine Eq.trans ?_ (mix_low x0 x1 x2 x3 x4 x5 x6 _ _ x).symm
    exact (congrArg (fun r => val_main_v184 (F := Ideal) x0 x1 x2 (ix2 r x)) hr).trans (v184_at x0 x1 x2 x3 x4 x5 x6 _ _ x)
  · refine congrArg₂ (· * ·) ?_ rfl
    exact (v305_at x0 x1 x2 x3 x4 x5 x6 hs hq hk _ _ _ _ _).trans (mix_high x0 x1 x2 x3 x4 x5 x6 _ _ x).symm

end Cert.ReferenceIdeal.Read
end
-- ==== Proof.Finite.lean ====
/- The precondition, read: the attention's sinks and the two norms' gains are real numbers. -/
module

public import proofs.«01_k».proof.Defs
public import proofs.«01_k».proof.Proof.Algebra
public import Idealize.ShloMosaic.Lib.ReduceAll
public import Idealize.ShloMosaic.Lib.StableHlo.ReadAt

@[expose] public section

noncomputable section

namespace Cert.Pre_finite_head_parameters

open Idealize.ShloMosaic Cert.Mix

theorem facts : Facts := ⟨by decide, by decide, by decide, by decide, by decide⟩

instance : Subsingleton S_.Idx := ⟨fun _ _ => funext fun a => a.elim0⟩

theorem and_word {a b : BitVec 1} : IntOp.andi a b = 1#1 → a = 1#1 ∧ b = 1#1 := by revert a b; decide

/-- A value whose size is below infinity is a real number. -/
theorem real_of_lt {x : EReal} (h : FloatOps.cmpf (F := Ideal) (φ := .f32) .olt (FloatOps.absf (F := Ideal) (φ := .f32) x) (FloatOps.ofBits (F := Ideal) .f32 0x7F800000#32) = 1#1) : IsReal x := by
  have e : Ideal.ofBits .f32 0x7F800000#32 = ⊤ := by simp [Ideal.ofBits, Ideal.ieee]
  have h' : BitVec.ofBool (decide (x ⊔ -x < Ideal.ofBits .f32 0x7F800000#32)) = 1#1 := h
  refine .of_abs_lt (by_contra fun hn => ?_)
  rw [e, decide_eq_false hn] at h'
  exact absurd h' (by decide)

variable [Facts]

theorem real (x0 : FVec Ideal S8192x2048 .f32) (x1 : FVec Ideal S1x2048 .f32) (x2 : FVec Ideal S2048x5632 .bf16) (x3 : FVec Ideal S2048x2048 .bf16)
    (x4 : FVec Ideal S8 .f32) (x5 x6 : FVec Ideal S1x128 .f32) (h : fn (F := Ideal) x0 x1 x2 x3 x4 x5 x6 = fun _ => 1#1) :
    (∀ i, IsReal (x4 i)) ∧ (∀ i, IsReal (x5 i)) ∧ ∀ i, IsReal (x6 i) := by
  have h := congrFun h (Shape.Idx.first Facts.h_S_)
  obtain ⟨h, h6⟩ := and_word h
  obtain ⟨h4, h5⟩ := and_word h
  exact ⟨fun i => real_of_lt (Host.reduce_andi_all _ _ _ _ _ h4 i), fun i => real_of_lt (Host.reduce_andi_all _ _ _ _ _ h5 i),
    fun i => real_of_lt (Host.reduce_andi_all _ _ _ _ _ h6 i)⟩

end Cert.Pre_finite_head_parameters
end
-- ==== Proof.FfnBase.lean ====
module

public import proofs.«01_k».proof.Proof.Gen.Kernel2Ideal.Frame
public import proofs.«01_k».proof.Proof.Gen.Kernel2Ideal.Skeleton
public import Idealize.ShloMosaic.Lib.Batch
public import Idealize.ShloMosaic.Lib.VecWindow

@[expose] public section

set_option maxRecDepth 16384
set_option backward.isDefEq.respectTransparency.types false

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

/-- The counters' place in the user algebra. -/
abbrev EC : UEmb Counters 𝕄 := countersEmb (U := Pipeline.UD sig nD τ)

/-- The tile buffer the copies fill, and the input rows left in HBM. -/
abbrev mXb : Memref sig .tc .vmem S1024x2048 .f32 := Memref.whole cc0_scratch1
abbrev mX : Memref sig .tc .hbm S8192x2048 .f32 := Memref.whole main_arg0
abbrev mH : Memref sig .tc .vmem S1024x2048 .bf16 := Memref.whole cc0_scratch0

abbrev xbL (c : Dev nD) := mXb.view.loc (c : Thread nD τ)
abbrev xL (c : Dev nD) := mX.view.loc (c : Thread nD τ)

/-- The 128 rows a copy reads and fills. -/
abbrev srcM (off : Fin 2 → ℕ) (h : ∀ a, off a + S128x2048.size a ≤ S8192x2048.size a) : Memref sig .tc .hbm S128x2048 .f32 :=
  mX.slice (Rect.unit (s := S8192x2048) off S128x2048.size h) (fun _ => rfl)
abbrev dstM (off : Fin 2 → ℕ) (h : ∀ a, off a + S128x2048.size a ≤ S1024x2048.size a) : Memref sig .tc .vmem S128x2048 .f32 :=
  mXb.slice (Rect.unit (s := S1024x2048) off S128x2048.size h) (fun _ => rfl)

/-- The rows `lo … hi - 1` of the tile buffer. -/
def bandB (lo hi : ℕ) : Finset S1024x2048.Idx := Finset.univ.filter fun p => lo ≤ (p 0).val ∧ (p 0).val < hi
/-- The rows `lo … hi - 1` of the input. -/
def bandX (lo hi : ℕ) : Finset S8192x2048.Idx := Finset.univ.filter fun p => lo ≤ (p 0).val ∧ (p 0).val < hi
/-- Every row of the input but `lo … hi - 1`. -/
def outX (lo hi : ℕ) : Finset S8192x2048.Idx := Finset.univ.filter fun p => ¬ (lo ≤ (p 0).val ∧ (p 0).val < hi)

theorem memB (lo hi : ℕ) (p : S1024x2048.Idx) : p ∈ bandB lo hi ↔ lo ≤ (p 0).val ∧ (p 0).val < hi := by
  unfold bandB; rw [Finset.mem_filter]; exact ⟨fun h => h.2, fun h => ⟨Finset.mem_univ _, h⟩⟩
theorem memX (lo hi : ℕ) (p : S8192x2048.Idx) : p ∈ bandX lo hi ↔ lo ≤ (p 0).val ∧ (p 0).val < hi := by
  unfold bandX; rw [Finset.mem_filter]; exact ⟨fun h => h.2, fun h => ⟨Finset.mem_univ _, h⟩⟩
theorem memO (lo hi : ℕ) (p : S8192x2048.Idx) : p ∈ outX lo hi ↔ ¬ (lo ≤ (p 0).val ∧ (p 0).val < hi) := by
  unfold outX; rw [Finset.mem_filter]; exact ⟨fun h => h.2, fun h => ⟨Finset.mem_univ _, h⟩⟩

/-- Tile `i` of the input. -/
def xtile (X : S8192x2048.Idx → Elt F .f32) (i : ℕ) : S1024x2048.Idx → Elt F .f32 := fun p =>
  X (fun | 0 => ⟨(1024 * i + (p 0).val) % 8192, Nat.mod_lt _ (by decide)⟩ | 1 => p 1)

/-- What copy `r` of tile `i` hands back: its rows of the tile buffer, filled, and its rows of the input. -/
def deliv (c : Dev nD) (X : S8192x2048.Idx → Elt F .f32) (i : ℕ) (r : Fin 8) : sProp 𝕄 :=
  iprop((xbL c ↦[bandB (128 * r.val) (128 * r.val + 128)]{fullShare} xtile X i)
    ∗ (xL c ↦[bandX (1024 * i + 128 * r.val) (1024 * i + 128 * r.val + 128)]{fullShare} X))

instance deliv_storable (c : Dev nD) (X : S8192x2048.Idx → Elt F .f32) (i : ℕ) (r : Fin 8) :
    Storable (upEmb : UEmb _ 𝕄) (deliv c X i r) := by unfold deliv; infer_instance

/-- One copy's credit. -/
abbrev NB : ℕ := (mXb.slice (Rect.unit (s := S1024x2048) ![0, 0] S128x2048.size inb_S1024x2048_S128x2048_0_0) (fun _ => rfl)).view.amount (SemLoc.dma (sig := sig) cc0_scratch2.sem)

/-- The copies of tile `i`, `k` of them issued. -/
abbrev batch (c : Dev nD) (X : S8192x2048.Idx → Elt F .f32) (i k : ℕ) : sProp 𝕄 :=
  Transfers.Batch EC (c : Thread nD τ) (.dma cc0_scratch2.sem) () NB (deliv c X i) k 0

theorem setB (k : ℕ) (inb : ∀ a, (![128 * k, 0] : Fin 2 → ℕ) a + S128x2048.size a ≤ S1024x2048.size a) :
    ((dstM ![128 * k, 0] inb).view.set : Finset S1024x2048.Idx)
      = bandB (128 * k) (128 * k + 128) := by
  show (mXb.view.slice _).set = _
  rw [View.set_slice]
  ext p
  unfold bandB
  rw [Finset.mem_filter, Finset.mem_map]
  constructor
  · rintro ⟨q, hq, rfl⟩
    rw [Rect.mem_set_unit] at hq
    have h0 := hq 0
    exact ⟨Finset.mem_univ _, h0⟩
  · rintro ⟨-, h⟩
    refine ⟨p, ?_, rfl⟩
    rw [Rect.mem_set_unit]
    intro a
    fin_cases a
    · exact h
    · exact ⟨Nat.zero_le _, by have := (p 1).isLt; show (p 1).val < 0 + 2048; rw [Nat.zero_add]; exact this⟩

theorem setX (o : ℕ) (inb : ∀ a, (![o, 0] : Fin 2 → ℕ) a + S128x2048.size a ≤ S8192x2048.size a) :
    ((srcM ![o, 0] inb).view.set : Finset S8192x2048.Idx)
      = bandX o (o + 128) := by
  show (mX.view.slice _).set = _
  rw [View.set_slice]
  ext p
  unfold bandX
  rw [Finset.mem_filter, Finset.mem_map]
  constructor
  · rintro ⟨q, hq, rfl⟩
    rw [Rect.mem_set_unit] at hq
    have h0 := hq 0
    exact ⟨Finset.mem_univ _, h0⟩
  · rintro ⟨-, h⟩
    refine ⟨p, ?_, rfl⟩
    rw [Rect.mem_set_unit]
    intro a
    fin_cases a
    · exact h
    · exact ⟨Nat.zero_le _, by have := (p 1).isLt; show (p 1).val < 0 + 2048; rw [Nat.zero_add]; exact this⟩

/-- A copy of rows `1024 i + 128 k …` of the input fills its rows of the tile buffer with the tile. -/
theorem landed (X : S8192x2048.Idx → Elt F .f32) (i k : ℕ) (hi : i < 8) (hk : k < 8)
    (inb : ∀ a, (![128 * k, 0] : Fin 2 → ℕ) a + S128x2048.size a ≤ S1024x2048.size a)
    (inb' : ∀ a, (![1024 * i + 128 * k, 0] : Fin 2 → ℕ) a + S128x2048.size a ≤ S8192x2048.size a) (g : S1024x2048.Idx → Elt F .f32)
    (p : S1024x2048.Idx) (hp : p ∈ bandB (128 * k) (128 * k + 128)) :
    ((dstM ![128 * k, 0] inb).view.write (Elt F) g
      (ReadAs.same.apply ((srcM ![1024 * i + 128 * k, 0] inb').view.read (Elt F) X))
      Finset.univ : S1024x2048.Idx → Elt F .f32) p = xtile X i p := by
  have hs := setB k inb
  rw [← hs] at hp
  obtain ⟨x, -, hx⟩ := Finset.mem_map.mp hp
  subst hx
  refine (View.write_emb_of_mem _ _ (Finset.mem_univ x)).trans ?_
  show X _ = X _
  congr 1
  funext a
  have hx0 : (x 0).val < 128 := (x 0).isLt
  fin_cases a
  · apply Fin.ext
    show 1024 * i + 128 * k + 1 * (x 0).val = (1024 * i + (128 * k + 1 * (x 0).val)) % 8192
    rw [Nat.mod_eq_of_lt (by omega)]; omega
  · rfl

theorem splitB (c : Dev nD) (g : S1024x2048.Idx → Elt F .f32) (k : ℕ) (hk : k < 8) :
    (xbL c ↦[bandB (128 * k) 1024]{fullShare} g : sProp 𝕄)
      ⊣⊢ iprop((xbL c ↦[bandB (128 * k) (128 * k + 128)]{fullShare} g) ∗ xbL c ↦[bandB (128 * (k + 1)) 1024]{fullShare} g) := by
  have hu : bandB (128 * k) 1024 = bandB (128 * k) (128 * k + 128) ∪ bandB (128 * (k + 1)) 1024 := by
    ext p; simp only [bandB, Finset.mem_union, Finset.mem_filter, Finset.mem_univ, true_and]; omega
  have hd : Disjoint (bandB (128 * k) (128 * k + 128)) (bandB (128 * (k + 1)) 1024) := by
    rw [Finset.disjoint_left]; intro p h1 h2
    simp only [bandB, Finset.mem_filter, Finset.mem_univ, true_and] at h1 h2; omega
  rw [hu]
  exact pointsTo_union hd

theorem splitX (c : Dev nD) (X : S8192x2048.Idx → Elt F .f32) (o k : ℕ) :
    (xL c ↦[outX o (o + 128 * k)]{fullShare} X : sProp 𝕄)
      ⊣⊢ iprop((xL c ↦[bandX (o + 128 * k) (o + 128 * k + 128)]{fullShare} X) ∗ xL c ↦[outX o (o + 128 * (k + 1))]{fullShare} X) := by
  have hu : outX o (o + 128 * k) = bandX (o + 128 * k) (o + 128 * k + 128) ∪ outX o (o + 128 * (k + 1)) := by
    ext p; simp only [bandX, outX, Finset.mem_union, Finset.mem_filter, Finset.mem_univ, true_and]; omega
  have hd : Disjoint (bandX (o + 128 * k) (o + 128 * k + 128)) (outX o (o + 128 * (k + 1))) := by
    rw [Finset.disjoint_left]; intro p h1 h2
    simp only [bandX, outX, Finset.mem_filter, Finset.mem_univ, true_and] at h1 h2; omega
  rw [hu]
  exact pointsTo_union hd

/-- Copy `k` of tile `i` starts: its rows leave the two buffers for the batch. -/
theorem issue_wp (c : Dev nD) (X : S8192x2048.Idx → Elt F .f32) (i k : ℕ) (hi : i < 8) (hk : k < 8) (g : S1024x2048.Idx → Elt F .f32)
    (off : Fin 2 → ℕ) (off' : Fin 2 → ℕ) (ho : off = ![1024 * i + 128 * k, 0]) (ho' : off' = ![128 * k, 0]) (inb : ∀ a, off a + S128x2048.size a ≤ S8192x2048.size a)
    (inb' : ∀ a, off' a + S128x2048.size a ≤ S1024x2048.size a)
    {hsrc : (srcM off inb).view.WordExact}
    {hdst : (dstM off' inb').view.WordExact}
    {hsem}
    {α : Type} {kont : PUnit → Prog (TpuEff nD τ sig (Elt F) Λ₀ .tc) α} {Q : α → sProp 𝕄} :
    iprop((xbL c ↦[bandB (128 * k) 1024]{fullShare} g) ∗ (xL c ↦[outX (1024 * i) (1024 * i + 128 * k)]{fullShare} X) ∗ batch c X i k)
      ⊢ iprop((iprop((xbL c ↦[bandB (128 * (k + 1)) 1024]{fullShare} g) ∗ (xL c ↦[outX (1024 * i) (1024 * i + 128 * (k + 1))]{fullShare} X) ∗ batch c X i (k + 1))
          -∗ wp frame (wpE (defs₀ (F := F)) Variants.none (c : Thread nD τ) none) Set.univ (kont ⟨⟩) Q)
        -∗ wp frame (wpE (defs₀ (F := F)) Variants.none (c : Thread nD τ) none) Set.univ
            (.op (.enqueueDmaAs (srcM off inb)
              (.here (dstM off' inb')) .same (.dma cc0_scratch2.sem) hsrc hdst hsem) kont) Q) := by
  subst ho ho'
  iintro ⟨HB, HX, Hb⟩ Hk
  ihave HB2 := (splitB c g k hk).1 $$ HB
  icases HB2 with ⟨HB1, HB2⟩
  ihave HX2 := (splitX c X (1024 * i) k).1 $$ HX
  icases HX2 with ⟨HX1, HX2⟩
  iapply (Transfers.wp_dmaBatch EC Variants.none (c : Thread nD τ) none (q := fullShare) (src := srcM _ inb) (dst := dstM _ inb') (fs := X) (fd := g)
    (Sd := bandB (128 * k) (128 * k + 128)) (D := deliv c X i) (j := k) (u := 0) () NB rfl
    (le_of_eq (setB k inb')) hk (Nat.zero_le _) ?_) $$ [HB1 HX1 Hb]
  · unfold deliv
    have e1 : ((xbL c ↦[bandB (128 * k) (128 * k + 128)]{fullShare} ((dstM ![128 * k, 0] inb').view.write (Elt F) g
        (ReadAs.same.apply ((srcM ![1024 * i + 128 * k, 0] inb).view.read (Elt F) X)) Finset.univ)) : sProp 𝕄)
        = (xbL c ↦[bandB (128 * k) (128 * k + 128)]{fullShare} xtile X i) :=
      pointsTo_congr fun p hp => landed X i k hi hk inb' inb g p hp
    have e2 : ((xL c ↦[(srcM ![1024 * i + 128 * k, 0] inb).view.set]{fullShare} X) : sProp 𝕄)
        = (xL c ↦[bandX (1024 * i + 128 * k) (1024 * i + 128 * k + 128)]{fullShare} X) := by rw [setX]
    rw [← e1, ← e2]
  · isplitl [HX1]
    · have e2 : ((xL c ↦[(srcM ![1024 * i + 128 * k, 0] inb).view.set]{fullShare} X) : sProp 𝕄)
          = (xL c ↦[bandX (1024 * i + 128 * k) (1024 * i + 128 * k + 128)]{fullShare} X) := by rw [setX]
      iapply (Entails.of_eq e2.symm) $$ HX1
    isplitl [HB1]; · iexact HB1
    iexact Hb
  iintro Hb
  iapply Hk
  isplitl [HB2]; · iexact HB2
  isplitl [HX2]; · iexact HX2
  iexact Hb

/-- The eight deliveries together are the tile in the buffer and the input back whole. -/
theorem gather (c : Dev nD) (X : S8192x2048.Idx → Elt F .f32) (i : ℕ) (hi : i < 8) :
    iprop((xL c ↦[outX (1024 * i) (1024 * i + 1024)]{fullShare} X) ∗ bigSep Finset.univ (fun r => deliv c X i r))
      ⊢ (iprop((xbL c ↦{fullShare} xtile X i) ∗ (xL c ↦{fullShare} X)) : sProp 𝕄) := by
  have hB : (bigSep Finset.univ (fun r : Fin 8 => xbL c ↦[bandB (128 * r.val) (128 * r.val + 128)]{fullShare} xtile X i) : sProp 𝕄)
      = (xbL c ↦{fullShare} xtile X i) := by
    have hU : (Finset.univ.biUnion fun r : Fin 8 => bandB (128 * r.val) (128 * r.val + 128)) = Finset.univ := by
      refine Finset.eq_univ_iff_forall.mpr fun p => ?_
      have hp : (p 0).val < 1024 := (p 0).isLt
      refine Finset.mem_biUnion.mpr ⟨⟨(p 0).val / 128, by omega⟩, Finset.mem_univ _, (memB _ _ p).mpr ⟨?_, ?_⟩⟩
      · show 128 * ((p 0).val / 128) ≤ _; omega
      · show _ < 128 * ((p 0).val / 128) + 128; omega
    have h := pointsTo_biUnion (Ix := Unit) (Name := ℕ) (U := Pipeline.UD sig nD τ) (Lvl := ℕ) (ℓ := xbL c) (q := fullShare) (f := xtile X i)
      (Finset.univ : Finset (Fin 8)) (fun r => bandB (128 * r.val) (128 * r.val + 128)) (fun r _ r' _ hr => by
        refine Finset.disjoint_left.mpr fun p h1 h2 => ?_
        have h1 := (memB _ _ p).mp h1; have h2 := (memB _ _ p).mp h2
        exact hr (Fin.ext (by omega)))
    rw [← h]
    exact congrArg (fun S => (xbL c ↦[S]{fullShare} xtile X i : sProp 𝕄)) hU
  have hX : (bigSep Finset.univ (fun r : Fin 8 => xL c ↦[bandX (1024 * i + 128 * r.val) (1024 * i + 128 * r.val + 128)]{fullShare} X) : sProp 𝕄)
      = (xL c ↦[bandX (1024 * i) (1024 * i + 1024)]{fullShare} X) := by
    have hU : (Finset.univ.biUnion fun r : Fin 8 => bandX (1024 * i + 128 * r.val) (1024 * i + 128 * r.val + 128)) = bandX (1024 * i) (1024 * i + 1024) := by
      refine Finset.ext fun p => ?_
      rw [Finset.mem_biUnion, memX]
      constructor
      · rintro ⟨r, -, h⟩
        have h := (memX _ _ p).mp h
        have := r.isLt
        omega
      · rintro ⟨h1, h2⟩
        refine ⟨⟨((p 0).val - 1024 * i) / 128, by omega⟩, Finset.mem_univ _, (memX _ _ p).mpr ⟨?_, ?_⟩⟩
        · show 1024 * i + 128 * (((p 0).val - 1024 * i) / 128) ≤ _; omega
        · show _ < 1024 * i + 128 * (((p 0).val - 1024 * i) / 128) + 128; omega
    have h := pointsTo_biUnion (Ix := Unit) (Name := ℕ) (U := Pipeline.UD sig nD τ) (Lvl := ℕ) (ℓ := xL c) (q := fullShare) (f := X)
      (Finset.univ : Finset (Fin 8)) (fun r => bandX (1024 * i + 128 * r.val) (1024 * i + 128 * r.val + 128)) (fun r _ r' _ hr => by
        refine Finset.disjoint_left.mpr fun p h1 h2 => ?_
        have h1 := (memX _ _ p).mp h1; have h2 := (memX _ _ p).mp h2
        exact hr (Fin.ext (by omega)))
    rw [← h]
    exact congrArg (fun S => (xL c ↦[S]{fullShare} X : sProp 𝕄)) hU
  have hu : (Finset.univ : Finset S8192x2048.Idx) = bandX (1024 * i) (1024 * i + 1024) ∪ outX (1024 * i) (1024 * i + 1024) := by
    refine (Finset.eq_univ_iff_forall.mpr fun p => ?_).symm
    rw [Finset.mem_union, memX, memO]; exact em _
  have hd : Disjoint (bandX (1024 * i) (1024 * i + 1024)) (outX (1024 * i) (1024 * i + 1024)) :=
    Finset.disjoint_left.mpr fun p h1 h2 => (memO _ _ p).mp h2 ((memX _ _ p).mp h1)
  have hj : (xL c ↦[(Finset.univ : Finset S8192x2048.Idx)]{fullShare} X : sProp 𝕄) ⊣⊢ iprop((xL c ↦[bandX (1024 * i) (1024 * i + 1024)]{fullShare} X) ∗ xL c ↦[outX (1024 * i) (1024 * i + 1024)]{fullShare} X) := by
    rw [hu]; exact pointsTo_union hd
  have hs : (bigSep Finset.univ (fun r : Fin 8 => deliv c X i r) : sProp 𝕄)
      = iprop((xbL c ↦{fullShare} xtile X i) ∗ xL c ↦[bandX (1024 * i) (1024 * i + 1024)]{fullShare} X) := by
    rw [← hB, ← hX]; exact bigSep_sep _ _ _
  rw [hs]
  iintro ⟨HO, HB, HX⟩
  isplitl [HB]; · iexact HB
  iapply hj.2
  isplitl [HX]; · iexact HX
  iexact HO

/-- `gather` at the deliveries one by one. -/
theorem gather8 (c : Dev nD) (X : S8192x2048.Idx → Elt F .f32) (i : ℕ) (hi : i < 8) :
    iprop((xL c ↦[outX (1024 * i) (1024 * i + 128 * 8)]{fullShare} X) ∗ deliv c X i 0 ∗ deliv c X i 1 ∗ deliv c X i 2 ∗ deliv c X i 3
      ∗ deliv c X i 4 ∗ deliv c X i 5 ∗ deliv c X i 6 ∗ deliv c X i 7)
      ⊢ (iprop((xbL c ↦{fullShare} xtile X i) ∗ (xL c ↦{fullShare} X)) : sProp 𝕄) := by
  have h := gather c X i hi
  rw [bigSep_univ_eq_bigSepL [(0 : Fin 8), 1, 2, 3, 4, 5, 6, 7] (by decide) (by decide) (fun r => deliv c X i r)] at h
  exact h

/-- The eight copies of tile `i` in flight beside what they leave. -/
def flight (c : Dev nD) (X : S8192x2048.Idx → Elt F .f32) (i k : ℕ) : sProp 𝕄 :=
  iprop((∃ g : S1024x2048.Idx → Elt F .f32, xbL c ↦[bandB (128 * k) 1024]{fullShare} g)
    ∗ (xL c ↦[outX (1024 * i) (1024 * i + 128 * k)]{fullShare} X) ∗ batch c X i k)

/-- The buffers at rest: no copy in flight. -/
def rest (c : Dev nD) (X : S8192x2048.Idx → Elt F .f32) : sProp 𝕄 :=
  iprop((∃ g : S1024x2048.Idx → Elt F .f32, xbL c ↦{fullShare} g) ∗ (xL c ↦{fullShare} X) ∗ semVal ((c : Thread nD τ), SemLoc.dma cc0_scratch2.sem) 0)

theorem open_flight (c : Dev nD) (X : S8192x2048.Idx → Elt F .f32) (i : ℕ) :
    rest c X ⊢ |={Set.univ}=> flight c X i 0 := by
  unfold rest flight
  iintro ⟨⟨%g, HB⟩, HX, Hs⟩
  imod (Transfers.batch_alloc' (Lvl := ℕ) EC (c : Thread nD τ) () NB (deliv c X i) (sm := .dma cc0_scratch2.sem) (E := Set.univ)) $$ Hs with Hb
  imodintro
  have eB : bandB (128 * 0) 1024 = Finset.univ := by
    ext p; have := (p 0).isLt
    simp only [bandB, Finset.mem_filter, Finset.mem_univ, true_and, iff_true]
    exact ⟨by omega, this⟩
  have eX : outX (1024 * i) (1024 * i + 128 * 0) = Finset.univ := by
    ext p
    simp only [outX, Finset.mem_filter, Finset.mem_univ, true_and, iff_true]; omega
  rw [eB, eX]
  isplitl [HB]; · iexists g; iexact HB
  isplitl [HX]; · iexact HX
  iexact Hb

end Cert.Kernel2Ideal.Hand
end
-- ==== Proof.FfnRunD.lean ====
module

public import proofs.«01_k».proof.Proof.Gen.Kernel2Ideal.Frame
public import proofs.«01_k».proof.Proof.Gen.Kernel2Ideal.Skeleton
public import proofs.«01_k».proof.Proof.FfnBase

@[expose] public section

set_option maxRecDepth 16384
set_option backward.isDefEq.respectTransparency.types false

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

/-- The first condition of the body: the first point of all. -/
abbrev cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

theorem step_eq {h h' : Vec F S1024x2048 .bf16} {wg wg' wu wu' : Vec F S2048x512 .f32} {p p' : Vec F S1024x2048 .f32} {wd wd' : Vec F S512x2048 .f32}
    (e1 : h = h') (e2 : wg = wg') (e3 : wu = wu') (e4 : p = p') (e5 : wd = wd') :
    k0_pay1 (k0_pay11 h wg wu) (k0_pay12 p) wd = k0_pay1 (k0_pay11 h' wg' wu') (k0_pay12 p') wd' := by
  subst e1 e2 e3 e4 e5; rfl

/-- A point that neither reads the tile nor starts a copy. -/
theorem run_D (c : Dev nD) (i : grid0.Coords) (arg3 : Memref sig .tc .vmem S1x2048 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S512x2048 .f32) (harg6 : arg6.IsWhole) (arg7 : Memref sig .tc .vmem S1024x2048 .f32) (harg7 : arg7.IsWhole)
    (G : Vec F S1x2048 .f32) (WG WU : Vec F S2048x512 .f32) (WD : Vec F S512x2048 .f32) (P : Vec F S1024x2048 .f32) (H : Vec F S1024x2048 .bf16)
    (h1 : ¬ cond1 i = 1#1) (h2 : ¬ k0_cond2 i = 1#1) (h3 : ¬ k0_cond3 i = 1#1) (W : Waits sig Unit) (K : PUnit → sProp 𝕄) :
    iprop(owns (c : Thread nD τ) arg3 fullShare G ∗ owns (c : Thread nD τ) arg4 fullShare WG ∗ owns (c : Thread nD τ) arg5 fullShare WU ∗ owns (c : Thread nD τ) arg6 fullShare WD ∗ owns (c : Thread nD τ) arg7 fullShare P ∗ owns (c : Thread nD τ) mH fullShare H
      ∗ (iprop(owns (c : Thread nD τ) arg3 fullShare G ∗ owns (c : Thread nD τ) arg4 fullShare WG ∗ owns (c : Thread nD τ) arg5 fullShare WU ∗ owns (c : Thread nD τ) arg6 fullShare WD ∗ owns (c : Thread nD τ) arg7 fullShare (k0_pay1 (k0_pay11 H WG WU) (k0_pay12 P) WD) ∗ owns (c : Thread nD τ) mH fullShare H) -∗ K ⟨⟩))
    ⊢ wp frame (wpE (defs₀ (F := F)) Variants.none c none) Set.univ (cc0_ffn i mX (Memref.isWhole_whole _) arg3 harg3 arg4 harg4 arg5 harg5 arg6 harg6 arg7 harg7 mH (Memref.isWhole_whole _) mXb (Memref.isWhole_whole _) cc0_scratch2) K := by
  simp only [cc0_ffn_eq_skeleton]; unfold cc0_ffn_skel
  simp only [k0_part6_eq_skeleton]; unfold k0_part6_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7
  have hmH : mH.IsWhole := Memref.isWhole_whole _
  obtain rfl := hmH.eq_unread hf8
  sl_exec (disch := first | sl_exact h1 | sl_exact h2 | sl_exact h3)
  sl_step
  iapply Hk
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]
  · iexists _; isplitr
    swap; · iexact H7
    ipureintro
    refine (View.read_writes_full _ _ _ _ _).trans ?_
    exact step_eq ((View.readAt_full _ _ _).trans hf8) ((View.readAt_full _ _ _).trans hf4) ((View.readAt_full _ _ _).trans hf5)
      ((View.readAt_full _ _ _).trans hf7) ((View.readAt_full _ _ _).trans hf6)
  iexists _; isplitr; · ipureintro; exact hmH.read_unread _
  iexact H8

end Cert.Kernel2Ideal.Hand
end
-- ==== Proof.FfnTiles.lean ====
module

public import proofs.«01_k».proof.Proof.Gen.Kernel2Ideal.Frame
public import proofs.«01_k».proof.Proof.Gen.Kernel2Ideal.Skeleton
public import proofs.«01_k».proof.Proof.FfnRunD

@[expose] public section

set_option maxRecDepth 16384
set_option backward.isDefEq.respectTransparency.types false

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

/-- Rows `128 r … 128 r + 127` of tile `i`. -/
def chunk (X : S8192x2048.Idx → Elt F .f32) (i r : ℕ) : Vec F S128x2048 .f32 := fun x =>
  X (fun | 0 => ⟨(1024 * i + 128 * r + (x 0).val) % 8192, Nat.mod_lt _ (by decide)⟩ | 1 => x 1)

/-- The normed rows of tile `i`, chunk by chunk. -/
def hval (X : S8192x2048.Idx → Elt F .f32) (G : Vec F S1x2048 .f32) (i : ℕ) : Vec F S1024x2048 .bf16 := fun y =>
  k0_pay2 (chunk X i ((y 0).val / 128)) G (fun | 0 => ⟨(y 0).val % 128, Nat.mod_lt _ (by decide)⟩ | 1 => y 1)

/-- Eight stripes of 128 rows that agree with a plane read back as that plane. -/
theorem read_stripes {κ : Kind} {e : EltTy} (v : View sig κ .vmem S1024x2048 e) (f : v.ty.Contents (Elt F)) (P : S1024x2048.Idx → Elt F e)
    (L : List (View.Piece (Elt F) S1024x2048 e))
    (hc : ∀ y : S1024x2048.Idx, ∃ p ∈ L, y ∈ p.1.set)
    (hp : ∀ p ∈ L, ∀ x : p.1.shape.Idx, p.2 x = P (p.1.emb x)) : v.read (Elt F) (v.writes (Elt F) f L) = P :=
  funext fun y => View.read_writes_apply_of_pieces v f P L hp y (hc y)

/-- The eight stripes, named one by one. -/
theorem read_stripes8 {κ : Kind} {e : EltTy} (v : View sig κ .vmem S1024x2048 e) (f : v.ty.Contents (Elt F)) (P : S1024x2048.Idx → Elt F e)
    (w7 w6 w5 w4 w3 w2 w1 w0 : S128x2048.Idx → Elt F e)
    (h7 : ∀ x : S128x2048.Idx, w7 x = P ((Rect.unit (s := S1024x2048) ![896, 0] S128x2048.size inb_S1024x2048_S128x2048_896_0).emb x))
    (h6 : ∀ x : S128x2048.Idx, w6 x = P ((Rect.unit (s := S1024x2048) ![768, 0] S128x2048.size inb_S1024x2048_S128x2048_768_0).emb x))
    (h5 : ∀ x : S128x2048.Idx, w5 x = P ((Rect.unit (s := S1024x2048) ![640, 0] S128x2048.size inb_S1024x2048_S128x2048_640_0).emb x))
    (h4 : ∀ x : S128x2048.Idx, w4 x = P ((Rect.unit (s := S1024x2048) ![512, 0] S128x2048.size inb_S1024x2048_S128x2048_512_0).emb x))
    (h3 : ∀ x : S128x2048.Idx, w3 x = P ((Rect.unit (s := S1024x2048) ![384, 0] S128x2048.size inb_S1024x2048_S128x2048_384_0).emb x))
    (h2 : ∀ x : S128x2048.Idx, w2 x = P ((Rect.unit (s := S1024x2048) ![256, 0] S128x2048.size inb_S1024x2048_S128x2048_256_0).emb x))
    (h1 : ∀ x : S128x2048.Idx, w1 x = P ((Rect.unit (s := S1024x2048) ![128, 0] S128x2048.size inb_S1024x2048_S128x2048_128_0).emb x))
    (h0 : ∀ x : S128x2048.Idx, w0 x = P ((Rect.unit (s := S1024x2048) ![0, 0] S128x2048.size inb_S1024x2048_S128x2048_0_0).emb x)) :
    v.read (Elt F) (v.writes (Elt F) f [⟨Rect.unit (s := S1024x2048) ![896, 0] S128x2048.size inb_S1024x2048_S128x2048_896_0, w7⟩, ⟨Rect.unit (s := S1024x2048) ![768, 0] S128x2048.size inb_S1024x2048_S128x2048_768_0, w6⟩, ⟨Rect.unit (s := S1024x2048) ![640, 0] S128x2048.size inb_S1024x2048_S128x2048_640_0, w5⟩, ⟨Rect.unit (s := S1024x2048) ![512, 0] S128x2048.size inb_S1024x2048_S128x2048_512_0, w4⟩, ⟨Rect.unit (s := S1024x2048) ![384, 0] S128x2048.size inb_S1024x2048_S128x2048_384_0, w3⟩, ⟨Rect.unit (s := S1024x2048) ![256, 0] S128x2048.size inb_S1024x2048_S128x2048_256_0, w2⟩, ⟨Rect.unit (s := S1024x2048) ![128, 0] S128x2048.size inb_S1024x2048_S128x2048_128_0, w1⟩, ⟨Rect.unit (s := S1024x2048) ![0, 0] S128x2048.size inb_S1024x2048_S128x2048_0_0, w0⟩]) = P := by
  refine read_stripes v f P _ (View.cover_of_tiled _ ![128, 2048] (by rfl)) ?_
  simp only [List.forall_mem_cons]
  exact ⟨h7, h6, h5, h4, h3, h2, h1, h0, fun _ h => absurd h List.not_mem_nil⟩

/-- A stripe of the tile. -/
theorem stripe_x (X : S8192x2048.Idx → Elt F .f32) (i r : ℕ) (off : Fin 2 → ℕ) (ho : off = ![128 * r, 0]) (inb : ∀ a, off a + S128x2048.size a ≤ S1024x2048.size a)
    (x : S128x2048.Idx) :
    View.readAt (Elt F) mXb.view (Rect.unit (s := S1024x2048) off S128x2048.size inb).toLoadRect (xtile X i) x = xtile X i ((Rect.unit (s := S1024x2048) off S128x2048.size inb).emb x) := by
  rw [View.readAt_apply]; rfl

theorem stripe_eq (X : S8192x2048.Idx → Elt F .f32) (i r : ℕ) (off : Fin 2 → ℕ) (ho : off = ![128 * r, 0]) (inb : ∀ a, off a + S128x2048.size a ≤ S1024x2048.size a) :
    View.readAt (Elt F) mXb.view (Rect.unit (s := S1024x2048) off S128x2048.size inb).toLoadRect (xtile X i) = chunk X i r := by
  subst ho
  funext x
  rw [View.readAt_apply]
  show X _ = X _
  congr 1
  funext a
  match a with
  | 0 => exact Fin.ext (by show (1024 * i + (128 * r + 1 * (x 0).val)) % 8192 = (1024 * i + 128 * r + (x 0).val) % 8192; congr 1; omega)
  | 1 => exact Fin.ext (by show 0 + 1 * (x 1).val = (x 1).val; omega)

/-- A stripe of the normed rows. -/
theorem stripe_h (X : S8192x2048.Idx → Elt F .f32) (G : Vec F S1x2048 .f32) (i r : ℕ) (off : Fin 2 → ℕ) (ho : off = ![128 * r, 0]) (inb : ∀ a, off a + S128x2048.size a ≤ S1024x2048.size a)
    (A : Vec F S128x2048 .f32) (B : Vec F S1x2048 .f32) (hA : A = chunk X i r) (hB : B = G) (x : S128x2048.Idx) :
    k0_pay2 A B x = hval X G i ((Rect.unit (s := S1024x2048) off S128x2048.size inb).emb x) := by
  subst ho hA hB
  have h0 : (x 0).val < 128 := (x 0).isLt
  have e0 : (((Rect.unit (s := S1024x2048) ![128 * r, 0] S128x2048.size inb).emb x) 0).val = 128 * r + 1 * (x 0).val := rfl
  unfold hval
  have q : (((Rect.unit (s := S1024x2048) ![128 * r, 0] S128x2048.size inb).emb x) 0).val / 128 = r := by rw [e0]; omega
  rw [q]
  congr 1
  funext a
  match a with
  | 0 => exact Fin.ext (by show (x 0).val = (128 * r + 1 * (x 0).val) % 128; omega)
  | 1 => exact Fin.ext (by show (x 1).val = 0 + 1 * (x 1).val; omega)

theorem pay_row7 (A : Vec F S128x2048 .f32) (B : Vec F S1x2048 .f32) : k0_pay10 A B = k0_pay2 A B := rfl

theorem pay_row6 (A : Vec F S128x2048 .f32) (B : Vec F S1x2048 .f32) : k0_pay9 A B = k0_pay2 A B := rfl

theorem pay_row5 (A : Vec F S128x2048 .f32) (B : Vec F S1x2048 .f32) : k0_pay8 A B = k0_pay2 A B := rfl

theorem pay_row4 (A : Vec F S128x2048 .f32) (B : Vec F S1x2048 .f32) : k0_pay7 A B = k0_pay2 A B := rfl

theorem pay_row3 (A : Vec F S128x2048 .f32) (B : Vec F S1x2048 .f32) : k0_pay6 A B = k0_pay2 A B := rfl

theorem pay_row2 (A : Vec F S128x2048 .f32) (B : Vec F S1x2048 .f32) : k0_pay5 A B = k0_pay2 A B := rfl

theorem pay_row1 (A : Vec F S128x2048 .f32) (B : Vec F S1x2048 .f32) : k0_pay4 A B (k0_pay3 A) = k0_pay2 A B := rfl

/-- What the eight normed stripes leave. -/
theorem hread {κ : Kind} (v : View sig κ .vmem S1024x2048 .bf16) (f : v.ty.Contents (Elt F)) (X : S8192x2048.Idx → Elt F .f32) (G : Vec F S1x2048 .f32) (i : ℕ)
    (A7 A6 A5 A4 A3 A2 A1 A0 : Vec F S128x2048 .f32) (B7 B6 B5 B4 B3 B2 B1 B0 : Vec F S1x2048 .f32)
    (a7 : A7 = chunk X i 7) (a6 : A6 = chunk X i 6) (a5 : A5 = chunk X i 5) (a4 : A4 = chunk X i 4) (a3 : A3 = chunk X i 3) (a2 : A2 = chunk X i 2) (a1 : A1 = chunk X i 1) (a0 : A0 = chunk X i 0)
    (b7 : B7 = G) (b6 : B6 = G) (b5 : B5 = G) (b4 : B4 = G) (b3 : B3 = G) (b2 : B2 = G) (b1 : B1 = G) (b0 : B0 = G) :
    v.read (Elt F) (v.writes (Elt F) f [⟨Rect.unit (s := S1024x2048) ![896, 0] S128x2048.size inb_S1024x2048_S128x2048_896_0, k0_pay10 A7 B7⟩, ⟨Rect.unit (s := S1024x2048) ![768, 0] S128x2048.size inb_S1024x2048_S128x2048_768_0, k0_pay9 A6 B6⟩, ⟨Rect.unit (s := S1024x2048) ![640, 0] S128x2048.size inb_S1024x2048_S128x2048_640_0, k0_pay8 A5 B5⟩, ⟨Rect.unit (s := S1024x2048) ![512, 0] S128x2048.size inb_S1024x2048_S128x2048_512_0, k0_pay7 A4 B4⟩, ⟨Rect.unit (s := S1024x2048) ![384, 0] S128x2048.size inb_S1024x2048_S128x2048_384_0, k0_pay6 A3 B3⟩, ⟨Rect.unit (s := S1024x2048) ![256, 0] S128x2048.size inb_S1024x2048_S128x2048_256_0, k0_pay5 A2 B2⟩, ⟨Rect.unit (s := S1024x2048) ![128, 0] S128x2048.size inb_S1024x2048_S128x2048_128_0, k0_pay4 A1 B1 (k0_pay3 A1)⟩, ⟨Rect.unit (s := S1024x2048) ![0, 0] S128x2048.size inb_S1024x2048_S128x2048_0_0, k0_pay2 A0 B0⟩]) = hval X G i := by
  rw [pay_row7, pay_row6, pay_row5, pay_row4, pay_row3, pay_row2, pay_row1]
  exact read_stripes8 v f (hval X G i) _ _ _ _ _ _ _ _ (fun x => stripe_h X G i 7 ![896, 0] rfl inb_S1024x2048_S128x2048_896_0 A7 B7 a7 b7 x) (fun x => stripe_h X G i 6 ![768, 0] rfl inb_S1024x2048_S128x2048_768_0 A6 B6 a6 b6 x) (fun x => stripe_h X G i 5 ![640, 0] rfl inb_S1024x2048_S128x2048_640_0 A5 B5 a5 b5 x) (fun x => stripe_h X G i 4 ![512, 0] rfl inb_S1024x2048_S128x2048_512_0 A4 B4 a4 b4 x) (fun x => stripe_h X G i 3 ![384, 0] rfl inb_S1024x2048_S128x2048_384_0 A3 B3 a3 b3 x) (fun x => stripe_h X G i 2 ![256, 0] rfl inb_S1024x2048_S128x2048_256_0 A2 B2 a2 b2 x) (fun x => stripe_h X G i 1 ![128, 0] rfl inb_S1024x2048_S128x2048_128_0 A1 B1 a1 b1 x) (fun x => stripe_h X G i 0 ![0, 0] rfl inb_S1024x2048_S128x2048_0_0 A0 B0 a0 b0 x)

/-- A load of a whole plane after writes that cover it. -/
theorem cov_of {κ : Kind} {e : EltTy} (v : View sig κ .vmem S1024x2048 e) (L : List (View.Piece (Elt F) S1024x2048 e)) (P : S1024x2048.Idx → Elt F e)
    (h : ∀ f, v.read (Elt F) (v.writes (Elt F) f L) = P) :
    v.readCov L (Rect.unit (s := S1024x2048) ![0, 0] S1024x2048.size inb_S1024x2048_S1024x2048_0_0).toLoadRect = P :=
  (View.readAt_full v _ _).trans (h _)

end Cert.Kernel2Ideal.Hand
end
-- ==== Proof.FfnRunA.lean ====
module

public import proofs.«01_k».proof.Proof.Gen.Kernel2Ideal.Frame
public import proofs.«01_k».proof.Proof.Gen.Kernel2Ideal.Skeleton
public import proofs.«01_k».proof.Proof.FfnRunD
public import proofs.«01_k».proof.Proof.FfnTiles

@[expose] public section

set_option maxRecDepth 16384
set_option backward.isDefEq.respectTransparency.types false

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

/-- The monad's bind is the program's. -/
theorem bind_eq_bind {E : Type → Type} {α β : Type} (p : Prog E α) (k : α → Prog E β) : p >>= k = p.bind k := rfl

set_option maxHeartbeats 1000000 in
/-- The first point: it starts the eight copies of tile 0 and takes them. -/
theorem run_A (c : Dev nD) (i : grid0.Coords) (arg3 : Memref sig .tc .vmem S1x2048 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S512x2048 .f32) (harg6 : arg6.IsWhole) (arg7 : Memref sig .tc .vmem S1024x2048 .f32) (harg7 : arg7.IsWhole)
    (G : Vec F S1x2048 .f32) (WG WU : Vec F S2048x512 .f32) (WD : Vec F S512x2048 .f32) (X : S8192x2048.Idx → Elt F .f32)
    (h1 : cond1 i = 1#1) (h2 : k0_cond2 i = 1#1) (h3 : ¬ k0_cond3 i = 1#1) (W : Waits sig Unit) (K : PUnit → sProp 𝕄) :
    iprop(owns (c : Thread nD τ) arg3 fullShare G ∗ owns (c : Thread nD τ) arg4 fullShare WG ∗ owns (c : Thread nD τ) arg5 fullShare WU ∗ owns (c : Thread nD τ) arg6 fullShare WD ∗ (∃ P, owns (c : Thread nD τ) arg7 fullShare P) ∗ (∃ H, owns (c : Thread nD τ) mH fullShare H)
      ∗ rest c X ∗ owes (c : Thread nD τ) 0 W
      ∗ (iprop(owns (c : Thread nD τ) arg3 fullShare G ∗ owns (c : Thread nD τ) arg4 fullShare WG ∗ owns (c : Thread nD τ) arg5 fullShare WU ∗ owns (c : Thread nD τ) arg6 fullShare WD ∗ owns (c : Thread nD τ) arg7 fullShare (k0_pay1 (k0_pay11 (hval X G 0) WG WU) (k0_pay12 (xtile X 0)) WD) ∗ owns (c : Thread nD τ) mH fullShare (hval X G 0)
        ∗ rest c X ∗ ∃ W, owes (c : Thread nD τ) 0 W) -∗ K ⟨⟩))
    ⊢ wp frame (wpE (defs₀ (F := F)) Variants.none c none) Set.univ (cc0_ffn i mX (Memref.isWhole_whole _) arg3 harg3 arg4 harg4 arg5 harg5 arg6 harg6 arg7 harg7 mH (Memref.isWhole_whole _) mXb (Memref.isWhole_whole _) cc0_scratch2) K := by
  simp only [cc0_ffn_eq_skeleton]; unfold cc0_ffn_skel
  simp only [k0_part6_eq_skeleton, k0_part1_eq_skeleton, k0_part2_eq_skeleton, k0_part3_eq_skeleton, k0_part4_eq_skeleton, k0_part5_eq_skeleton]; unfold k0_part6_skel
  unfold owns
  iintro ⟨⟨%f3, %hf3, H3⟩, ⟨%f4, %hf4, H4⟩, ⟨%f5, %hf5, H5⟩, ⟨%f6, %hf6, H6⟩, ⟨%P, %f7, -, H7⟩, ⟨%H, %f8, -, H8⟩, HR0, HO, Hk⟩
  obtain rfl := harg3.eq_unread hf3; obtain rfl := harg4.eq_unread hf4; obtain rfl := harg5.eq_unread hf5
  obtain rfl := harg6.eq_unread hf6
  imod (open_flight c X 0) $$ HR0 with HF
  unfold flight
  icases HF with ⟨⟨%g, HG⟩, HX, HB⟩
  sl_exec (disch := first | sl_exact h1 | sl_exact h2 | sl_exact h3)
  iapply (issue_wp c X 0 0 (by decide) (by decide) g ![0, 0] ![0, 0] rfl rfl _ _) $$ [HG HX HB]
  · isplitl [HG]; · iexact HG
    isplitl [HX]; · iexact HX
    iexact HB
  iintro ⟨HG, HX, HB⟩
  iapply (issue_wp c X 0 1 (by decide) (by decide) g ![128, 0] ![128, 0] rfl rfl _ _) $$ [HG HX HB]
  · isplitl [HG]; · iexact HG
    isplitl [HX]; · iexact HX
    iexact HB
  iintro ⟨HG, HX, HB⟩
  iapply (issue_wp c X 0 2 (by decide) (by decide) g ![256, 0] ![256, 0] rfl rfl _ _) $$ [HG HX HB]
  · isplitl [HG]; · iexact HG
    isplitl [HX]; · iexact HX
    iexact HB
  iintro ⟨HG, HX, HB⟩
  iapply (issue_wp c X 0 3 (by decide) (by decide) g ![384, 0] ![384, 0] rfl rfl _ _) $$ [HG HX HB]
  · isplitl [HG]; · iexact HG
    isplitl [HX]; · iexact HX
    iexact HB
  iintro ⟨HG, HX, HB⟩
  iapply (issue_wp c X 0 4 (by decide) (by decide) g ![512, 0] ![512, 0] rfl rfl _ _) $$ [HG HX HB]
  · isplitl [HG]; · iexact HG
    isplitl [HX]; · iexact HX
    iexact HB
  iintro ⟨HG, HX, HB⟩
  iapply (issue_wp c X 0 5 (by decide) (by decide) g ![640, 0] ![640, 0] rfl rfl _ _) $$ [HG HX HB]
  · isplitl [HG]; · iexact HG
    isplitl [HX]; · iexact HX
    iexact HB
  iintro ⟨HG, HX, HB⟩
  iapply (issue_wp c X 0 6 (by decide) (by decide) g ![768, 0] ![768, 0] rfl rfl _ _) $$ [HG HX HB]
  · isplitl [HG]; · iexact HG
    isplitl [HX]; · iexact HX
    iexact HB
  iintro ⟨HG, HX, HB⟩
  iapply (issue_wp c X 0 7 (by decide) (by decide) g ![896, 0] ![896, 0] rfl rfl _ _) $$ [HG HX HB]
  · isplitl [HG]; · iexact HG
    isplitl [HX]; · iexact HX
    iexact HB
  iintro ⟨HG, HX, HB⟩
  simp only [Prog.bind]
  rw [dif_pos h2]
  simp only [← bind_eq_bind]
  sl_exec (disch := first | sl_exact h1 | sl_exact h2 | sl_exact h3)
  ihave HR := (gather8 c X 0 (by decide)) $$ [HX HB_dst0 HB_src0 HB_dst1 HB_src1 HB_dst2 HB_src2 HB_dst3 HB_src3 HB_dst4 HB_src4 HB_dst5 HB_src5 HB_dst6 HB_src6 HB_dst7 HB_src7]
  · isplitl [HX]; · iexact HX
    isplitl [HB_dst0 HB_src0]
    · unfold deliv
      isplitl [HB_dst0]; · iexact HB_dst0
      iexact HB_src0
    isplitl [HB_dst1 HB_src1]
    · unfold deliv
      isplitl [HB_dst1]; · iexact HB_dst1
      iexact HB_src1
    isplitl [HB_dst2 HB_src2]
    · unfold deliv
      isplitl [HB_dst2]; · iexact HB_dst2
      iexact HB_src2
    isplitl [HB_dst3 HB_src3]
    · unfold deliv
      isplitl [HB_dst3]; · iexact HB_dst3
      iexact HB_src3
    isplitl [HB_dst4 HB_src4]
    · unfold deliv
      isplitl [HB_dst4]; · iexact HB_dst4
      iexact HB_src4
    isplitl [HB_dst5 HB_src5]
    · unfold deliv
      isplitl [HB_dst5]; · iexact HB_dst5
      iexact HB_src5
    isplitl [HB_dst6 HB_src6]
    · unfold deliv
      isplitl [HB_dst6]; · iexact HB_dst6
      iexact HB_src6
    unfold deliv
    isplitl [HB_dst7]; · iexact HB_dst7
    iexact HB_src7
  icases HR with ⟨HXb', HX⟩
  ihave HXb := (show (xbL c ↦{fullShare} xtile X 0 : sProp 𝕄) ⊢ (mXb.view.loc (c : Thread nD τ) ↦{fullShare} xtile X 0) from .rfl) $$ HXb'
  ihave H9 := (show ((View.whole cc0_scratch0).loc (c : Thread nD τ) ↦[(View.whole cc0_scratch0).set]{fullShare} f8 : sProp 𝕄) ⊢ (mH.view.loc (c : Thread nD τ) ↦[mH.view.set]{fullShare} f8) from .rfl) $$ H8
  sl_exec (disch := first | sl_exact h1 | sl_exact h2 | sl_exact h3)
  sl_step
  iapply Hk
  have hg := (View.readAt_full arg3.view (harg3.unread G) inb_S1x2048_S1x2048_0_0).trans hf3
  have e8 : ∀ f, mH.view.read (Elt F) (mH.view.writes (Elt F) f (run_A.sl.H9_8 arg3 harg3 G X)) = hval X G 0 := fun f =>
    hread mH.view f X G 0 _ _ _ _ _ _ _ _ _ _ _ _ _ _ _ _
      (stripe_eq X _ 7 ![896, 0] rfl inb_S1024x2048_S128x2048_896_0) (stripe_eq X _ 6 ![768, 0] rfl inb_S1024x2048_S128x2048_768_0) (stripe_eq X _ 5 ![640, 0] rfl inb_S1024x2048_S128x2048_640_0) (stripe_eq X _ 4 ![512, 0] rfl inb_S1024x2048_S128x2048_512_0) (stripe_eq X _ 3 ![384, 0] rfl inb_S1024x2048_S128x2048_384_0) (stripe_eq X _ 2 ![256, 0] rfl inb_S1024x2048_S128x2048_256_0) (stripe_eq X _ 1 ![128, 0] rfl inb_S1024x2048_S128x2048_128_0) (stripe_eq X _ 0 ![0, 0] rfl inb_S1024x2048_S128x2048_0_0) hg hg hg hg hg hg hg hg
  have e7 : ∀ f, arg7.view.read (Elt F) (arg7.view.writes (Elt F) f (run_A.sl.H7_8 X)) = xtile X 0 := fun f =>
    read_stripes8 arg7.view f (xtile X 0) _ _ _ _ _ _ _ _ (stripe_x X 0 7 ![896, 0] rfl inb_S1024x2048_S128x2048_896_0) (stripe_x X 0 6 ![768, 0] rfl inb_S1024x2048_S128x2048_768_0) (stripe_x X 0 5 ![640, 0] rfl inb_S1024x2048_S128x2048_640_0) (stripe_x X 0 4 ![512, 0] rfl inb_S1024x2048_S128x2048_512_0) (stripe_x X 0 3 ![384, 0] rfl inb_S1024x2048_S128x2048_384_0) (stripe_x X 0 2 ![256, 0] rfl inb_S1024x2048_S128x2048_256_0) (stripe_x X 0 1 ![128, 0] rfl inb_S1024x2048_S128x2048_128_0) (stripe_x X 0 0 ![0, 0] rfl inb_S1024x2048_S128x2048_0_0)
  have q1 : run_A.sl.v16 arg3 harg3 G X = hval X G 0 := cov_of mH.view _ _ e8
  have q4 : run_A.sl.v29 arg7 X = xtile X 0 := cov_of arg7.view _ _ e7
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]
  · iexists _; isplitr
    swap; · iexact H7
    ipureintro
    refine (View.read_writes_full _ _ _ _ _).trans ?_
    exact step_eq q1 ((View.readAt_full _ _ _).trans hf4) ((View.readAt_full _ _ _).trans hf5) q4 ((View.readAt_full _ _ _).trans hf6)
  isplitl [H9]
  · iexists _; isplitr
    swap; · iexact H9
    ipureintro
    exact e8 _
  isplitr [HO]
  · unfold rest
    isplitl [HXb]; · iexists _; iexact HXb
    isplitl [HX]; · iexact HX
    iexact HB
  iexists _; iexact HO

end Cert.Kernel2Ideal.Hand
end
-- ==== Proof.FfnRunB.lean ====
module

public import proofs.«01_k».proof.Proof.Gen.Kernel2Ideal.Frame
public import proofs.«01_k».proof.Proof.Gen.Kernel2Ideal.Skeleton
public import proofs.«01_k».proof.Proof.FfnRunD
public import proofs.«01_k».proof.Proof.FfnTiles

@[expose] public section

set_option maxRecDepth 16384
set_option backward.isDefEq.respectTransparency.types false

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

/-- A point that takes the tile whose copies were started before. -/
theorem run_B (c : Dev nD) (i : grid0.Coords) (arg3 : Memref sig .tc .vmem S1x2048 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S512x2048 .f32) (harg6 : arg6.IsWhole) (arg7 : Memref sig .tc .vmem S1024x2048 .f32) (harg7 : arg7.IsWhole)
    (G : Vec F S1x2048 .f32) (WG WU : Vec F S2048x512 .f32) (WD : Vec F S512x2048 .f32) (X : S8192x2048.Idx → Elt F .f32)
    (h1 : ¬ cond1 i = 1#1) (h2 : k0_cond2 i = 1#1) (h3 : ¬ k0_cond3 i = 1#1) (hi : (i 0).val < 8) (W : Waits sig Unit) (K : PUnit → sProp 𝕄) :
    iprop(owns (c : Thread nD τ) arg3 fullShare G ∗ owns (c : Thread nD τ) arg4 fullShare WG ∗ owns (c : Thread nD τ) arg5 fullShare WU ∗ owns (c : Thread nD τ) arg6 fullShare WD ∗ (∃ P, owns (c : Thread nD τ) arg7 fullShare P) ∗ (∃ H, owns (c : Thread nD τ) mH fullShare H)
      ∗ flight c X (i 0).val 8 ∗ owes (c : Thread nD τ) 0 W
      ∗ (iprop(owns (c : Thread nD τ) arg3 fullShare G ∗ owns (c : Thread nD τ) arg4 fullShare WG ∗ owns (c : Thread nD τ) arg5 fullShare WU ∗ owns (c : Thread nD τ) arg6 fullShare WD ∗ owns (c : Thread nD τ) arg7 fullShare (k0_pay1 (k0_pay11 (hval X G (i 0).val) WG WU) (k0_pay12 (xtile X (i 0).val)) WD) ∗ owns (c : Thread nD τ) mH fullShare (hval X G (i 0).val)
        ∗ rest c X ∗ ∃ W, owes (c : Thread nD τ) 0 W) -∗ K ⟨⟩))
    ⊢ wp frame (wpE (defs₀ (F := F)) Variants.none c none) Set.univ (cc0_ffn i mX (Memref.isWhole_whole _) arg3 harg3 arg4 harg4 arg5 harg5 arg6 harg6 arg7 harg7 mH (Memref.isWhole_whole _) mXb (Memref.isWhole_whole _) cc0_scratch2) K := by
  simp only [cc0_ffn_eq_skeleton]; unfold cc0_ffn_skel
  simp only [k0_part6_eq_skeleton, k0_part1_eq_skeleton, k0_part2_eq_skeleton, k0_part3_eq_skeleton, k0_part4_eq_skeleton, k0_part5_eq_skeleton]; unfold k0_part6_skel
  unfold owns flight
  iintro ⟨⟨%f3, %hf3, H3⟩, ⟨%f4, %hf4, H4⟩, ⟨%f5, %hf5, H5⟩, ⟨%f6, %hf6, H6⟩, ⟨%P, %f7, -, H7⟩, ⟨%H, %f8, -, H8⟩, ⟨-, HX, HB⟩, HO, Hk⟩
  obtain rfl := harg3.eq_unread hf3; obtain rfl := harg4.eq_unread hf4; obtain rfl := harg5.eq_unread hf5
  obtain rfl := harg6.eq_unread hf6
  sl_exec (disch := first | sl_exact h1 | sl_exact h2 | sl_exact h3)
  ihave HR := (gather8 c X (i 0).val hi) $$ [HX HB_dst0 HB_src0 HB_dst1 HB_src1 HB_dst2 HB_src2 HB_dst3 HB_src3 HB_dst4 HB_src4 HB_dst5 HB_src5 HB_dst6 HB_src6 HB_dst7 HB_src7]
  · isplitl [HX]; · iexact HX
    isplitl [HB_dst0 HB_src0]
    · unfold deliv
      isplitl [HB_dst0]; · iexact HB_dst0
      iexact HB_src0
    isplitl [HB_dst1 HB_src1]
    · unfold deliv
      isplitl [HB_dst1]; · iexact HB_dst1
      iexact HB_src1
    isplitl [HB_dst2 HB_src2]
    · unfold deliv
      isplitl [HB_dst2]; · iexact HB_dst2
      iexact HB_src2
    isplitl [HB_dst3 HB_src3]
    · unfold deliv
      isplitl [HB_dst3]; · iexact HB_dst3
      iexact HB_src3
    isplitl [HB_dst4 HB_src4]
    · unfold deliv
      isplitl [HB_dst4]; · iexact HB_dst4
      iexact HB_src4
    isplitl [HB_dst5 HB_src5]
    · unfold deliv
      isplitl [HB_dst5]; · iexact HB_dst5
      iexact HB_src5
    isplitl [HB_dst6 HB_src6]
    · unfold deliv
      isplitl [HB_dst6]; · iexact HB_dst6
      iexact HB_src6
    unfold deliv
    isplitl [HB_dst7]; · iexact HB_dst7
    iexact HB_src7
  icases HR with ⟨HXb', HX⟩
  ihave HXb := (show (xbL c ↦{fullShare} xtile X (i 0).val : sProp 𝕄) ⊢ (mXb.view.loc (c : Thread nD τ) ↦{fullShare} xtile X (i 0).val) from .rfl) $$ HXb'
  sl_exec (disch := first | sl_exact h1 | sl_exact h2 | sl_exact h3)
  sl_step
  iapply Hk
  have hg := (View.readAt_full arg3.view (harg3.unread G) inb_S1x2048_S1x2048_0_0).trans hf3
  have e8 : ∀ f, mH.view.read (Elt F) (mH.view.writes (Elt F) f (run_B.sl.H8_8 c i arg3 harg3 G X)) = hval X G (i 0).val := fun f =>
    hread mH.view f X G (i 0).val _ _ _ _ _ _ _ _ _ _ _ _ _ _ _ _
      (stripe_eq X _ 7 ![896, 0] rfl inb_S1024x2048_S128x2048_896_0) (stripe_eq X _ 6 ![768, 0] rfl inb_S1024x2048_S128x2048_768_0) (stripe_eq X _ 5 ![640, 0] rfl inb_S1024x2048_S128x2048_640_0) (stripe_eq X _ 4 ![512, 0] rfl inb_S1024x2048_S128x2048_512_0) (stripe_eq X _ 3 ![384, 0] rfl inb_S1024x2048_S128x2048_384_0) (stripe_eq X _ 2 ![256, 0] rfl inb_S1024x2048_S128x2048_256_0) (stripe_eq X _ 1 ![128, 0] rfl inb_S1024x2048_S128x2048_128_0) (stripe_eq X _ 0 ![0, 0] rfl inb_S1024x2048_S128x2048_0_0) hg hg hg hg hg hg hg hg
  have e7 : ∀ f, arg7.view.read (Elt F) (arg7.view.writes (Elt F) f (run_B.sl.H7_8 i X)) = xtile X (i 0).val := fun f =>
    read_stripes8 arg7.view f (xtile X (i 0).val) _ _ _ _ _ _ _ _ (stripe_x X (i 0).val 7 ![896, 0] rfl inb_S1024x2048_S128x2048_896_0) (stripe_x X (i 0).val 6 ![768, 0] rfl inb_S1024x2048_S128x2048_768_0) (stripe_x X (i 0).val 5 ![640, 0] rfl inb_S1024x2048_S128x2048_640_0) (stripe_x X (i 0).val 4 ![512, 0] rfl inb_S1024x2048_S128x2048_512_0) (stripe_x X (i 0).val 3 ![384, 0] rfl inb_S1024x2048_S128x2048_384_0) (stripe_x X (i 0).val 2 ![256, 0] rfl inb_S1024x2048_S128x2048_256_0) (stripe_x X (i 0).val 1 ![128, 0] rfl inb_S1024x2048_S128x2048_128_0) (stripe_x X (i 0).val 0 ![0, 0] rfl inb_S1024x2048_S128x2048_0_0)
  have q1 : run_B.sl.v16 c i arg3 harg3 G X = hval X G (i 0).val := cov_of mH.view _ _ e8
  have q4 : run_B.sl.v29 c i arg7 X = xtile X (i 0).val := cov_of arg7.view _ _ e7
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]
  · iexists _; isplitr
    swap; · iexact H7
    ipureintro
    refine (View.read_writes_full _ _ _ _ _).trans ?_
    exact step_eq q1 ((View.readAt_full _ _ _).trans hf4) ((View.readAt_full _ _ _).trans hf5) q4 ((View.readAt_full _ _ _).trans hf6)
  isplitl [H8]
  · iexists _; isplitr
    swap; · iexact H8
    ipureintro
    exact e8 _
  isplitr [HO]
  · unfold rest
    isplitl [HXb]; · iexists _; iexact HXb
    isplitl [HX]; · iexact HX
    iexact HB
  iexists _; iexact HO

end Cert.Kernel2Ideal.Hand
end
-- ==== Proof.FfnRunC.lean ====
module

public import proofs.«01_k».proof.Proof.Gen.Kernel2Ideal.Frame
public import proofs.«01_k».proof.Proof.Gen.Kernel2Ideal.Skeleton
public import proofs.«01_k».proof.Proof.FfnRunD
public import proofs.«01_k».proof.Proof.FfnTiles

@[expose] public section

set_option maxRecDepth 16384
set_option backward.isDefEq.respectTransparency.types false

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

/-- Where the copy of a later tile goes in the tile buffer. -/
theorem off2_eq : ∀ i : grid0.Coords, k0_cond3 i = 1#1 → k0_off2 i = ![128 * ((i 1).val - 2), 0] := by decide +kernel

theorem cond3_bounds : ∀ i : grid0.Coords, k0_cond3 i = 1#1 → 2 ≤ (i 1).val ∧ (i 1).val < 10 ∧ (i 0).val < 7 := by decide +kernel

/-- A point that starts one copy of the next tile. -/
theorem run_C (c : Dev nD) (i : grid0.Coords) (arg3 : Memref sig .tc .vmem S1x2048 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S512x2048 .f32) (harg6 : arg6.IsWhole) (arg7 : Memref sig .tc .vmem S1024x2048 .f32) (harg7 : arg7.IsWhole)
    (G : Vec F S1x2048 .f32) (WG WU : Vec F S2048x512 .f32) (WD : Vec F S512x2048 .f32) (P : Vec F S1024x2048 .f32) (H : Vec F S1024x2048 .bf16)
    (h1 : ¬ cond1 i = 1#1) (h2 : ¬ k0_cond2 i = 1#1) (h3 : k0_cond3 i = 1#1) (X : S8192x2048.Idx → Elt F .f32) (W : Waits sig Unit) (K : PUnit → sProp 𝕄) :
    iprop(owns (c : Thread nD τ) arg3 fullShare G ∗ owns (c : Thread nD τ) arg4 fullShare WG ∗ owns (c : Thread nD τ) arg5 fullShare WU ∗ owns (c : Thread nD τ) arg6 fullShare WD ∗ owns (c : Thread nD τ) arg7 fullShare P ∗ owns (c : Thread nD τ) mH fullShare H
      ∗ flight c X ((i 0).val + 1) ((i 1).val - 2)
      ∗ (iprop(owns (c : Thread nD τ) arg3 fullShare G ∗ owns (c : Thread nD τ) arg4 fullShare WG ∗ owns (c : Thread nD τ) arg5 fullShare WU ∗ owns (c : Thread nD τ) arg6 fullShare WD ∗ owns (c : Thread nD τ) arg7 fullShare (k0_pay1 (k0_pay11 H WG WU) (k0_pay12 P) WD) ∗ owns (c : Thread nD τ) mH fullShare H
        ∗ flight c X ((i 0).val + 1) ((i 1).val - 2 + 1)) -∗ K ⟨⟩))
    ⊢ wp frame (wpE (defs₀ (F := F)) Variants.none c none) Set.univ (cc0_ffn i mX (Memref.isWhole_whole _) arg3 harg3 arg4 harg4 arg5 harg5 arg6 harg6 arg7 harg7 mH (Memref.isWhole_whole _) mXb (Memref.isWhole_whole _) cc0_scratch2) K := by
  simp only [cc0_ffn_eq_skeleton]; unfold cc0_ffn_skel
  simp only [k0_part6_eq_skeleton]; unfold k0_part6_skel
  unfold owns flight
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨⟨%g, HG⟩, HX, HB⟩, Hk⟩
  obtain rfl := harg3.eq_unread hf3; obtain rfl := harg4.eq_unread hf4; obtain rfl := harg5.eq_unread hf5
  obtain rfl := harg6.eq_unread hf6; obtain rfl := harg7.eq_unread hf7
  have hmH : mH.IsWhole := Memref.isWhole_whole _
  obtain rfl := hmH.eq_unread hf8
  obtain ⟨j2, j10, i7⟩ := cond3_bounds i h3
  sl_exec (disch := first | sl_exact h1 | sl_exact h2 | sl_exact h3)
  iapply (issue_wp c X ((i 0).val + 1) ((i 1).val - 2) (by omega) (by omega) g (k0_off3 i) (k0_off2 i) ((k0_off3_eq i).trans (by congr 1; omega)) (off2_eq i h3) _ _) $$ [HG HX HB]
  · isplitl [HG]; · iexact HG
    isplitl [HX]; · iexact HX
    iexact HB
  iintro ⟨HG, HX, HB⟩
  sl_exec (disch := first | sl_exact h1 | sl_exact h2 | sl_exact h3)
  sl_step
  iapply Hk
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]
  · iexists _; isplitr
    swap; · iexact H7
    ipureintro
    refine (View.read_writes_full _ _ _ _ _).trans ?_
    exact step_eq ((View.readAt_full _ _ _).trans hf8) ((View.readAt_full _ _ _).trans hf4) ((View.readAt_full _ _ _).trans hf5)
      ((View.readAt_full _ _ _).trans hf7) ((View.readAt_full _ _ _).trans hf6)
  isplitl [H8]
  · iexists _; isplitr; · ipureintro; exact hmH.read_unread _
    iexact H8
  isplitl [HG]; · iexists g; iexact HG
  isplitl [HX]; · iexact HX
  iexact HB

end Cert.Kernel2Ideal.Hand
end
-- ==== Proof.FfnInv.lean ====
module

public import proofs.«01_k».proof.Proof.Gen.Kernel2Ideal.Frame
public import proofs.«01_k».proof.Proof.Gen.Kernel2Ideal.Skeleton
public import proofs.«01_k».proof.Proof.FfnRunA
public import proofs.«01_k».proof.Proof.FfnRunB
public import proofs.«01_k».proof.Proof.FfnRunC
public import proofs.«01_k».proof.Proof.FfnRunD

@[expose] public section

set_option maxRecDepth 16384
set_option backward.isDefEq.respectTransparency.types false

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

variable (m : (ℓ : Loc nD τ sig) → Buf (Elt F) ℓ) (ρ : Dev nD → PrngReg)

theorem hmainU (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem beforeU_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem beforeU_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem beforeU_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem beforeU_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The kernel's own semaphore. -/
def osem0 : Fin 1 → SemLoc sig := fun _ => .dma 9
theorem ownSemFacts0 : Pipeline.OwnSemFacts spec0 osem0 := by decide
def H0 : Finset (Ref sig .tc) := {main_arg0}
theorem H0_sub : H0 ⊆ Pipeline.restRefs sig spec0 := by decide

/-! ## What the buffers hold between points -/

/-- The input rows. -/
abbrev xin (c : Dev nD) : S8192x2048.Idx → Elt F .f32 := V m c main_arg0

/-- The grid point of a number. -/
def pt (n : ℕ) : Fin cfg0.N := ⟨n % 88, lt_of_lt_of_eq (Nat.mod_lt _ (by decide)) N_0.symm⟩
theorem pt_val (t : Fin cfg0.N) : pt t.val = t := Fin.ext (Nat.mod_eq_of_lt (lt_of_lt_of_eq t.isLt N_0))

/-- One point's sum. -/
def stepAt (c : Dev nD) (n : ℕ) (P : Vec F S1024x2048 .f32) : Vec F S1024x2048 .f32 :=
  k0_pay1 (k0_pay11 (hval (xin m c) (iblk m c 0 (pt 0)) (n / 11)) (iblk m c 1 (pt n)) (iblk m c 2 (pt n))) (k0_pay12 P) (iblk m c 3 (pt n))

/-- The result tile after point `n`. -/
def acc (c : Dev nD) : ℕ → Vec F S1024x2048 .f32
  | 0 => stepAt m c 0 (xtile (xin m c) 0)
  | n + 1 => stepAt m c (n + 1) (if (n + 1) % 11 = 0 then xtile (xin m c) ((n + 1) / 11) else acc c n)

theorem acc_first (c : Dev nD) (n : ℕ) (h : n % 11 = 0) : acc m c n = stepAt m c n (xtile (xin m c) (n / 11)) := by
  cases n with
  | zero => rfl
  | succ n => unfold acc; rw [if_pos h]
theorem acc_next (c : Dev nD) (n : ℕ) (h : ¬ n % 11 = 0) : acc m c n = stepAt m c n (acc m c (n - 1)) := by
  cases n with
  | zero => exact absurd rfl h
  | succ n => conv_lhs => unfold acc
              rw [if_neg h]; rfl

/-- The normed tile before point `n`. -/
def hSt (c : Dev nD) (n : ℕ) : sProp 𝕄 :=
  if n % 11 = 0 then iprop(∃ H, owns (c : Thread nD τ) mH fullShare H)
  else owns (c : Thread nD τ) mH fullShare (hval (xin m c) (iblk m c 0 (pt 0)) (n / 11))

/-- The copies before point `n`. -/
def cSt (c : Dev nD) (n : ℕ) : sProp 𝕄 :=
  if n % 11 = 0 then (if n = 0 ∨ 88 ≤ n then rest c (xin m c) else flight c (xin m c) (n / 11) 8)
  else if 3 ≤ n % 11 ∧ n / 11 < 7 then flight c (xin m c) (n / 11 + 1) (n % 11 - 2) else rest c (xin m c)

/-- The invariant before point `n`. -/
def inv (c : Dev nD) (n : ℕ) : sProp 𝕄 := iprop((∃ r, prngReg c r) ∗ hSt m c n ∗ cSt m c n)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val
  Φ t := inv m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = acc m c t.val := by dsimp only [dats]
theorem before_0 (c : Dev nD) (t : Fin cfg0.N) (d) : (dats m 0 c).before 0 t d = iblk m c 0 t := beforeU_0 m _ (A_eq m c 0) (after_0 m c) t d
theorem before_1 (c : Dev nD) (t : Fin cfg0.N) (d) : (dats m 0 c).before 1 t d = iblk m c 1 t := beforeU_1 m _ (A_eq m c 1) (after_1 m c) t d
theorem before_2 (c : Dev nD) (t : Fin cfg0.N) (d) : (dats m 0 c).before 2 t d = iblk m c 2 t := beforeU_2 m _ (A_eq m c 2) (after_2 m c) t d
theorem before_3 (c : Dev nD) (t : Fin cfg0.N) (d) : (dats m 0 c).before 3 t d = iblk m c 3 t := beforeU_3 m _ (A_eq m c 3) (after_3 m c) t d
theorem before_4 (c : Dev nD) (t : Fin cfg0.N) (h : ¬ t.val % 11 = 0) (d) : (dats m 0 c).before 4 t d = acc m c (t.val - 1) := by
  have h0 : t.val ≠ 0 := fun e => h (by rw [e])
  refine ((dats m 0 c).before_out_kept 4 rfl t h0 ?_ (fun _ => rfl) (fun _ _ => rfl) d).trans (after_4 m c _)
  rw [Bool.eq_false_iff]
  intro hf
  have := (flush0_4 _).mp hf
  dsimp only at this
  omega

/-! ## The conditions at a point -/

theorem coord0 : ∀ t : Fin cfg0.N, ((grid0.coords t) 0).val = t.val / 11 := by decide +kernel
theorem coord1 : ∀ t : Fin cfg0.N, ((grid0.coords t) 1).val = t.val % 11 := by decide +kernel
theorem c1_iff : ∀ t : Fin cfg0.N, cond1 (grid0.coords t) = 1#1 ↔ t.val = 0 := by decide +kernel
theorem c2_iff : ∀ t : Fin cfg0.N, k0_cond2 (grid0.coords t) = 1#1 ↔ t.val % 11 = 0 := by decide +kernel
theorem c3_iff : ∀ t : Fin cfg0.N, k0_cond3 (grid0.coords t) = 1#1 ↔ (2 ≤ t.val % 11 ∧ t.val % 11 < 10 ∧ t.val / 11 < 7) := by decide +kernel

theorem gain_eq (c : Dev nD) (t : Fin cfg0.N) : iblk m c 0 t = iblk m c 0 (pt 0) := rfl

end Cert.Kernel2Ideal.Hand
end
-- ==== Proof.FfnFrame.lean ====
module

public import proofs.«01_k».proof.Proof.Gen.Kernel2Ideal.Frame
public import proofs.«01_k».proof.Proof.Gen.Kernel2Ideal.Skeleton
public import proofs.«01_k».proof.Proof.FfnInv
public import proofs.«01_k».proof.Proof.FfnRunA
public import proofs.«01_k».proof.Proof.FfnRunB
public import proofs.«01_k».proof.Proof.FfnRunC
public import proofs.«01_k».proof.Proof.FfnRunD

@[expose] public section

set_option maxRecDepth 16384
set_option backward.isDefEq.respectTransparency.types false

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

/-- A first point of a tile. -/
theorem acc_tile (c : Dev nD) (t : Fin cfg0.N) (h : t.val % 11 = 0) : acc m c t.val
    = k0_pay1 (k0_pay11 (hval (xin m c) (iblk m c 0 (pt 0)) (t.val / 11)) (iblk m c 1 t) (iblk m c 2 t)) (k0_pay12 (xtile (xin m c) (t.val / 11))) (iblk m c 3 t) := by
  rw [acc_first m c t.val h]; unfold stepAt; rw [pt_val]
theorem acc_step (c : Dev nD) (t : Fin cfg0.N) (h : ¬ t.val % 11 = 0) : acc m c t.val
    = k0_pay1 (k0_pay11 (hval (xin m c) (iblk m c 0 (pt 0)) (t.val / 11)) (iblk m c 1 t) (iblk m c 2 t)) (k0_pay12 (acc m c (t.val - 1))) (iblk m c 3 t) := by
  rw [acc_next m c t.val h]; unfold stepAt; rw [pt_val]

/-- The state lemmas. -/
theorem hSt_0 (c : Dev nD) (n : ℕ) (h : n % 11 = 0) : hSt m c n = iprop(∃ H, owns (c : Thread nD τ) mH fullShare H) := by unfold hSt; rw [if_pos h]
theorem hSt_1 (c : Dev nD) (n i : ℕ) (h : ¬ n % 11 = 0) (hi : n / 11 = i) : hSt m c n = owns (c : Thread nD τ) mH fullShare (hval (xin m c) (iblk m c 0 (pt 0)) i) := by
  unfold hSt; rw [if_neg h, hi]
theorem cSt_rest (c : Dev nD) (n : ℕ) (h' : n % 11 = 0 → n = 0 ∨ 88 ≤ n) (h'' : ¬ (¬ n % 11 = 0 ∧ 3 ≤ n % 11 ∧ n / 11 < 7)) :
    cSt m c n = rest c (xin m c) := by
  unfold cSt
  by_cases h0 : n % 11 = 0
  · rw [if_pos h0, if_pos (h' h0)]
  · rw [if_neg h0, if_neg (fun h => h'' ⟨h0, h⟩)]
theorem cSt_flight (c : Dev nD) (n i k : ℕ) (h : (n % 11 = 0 ∧ ¬ (n = 0 ∨ 88 ≤ n) ∧ i = n / 11 ∧ k = 8) ∨ (¬ n % 11 = 0 ∧ (3 ≤ n % 11 ∧ n / 11 < 7) ∧ i = n / 11 + 1 ∧ k = n % 11 - 2)) :
    cSt m c n = flight c (xin m c) i k := by
  unfold cSt
  rcases h with ⟨h0, h1, rfl, rfl⟩ | ⟨h0, h1, rfl, rfl⟩
  · rw [if_pos h0, if_neg h1]
  · rw [if_neg h0, if_pos h1]

theorem sound_A (c : Dev nD) (t : Fin cfg0.N) (h : t.val = 0) :
    bodyPre m c t ⊢ wp frame (wpE (defs₀ (F := F)) Variants.none c none) Set.univ (bodyAt0 t) (fun _ => bodyPost m c t) := by
  have hN : t.val < 88 := lt_of_lt_of_eq t.isLt N_0
  unfold bodyPre bodyPost bodyAt0
  rw [after_0, after_1, after_2, after_3, after_4]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  rw [hSt_0 m c t.val (by omega), hSt_1 m c (t.val + 1) 0 (by omega) (by omega), cSt_rest m c t.val (by omega) (by omega), cSt_rest m c (t.val + 1) (by omega) (by omega)]
  rw [acc_tile m c t (by omega), show t.val / 11 = 0 by omega]
  simp only [before_0, before_1, before_2, before_3]
  iintro ⟨⟨Hg, HH, HC⟩, ⟨%W, -, HW⟩, ⟨%d0, H0⟩, ⟨%d1, H1⟩, ⟨%d2, H2⟩, ⟨%d3, H3⟩, ⟨%d4, H4⟩⟩
  iapply (run_A c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 (pt 0)) (iblk m c 1 t) (iblk m c 2 t) (iblk m c 3 t) (xin m c) ((c1_iff t).mpr h) ((c2_iff t).mpr (by omega)) (fun h => by have := (c3_iff t).mp h; omega) W _)
  isplitl [H0]; · iexact H0
  isplitl [H1]; · iexact H1
  isplitl [H2]; · iexact H2
  isplitl [H3]; · iexact H3
  isplitl [H4]; · iexists _; iexact H4
  isplitl [HH]; · iexact HH
  isplitl [HC]; · iexact HC
  isplitl [HW]; · iexact HW
  iintro ⟨H0, H1, H2, H3, H4, HH, HC, ⟨%W', HW⟩⟩
  isplitl [Hg HH HC]
  · isplitl [Hg]; · iexact Hg
    isplitl [HH]; · iexact HH
    iexact HC
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

theorem sound_B (c : Dev nD) (t : Fin cfg0.N) (h : t.val % 11 = 0) (h' : ¬ t.val = 0) :
    bodyPre m c t ⊢ wp frame (wpE (defs₀ (F := F)) Variants.none c none) Set.univ (bodyAt0 t) (fun _ => bodyPost m c t) := by
  have hN : t.val < 88 := lt_of_lt_of_eq t.isLt N_0
  unfold bodyPre bodyPost bodyAt0
  rw [after_0, after_1, after_2, after_3, after_4]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  have e0 : t.val / 11 = ((grid0.coords t) 0).val := (coord0 t).symm
  have e1 : (t.val + 1) / 11 = ((grid0.coords t) 0).val := by rw [← e0]; omega
  rw [hSt_0 m c t.val h, hSt_1 m c (t.val + 1) _ (by omega) e1, cSt_flight m c t.val ((grid0.coords t) 0).val 8 (Or.inl ⟨h, by omega, e0.symm, rfl⟩), cSt_rest m c (t.val + 1) (by omega) (by omega)]
  rw [acc_tile m c t h, e0]
  simp only [before_0, before_1, before_2, before_3]
  iintro ⟨⟨Hg, HH, HC⟩, ⟨%W, -, HW⟩, ⟨%d0, H0⟩, ⟨%d1, H1⟩, ⟨%d2, H2⟩, ⟨%d3, H3⟩, ⟨%d4, H4⟩⟩
  iapply (run_B c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 (pt 0)) (iblk m c 1 t) (iblk m c 2 t) (iblk m c 3 t) (xin m c) (fun h => by have := (c1_iff t).mp h; omega) ((c2_iff t).mpr h) (fun h => by have := (c3_iff t).mp h; omega) (by rw [← e0]; omega) W _)
  isplitl [H0]; · iexact H0
  isplitl [H1]; · iexact H1
  isplitl [H2]; · iexact H2
  isplitl [H3]; · iexact H3
  isplitl [H4]; · iexists _; iexact H4
  isplitl [HH]; · iexact HH
  isplitl [HC]; · iexact HC
  isplitl [HW]; · iexact HW
  iintro ⟨H0, H1, H2, H3, H4, HH, HC, ⟨%W', HW⟩⟩
  isplitl [Hg HH HC]
  · isplitl [Hg]; · iexact Hg
    isplitl [HH]; · iexact HH
    iexact HC
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

theorem sound_C (c : Dev nD) (t : Fin cfg0.N) (h : 2 ≤ t.val % 11 ∧ t.val % 11 < 10 ∧ t.val / 11 < 7) :
    bodyPre m c t ⊢ wp frame (wpE (defs₀ (F := F)) Variants.none c none) Set.univ (bodyAt0 t) (fun _ => bodyPost m c t) := by
  have hN : t.val < 88 := lt_of_lt_of_eq t.isLt N_0
  unfold bodyPre bodyPost bodyAt0
  rw [after_0, after_1, after_2, after_3, after_4]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  have h0 : ¬ t.val % 11 = 0 := by omega
  have e0 : ((grid0.coords t) 0).val = t.val / 11 := coord0 t
  have e1 : ((grid0.coords t) 1).val = t.val % 11 := coord1 t
  rw [hSt_1 m c t.val _ h0 rfl, acc_step m c t h0]
  simp only [before_4 m c t h0]
  rw [hSt_1 m c (t.val + 1) (t.val / 11) (by omega) (by omega), cSt_flight m c (t.val + 1) (((grid0.coords t) 0).val + 1) (((grid0.coords t) 1).val - 2 + 1) (Or.inr ⟨by omega, by omega, by omega, by omega⟩)]
  simp only [before_0, before_1, before_2, before_3]
  iintro ⟨⟨Hg, HH, HC⟩, ⟨%W, -, HW⟩, ⟨%d0, H0⟩, ⟨%d1, H1⟩, ⟨%d2, H2⟩, ⟨%d3, H3⟩, ⟨%d4, H4⟩⟩
  have hop : cSt m c t.val ⊢ |={Set.univ}=> flight c (xin m c) (((grid0.coords t) 0).val + 1) (((grid0.coords t) 1).val - 2) := by
    by_cases h3 : 3 ≤ t.val % 11
    · rw [cSt_flight m c t.val (((grid0.coords t) 0).val + 1) (((grid0.coords t) 1).val - 2) (Or.inr ⟨h0, by omega, by omega, by omega⟩)]
      iintro H; imodintro; iexact H
    · rw [cSt_rest m c t.val (by omega) (by omega), show ((grid0.coords t) 1).val - 2 = 0 by omega]
      exact open_flight c (xin m c) _
  imod hop $$ HC with HC
  iapply (run_C c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 (pt 0)) (iblk m c 1 t) (iblk m c 2 t) (iblk m c 3 t) (acc m c (t.val - 1)) (hval (xin m c) (iblk m c 0 (pt 0)) (t.val / 11)) (fun h => by have := (c1_iff t).mp h; omega) (fun h => by have := (c2_iff t).mp h; omega) ((c3_iff t).mpr h) (xin m c) W _)
  isplitl [H0]; · iexact H0
  isplitl [H1]; · iexact H1
  isplitl [H2]; · iexact H2
  isplitl [H3]; · iexact H3
  isplitl [H4]; · iexact H4
  isplitl [HH]; · iexact HH
  isplitl [HC]; · iexact HC
  iintro ⟨H0, H1, H2, H3, H4, HH, HC⟩
  isplitl [Hg HH HC]
  · isplitl [Hg]; · iexact Hg
    isplitl [HH]; · iexact HH
    iexact HC
  isplitl [HW]
  · iexists W; isplitr; · ipureintro; exact fun _ _ => Or.inl trivial
    iexact HW
  isplitl [H0]; · iexact H0
  isplitl [H1]; · iexact H1
  isplitl [H2]; · iexact H2
  isplitl [H3]; · iexact H3
  iexact H4

theorem sound_D1 (c : Dev nD) (t : Fin cfg0.N) (h : t.val % 11 = 1 ∨ (¬ t.val % 11 = 0 ∧ t.val % 11 < 10 ∧ ¬ t.val / 11 < 7)) :
    bodyPre m c t ⊢ wp frame (wpE (defs₀ (F := F)) Variants.none c none) Set.univ (bodyAt0 t) (fun _ => bodyPost m c t) := by
  have hN : t.val < 88 := lt_of_lt_of_eq t.isLt N_0
  unfold bodyPre bodyPost bodyAt0
  rw [after_0, after_1, after_2, after_3, after_4]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  have h0 : ¬ t.val % 11 = 0 := by omega
  rw [hSt_1 m c t.val _ h0 rfl, acc_step m c t h0]
  simp only [before_4 m c t h0]
  rw [hSt_1 m c (t.val + 1) (t.val / 11) (by omega) (by omega)]
  rw [cSt_rest m c t.val (by omega) (by omega), cSt_rest m c (t.val + 1) (by omega) (by omega)]
  simp only [before_0, before_1, before_2, before_3]
  iintro ⟨⟨Hg, HH, HC⟩, ⟨%W, -, HW⟩, ⟨%d0, H0⟩, ⟨%d1, H1⟩, ⟨%d2, H2⟩, ⟨%d3, H3⟩, ⟨%d4, H4⟩⟩
  iapply (run_D c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 (pt 0)) (iblk m c 1 t) (iblk m c 2 t) (iblk m c 3 t) (acc m c (t.val - 1)) (hval (xin m c) (iblk m c 0 (pt 0)) (t.val / 11)) (fun h => by have := (c1_iff t).mp h; omega) (fun h => by have := (c2_iff t).mp h; omega) (fun h => by have := (c3_iff t).mp h; omega) W _)
  isplitl [H0]; · iexact H0
  isplitl [H1]; · iexact H1
  isplitl [H2]; · iexact H2
  isplitl [H3]; · iexact H3
  isplitl [H4]; · iexact H4
  isplitl [HH]; · iexact HH
  iintro ⟨H0, H1, H2, H3, H4, HH⟩
  isplitl [Hg HH HC]
  · isplitl [Hg]; · iexact Hg
    isplitl [HH]; · iexact HH
    iexact HC
  isplitl [HW]
  · iexists W; isplitr; · ipureintro; exact fun _ _ => Or.inl trivial
    iexact HW
  isplitl [H0]; · iexact H0
  isplitl [H1]; · iexact H1
  isplitl [H2]; · iexact H2
  isplitl [H3]; · iexact H3
  iexact H4

theorem sound_D2 (c : Dev nD) (t : Fin cfg0.N) (h : t.val % 11 = 10) :
    bodyPre m c t ⊢ wp frame (wpE (defs₀ (F := F)) Variants.none c none) Set.univ (bodyAt0 t) (fun _ => bodyPost m c t) := by
  have hN : t.val < 88 := lt_of_lt_of_eq t.isLt N_0
  unfold bodyPre bodyPost bodyAt0
  rw [after_0, after_1, after_2, after_3, after_4]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  have h0 : ¬ t.val % 11 = 0 := by omega
  rw [hSt_1 m c t.val _ h0 rfl, acc_step m c t h0]
  simp only [before_4 m c t h0]
  rw [hSt_0 m c (t.val + 1) (by omega)]
  have ec : cSt m c t.val = cSt m c (t.val + 1) := by
    by_cases h7 : t.val / 11 < 7
    · rw [cSt_flight m c t.val (t.val / 11 + 1) 8 (Or.inr ⟨h0, by omega, rfl, by omega⟩), cSt_flight m c (t.val + 1) (t.val / 11 + 1) 8 (Or.inl ⟨by omega, by omega, by omega, rfl⟩)]
    · rw [cSt_rest m c t.val (by omega) (by omega), cSt_rest m c (t.val + 1) (by omega) (by omega)]
  rw [ec]
  simp only [before_0, before_1, before_2, before_3]
  iintro ⟨⟨Hg, HH, HC⟩, ⟨%W, -, HW⟩, ⟨%d0, H0⟩, ⟨%d1, H1⟩, ⟨%d2, H2⟩, ⟨%d3, H3⟩, ⟨%d4, H4⟩⟩
  iapply (run_D c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 (pt 0)) (iblk m c 1 t) (iblk m c 2 t) (iblk m c 3 t) (acc m c (t.val - 1)) (hval (xin m c) (iblk m c 0 (pt 0)) (t.val / 11)) (fun h => by have := (c1_iff t).mp h; omega) (fun h => by have := (c2_iff t).mp h; omega) (fun h => by have := (c3_iff t).mp h; omega) W _)
  isplitl [H0]; · iexact H0
  isplitl [H1]; · iexact H1
  isplitl [H2]; · iexact H2
  isplitl [H3]; · iexact H3
  isplitl [H4]; · iexact H4
  isplitl [HH]; · iexact HH
  iintro ⟨H0, H1, H2, H3, H4, HH⟩
  isplitl [Hg HH HC]
  · isplitl [Hg]; · iexact Hg
    isplitl [HH]; · iexists _; iexact HH
    iexact HC
  isplitl [HW]
  · iexists W; isplitr; · ipureintro; exact fun _ _ => Or.inl trivial
    iexact HW
  isplitl [H0]; · iexact H0
  isplitl [H1]; · iexact H1
  isplitl [H2]; · iexact H2
  isplitl [H3]; · iexact H3
  iexact H4

theorem sound_body (c : Dev nD) (t : Fin cfg0.N) :
    bodyPre m c t ⊢ wp frame (wpE (defs₀ (F := F)) Variants.none c none) Set.univ (bodyAt0 t) (fun _ => bodyPost m c t) := by
  have hN : t.val < 88 := lt_of_lt_of_eq t.isLt N_0
  by_cases hz : t.val = 0
  · exact sound_A m c t hz
  by_cases hj : t.val % 11 = 0
  · exact sound_B m c t hj hz
  by_cases hC : 2 ≤ t.val % 11 ∧ t.val % 11 < 10 ∧ t.val / 11 < 7
  · exact sound_C m c t hC
  by_cases hD : t.val % 11 = 10
  · exact sound_D2 m c t hD
  · exact sound_D1 m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem ownSems_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 9) 0 := by
  rw [Pipeline.ownSems0_eq_of_list c osem0 [0] (by decide) (by decide)]; rfl
theorem hbmPts_eq (c : Dev nD) :
    (bigSep H0 (fun b => ((c : Thread nD τ).loc b) ↦{fullShare} V m c b) : sProp 𝕄) = (xL c ↦{fullShare} xin m c) := by
  rw [BI.bigSep_eq_bigSepL_of_eq [main_arg0] (by decide) (by decide)]; rfl

theorem inv_in (c : Dev nD) (n : ℕ) (hn : n = 0 ∨ n = 88) : (Pipeline.ΦD osem0 spec0 H0 (V m) c : sProp 𝕄) ⊢ inv m c n := by
  rw [Pipeline.ΦD_eq, scopedRest0_eq, ownSems_eq, hbmPts_eq]
  unfold inv
  rw [hSt_0 m c n (by omega), cSt_rest m c n (by omega) (by omega)]
  simp only [mH, owns_whole]
  unfold rest
  iintro ⟨⟨⟨%f, Hh⟩, ⟨%g, Hb⟩⟩, Hg, Hs, Hx⟩
  isplitl [Hg]; · iexact Hg
  isplitl [Hh]; · iexists f; iexact Hh
  isplitl [Hb]; · iexists g; iexact Hb
  isplitl [Hx]; · iexact Hx
  iexact Hs
theorem inv_out (c : Dev nD) (n : ℕ) (hn : n = 0 ∨ n = 88) : inv m c n ⊢ (Pipeline.ΦD osem0 spec0 H0 (V m) c : sProp 𝕄) := by
  rw [Pipeline.ΦD_eq, scopedRest0_eq, ownSems_eq, hbmPts_eq]
  unfold inv
  rw [hSt_0 m c n (by omega), cSt_rest m c n (by omega) (by omega)]
  simp only [mH, owns_whole]
  unfold rest
  iintro ⟨Hg, ⟨%f, Hh⟩, ⟨%g, Hb⟩, Hx, Hs⟩
  isplitl [Hh Hb]
  · isplitl [Hh]; · iexists f; iexact Hh
    iexists g; iexact Hb
  isplitl [Hg]; · iexact Hg
  isplitl [Hs]; · iexact Hs
  iexact Hx

theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainU m Variants.none) (hA := A_eq m)
    (hin := fun c => inv_in m c 0 (Or.inl rfl)) (hout := fun c => inv_out m c 88 (Or.inr rfl))

/-- The run ends, leaves the arguments as they were and every counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 0).trans (((dats m 0 c).arrAt_in 0 rfl _).trans ((A_eq m c 0).trans (V_main_arg1 m c))),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c))),
      ((h.1 c).1 3).trans (((dats m 0 c).arrAt_in 3 rfl _).trans ((A_eq m c 3).trans (V_main_arg4 m c)))⟩, h.2⟩) (run_main m ρ)

end Cert.Kernel2Ideal.Hand
end
-- ==== Proof.FfnModel.lean ====
module

public import proofs.«01_k».proof.Proof.Algebra
public import Idealize.ShloMosaic.Lib.Pointwise

/-!
  The feed-forward call over the extended reals: a norm of each row, two projections, the gated product, a projection back, and the residual.
-/

@[expose] public section

noncomputable section

namespace Cert.Ffn

open Idealize Idealize.ShloMosaic
open scoped BigOperators

/-- The call's numbers. -/
structure Par where
  x : Fin 8192 → Fin 2048 → EReal
  gain : Fin 2048 → EReal
  wg : Fin 2048 → Fin 5632 → EReal
  wu : Fin 2048 → Fin 5632 → EReal
  wd : Fin 5632 → Fin 2048 → EReal

namespace Par
variable (P : Par)

/-- The normed row. -/
def h (r : Fin 8192) (k : Fin 2048) : EReal :=
  P.x r k * Ideal.rsqrt (Ideal.div (∑ l, P.x r l * P.x r l) (Ideal.ofBits .f32 0x45000000#32) + Ideal.ofBits .f32 0x358637BD#32) * P.gain k

def gate (r : Fin 8192) (f : Fin 5632) : EReal := ∑ k, P.h r k * P.wg k f
def up (r : Fin 8192) (f : Fin 5632) : EReal := ∑ k, P.h r k * P.wu k f

/-- The gated product, halved. -/
def act (r : Fin 8192) (f : Fin 5632) : EReal :=
  Ideal.ofBits .f32 0x3F000000#32 * (P.gate r f * Ideal.logistic (P.gate r f)) * P.up r f

/-- What 512 of the 5632 columns add. -/
def part (r : Fin 8192) (d : Fin 2048) (j : ℕ) : EReal :=
  if hj : j < 11 then ∑ t : Fin 512, P.act r ⟨j * 512 + t.val, by omega⟩ * P.wd ⟨j * 512 + t.val, by omega⟩ d else 0

/-- The result. -/
def out (r : Fin 8192) (d : Fin 2048) : EReal := P.x r d + ∑ f, P.act r f * P.wd f d

/-- The result is reached in eleven parts. -/
theorem out_eq_parts (r : Fin 8192) (d : Fin 2048) : P.out r d = P.x r d + ∑ j ∈ Finset.range 11, P.part r d j := by
  rw [out, Fin.sum_univ_tiles 11 512 (by norm_num), Finset.sum_range]
  refine congrArg (_ + ·) (Finset.sum_congr rfl fun j _ => ?_)
  rw [part, dif_pos j.isLt]

end Par

theorem half_lit : Ideal.ofBits .f32 0x3F000000#32 = ((1 / 2 : ℝ) : EReal) := by
  simp [Ideal.ofBits, Ideal.ieee, -EReal.coe_mul]; norm_num

/-- Half of a sum is the sum of the halves. -/
theorem half_sum {n : ℕ} (a w : Fin n → EReal) (b : Fin n → EReal) :
    Ideal.ofBits .f32 0x3F000000#32 * ∑ f, a f * b f * w f = ∑ f, Ideal.ofBits .f32 0x3F000000#32 * a f * b f * w f := by
  rw [half_lit, mul_comm, Cert.Mix.sum_mul_real _ _ (by norm_num)]
  refine Finset.sum_congr rfl fun f _ => ?_
  rw [mul_comm]; simp only [mul_assoc]

end Cert.Ffn

end
-- ==== Proof.FfnVal.lean ====
module

public import proofs.«01_k».proof.Proof.FfnFrame
public import proofs.«01_k».proof.Proof.FfnModel
public import Idealize.ShloMosaic.Lib.Pipeline.Value
public import Idealize.ShloMosaic.Lib.Pipeline.ValueKit

/-! What the kernel leaves in its result. -/

@[expose] public section

noncomputable section

namespace Cert.Kernel2Ideal.Hand

set_option maxRecDepth 16384
set_option maxHeartbeats 2000000
set_option pp.proofs false

open Idealize Idealize.ShloMosaic Idealize.ShloMosaic.TcCoe Idealize.SL.Sem Cert.Ffn Cert.Kernel2Ideal Cert.Kernel2Ideal.Gen
open scoped BigOperators

/-- Row `n` of tile `i`. -/
def row (i : Fin 8) (n : Fin 1024) : Fin 8192 := ⟨i.val * 1024 + n.val, by omega⟩

theorem pay2_at (A : Vec Ideal S128x2048 .f32) (G : Vec Ideal S1x2048 .f32) (n : Fin 128) (k : Fin 2048) :
    k0_pay2 (F := Ideal) A G (ix2 n k) = A (ix2 n k) * Ideal.rsqrt (Ideal.div (∑ l, A (ix2 n l) * A (ix2 n l)) (Ideal.ofBits .f32 0x45000000#32) + Ideal.ofBits .f32 0x358637BD#32) * G (ix2 0 k) := by
  pointwise [k0_pay2]

theorem pay11_at (H : Vec Ideal S1024x2048 .bf16) (W U : Vec Ideal S2048x512 .f32) (n : Fin 1024) (t : Fin 512) :
    k0_pay11 (F := Ideal) H W U (ix2 n t) = Ideal.ofBits .f32 0x3F000000#32 * ((∑ k, H (ix2 n k) * W (ix2 k t)) * Ideal.logistic (∑ k, H (ix2 n k) * W (ix2 k t))) * ∑ k, H (ix2 n k) * U (ix2 k t) := by
  pointwise [k0_pay11]

theorem pay1_at (A : FVec Ideal S1024x512 .bf16) (X : Vec Ideal S1024x2048 .f32) (W : Vec Ideal S512x2048 .f32) (n : Fin 1024) (d : Fin 2048) :
    k0_pay1 (F := Ideal) A (k0_pay12 (F := Ideal) X) W (ix2 n d) = X (ix2 n d) + ∑ t, A (ix2 n t) * W (ix2 t d) := by
  pointwise [k0_pay1, k0_pay12]

variable (m : (ℓ : Loc nD τ sig) → Buf (Elt Ideal) ℓ)

/-- The call whose numbers are the kernel's arguments. -/
def parOf (c : Dev nD) : Par where
  x r k := m ((c.tc : Thread nD τ).loc main_arg0) (ix2 r k)
  gain k := m ((c.tc : Thread nD τ).loc main_arg1) (ix2 0 k)
  wg k f := m ((c.tc : Thread nD τ).loc main_arg2) (ix2 k f)
  wu k f := m ((c.tc : Thread nD τ).loc main_arg3) (ix2 k f)
  wd f d := m ((c.tc : Thread nD τ).loc main_arg4) (ix2 f d)

theorem chunk_at (c : Dev nD) (i : Fin 8) (r : Fin 8) (a : Fin 128) (k : Fin 2048) :
    chunk (xin m c) i.val r.val (ix2 a k) = (parOf m c).x (row i ⟨r.val * 128 + a.val, by omega⟩) k := by
  unfold chunk parOf
  refine congrArg (xin m c) (funext fun b => ?_)
  match b with
  | 0 => exact Fin.ext (by show (1024 * i.val + 128 * r.val + a.val) % 8192 = i.val * 1024 + (r.val * 128 + a.val); omega)
  | 1 => rfl

theorem xtile_at (c : Dev nD) (i : Fin 8) (n : Fin 1024) (k : Fin 2048) :
    xtile (xin m c) i.val (ix2 n k) = (parOf m c).x (row i n) k := by
  unfold xtile parOf
  refine congrArg (xin m c) (funext fun b => ?_)
  match b with
  | 0 => exact Fin.ext (by show (1024 * i.val + n.val) % 8192 = i.val * 1024 + n.val; omega)
  | 1 => rfl

theorem idx0 : ∀ t : Fin cfg0.N, win0_0.index t = ![0, 0] := (by decide +kernel : ∀ t : Fin grid0.N, win0_0.index t = ![0, 0])
theorem idx1 : ∀ t : Fin cfg0.N, win0_1.index t = ![0, t.val % 11] := (by decide +kernel : ∀ t : Fin grid0.N, win0_1.index t = ![0, t.val % 11])
theorem idx2 : ∀ t : Fin cfg0.N, win0_2.index t = ![0, t.val % 11] := (by decide +kernel : ∀ t : Fin grid0.N, win0_2.index t = ![0, t.val % 11])
theorem idx3 : ∀ t : Fin cfg0.N, win0_3.index t = ![t.val % 11, 0] := (by decide +kernel : ∀ t : Fin grid0.N, win0_3.index t = ![t.val % 11, 0])
theorem idx4 : ∀ t : Fin cfg0.N, win0_4.index t = ![t.val / 11, 0] := (by decide +kernel : ∀ t : Fin grid0.N, win0_4.index t = ![t.val / 11, 0])

theorem blk0 (c : Dev nD) (t : Fin cfg0.N) (k : Fin 2048) : iblk m c 0 t (ix2 0 k) = (parOf m c).gain k := by
  show _ = V m c main_arg1 (ix2 0 k)
  unfold iblk
  blk_ext [idx0]
theorem blk1 (c : Dev nD) (t : Fin cfg0.N) (j : Fin 11) (hj : t.val % 11 = j.val) (k : Fin 2048) (l : Fin 512) : iblk m c 1 t (ix2 k l) = (parOf m c).wg k ⟨j.val * 512 + l.val, by omega⟩ := by
  show _ = V m c main_arg2 (ix2 k ⟨j.val * 512 + l.val, by omega⟩)
  unfold iblk
  blk_ext [idx1, hj]
theorem blk2 (c : Dev nD) (t : Fin cfg0.N) (j : Fin 11) (hj : t.val % 11 = j.val) (k : Fin 2048) (l : Fin 512) : iblk m c 2 t (ix2 k l) = (parOf m c).wu k ⟨j.val * 512 + l.val, by omega⟩ := by
  show _ = V m c main_arg3 (ix2 k ⟨j.val * 512 + l.val, by omega⟩)
  unfold iblk
  blk_ext [idx2, hj]
theorem blk3 (c : Dev nD) (t : Fin cfg0.N) (j : Fin 11) (hj : t.val % 11 = j.val) (l : Fin 512) (d : Fin 2048) : iblk m c 3 t (ix2 l d) = (parOf m c).wd ⟨j.val * 512 + l.val, by omega⟩ d := by
  show _ = V m c main_arg4 (ix2 ⟨j.val * 512 + l.val, by omega⟩ d)
  unfold iblk
  blk_ext [idx3, hj]

theorem hval_at (c : Dev nD) (t : Fin cfg0.N) (i : Fin 8) (n : Fin 1024) (k : Fin 2048) :
    hval (xin m c) (iblk m c 0 t) i.val (ix2 n k) = (parOf m c).h (row i n) k := by
  have e : hval (xin m c) (iblk m c 0 t) i.val (ix2 n k) = k0_pay2 (F := Ideal) (chunk (xin m c) i.val (n.val / 128)) (iblk m c 0 t) (ix2 ⟨n.val % 128, by omega⟩ k) := by
    unfold hval
    refine congrArg (k0_pay2 (F := Ideal) (chunk (xin m c) i.val (n.val / 128)) (iblk m c 0 t)) (funext fun b => ?_)
    match b with
    | 0 => rfl
    | 1 => rfl
  rw [e, pay2_at, blk0]
  have q : ∀ l, chunk (xin m c) i.val (n.val / 128) (ix2 ⟨n.val % 128, by omega⟩ l) = (parOf m c).x (row i n) l := fun l => by
    rw [chunk_at m c i ⟨n.val / 128, by omega⟩]
    congr 2
    exact Fin.ext (by show n.val / 128 * 128 + n.val % 128 = n.val; omega)
  simp only [q]
  rfl

/-- One point adds one part. -/
theorem step_at (c : Dev nD) (p : ℕ) (i : Fin 8) (j : Fin 11) (hp : p = i.val * 11 + j.val) (X : Vec Ideal S1024x2048 .f32) (n : Fin 1024) (d : Fin 2048) :
    stepAt m c p X (ix2 n d) = X (ix2 n d) + (parOf m c).part (row i n) d j.val := by
  have hv : (pt p).val = p := by show p % 88 = p; omega
  have e1 : p / 11 = i.val := by omega
  have e2 : (pt p).val % 11 = j.val := by rw [hv]; omega
  unfold stepAt
  rw [e1, pay1_at, Par.part, dif_pos j.isLt]
  refine congrArg (_ + ·) (Finset.sum_congr rfl fun l _ => ?_)
  rw [pay11_at, blk3 m c (pt p) j e2]
  simp only [hval_at, blk1 m c (pt p) j e2, blk2 m c (pt p) j e2]
  rfl

theorem acc_at (c : Dev nD) (i : Fin 8) (j : ℕ) (hj : j < 11) (n : Fin 1024) (d : Fin 2048) :
    acc m c (i.val * 11 + j) (ix2 n d) = (parOf m c).x (row i n) d + ∑ s ∈ Finset.range (j + 1), (parOf m c).part (row i n) d s := by
  induction j with
  | zero =>
    rw [acc_first m c _ (by omega), step_at m c _ i ⟨0, hj⟩ rfl, show (i.val * 11 + 0) / 11 = i.val by omega, xtile_at, Finset.sum_range_one]
  | succ j ih =>
    rw [acc_next m c _ (by omega), step_at m c _ i ⟨j + 1, hj⟩ rfl, show i.val * 11 + (j + 1) - 1 = i.val * 11 + j by omega, ih (by omega), Finset.sum_range_succ _ (j + 1), add_assoc]

theorem out_eq {P : Par} {r r' : Fin 8192} {d d' : Fin 2048} (hr : r.val = r'.val) (hd : d.val = d'.val) : P.out r d = P.out r' d' := by
  rw [Fin.ext hr, Fin.ext hd]

/-- The array that the kernel leaves. -/
theorem kernel_array (c : Dev nD) : (dats m 0 c).arrAt 4 cfg0.N = fun y => (parOf m c).out (y 0) (y 1) := by
  refine (dats m 0 c).arrAt_eq_of_covers 4 (fun y => (parOf m c).out (y 0) (y 1)) (by decide +kernel) fun t hfl y => ?_
  blk_simp
  rw [after_4]
  have hN : t.val < 88 := lt_of_lt_of_eq t.isLt N_0
  have hj : t.val % 11 = 10 := (flush0_4 t).mp hfl
  have e : y = (ix2 (show Fin 1024 from y 0) (show Fin 2048 from y 1) : S1024x2048.Idx) := funext fun a => by fin_cases a <;> rfl
  have k := acc_at m c ⟨t.val / 11, by omega⟩ 10 (by omega) (show Fin 1024 from y 0) (show Fin 2048 from y 1)
  rw [← Par.out_eq_parts, show (⟨t.val / 11, by omega⟩ : Fin 8).val * 11 + 10 = t.val by show t.val / 11 * 11 + 10 = t.val; omega] at k
  refine ((congrArg (acc m c t.val) e).trans k).trans ?_
  refine out_eq ?_ ?_
  · blk_simp [idx4]
    rfl
  · blk_simp [idx4]

/-- The run's result, with the arguments unchanged. -/
theorem value_run (ρ : Dev nD → PrngReg) :
    θ_run defs (onTc (τ := τ) (main (F := Ideal))) ⟨m, fun _ => 0, ρ⟩ (fun r => ∀ c : Dev nD,
      r.2.mem ((c.tc : Thread nD τ).loc main_v0) = (fun y => (parOf m c).out (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 4).trans (kernel_array m c),
      ((h.1 c).2 main_arg0 (Pipeline.mem_restRefs_of main_arg0 (by decide) (by decide))).trans (V_main_arg0 m c),
      ((h.1 c).1 0).trans (((dats m 0 c).arrAt_in 0 rfl _).trans ((A_eq m c 0).trans (V_main_arg1 m c))),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c))),
      ((h.1 c).1 3).trans (((dats m 0 c).arrAt_in 3 rfl _).trans ((A_eq m c 3).trans (V_main_arg4 m c)))⟩) (run_main m ρ)

end Cert.Kernel2Ideal.Hand
end
-- ==== Proof.FfnRef.lean ====
module

public import proofs.«01_k».proof.Proof.Gen.Reference2Ideal.Read
public import proofs.«01_k».proof.Proof.FfnModel

/-! The reference's result at an index. -/

@[expose] public section

noncomputable section

namespace Cert.Reference2Ideal.Read

set_option maxRecDepth 16384
set_option maxHeartbeats 2000000
set_option pp.proofs false

open Idealize Idealize.ShloMosaic Cert.Ffn
open scoped BigOperators

variable (x0 : (⟨S8192x2048, .f32⟩ : BufTy).Contents (Elt Ideal)) (x1 : (⟨S1x2048, .f32⟩ : BufTy).Contents (Elt Ideal)) (x2 : (⟨S2048x5632, .f32⟩ : BufTy).Contents (Elt Ideal)) (x3 : (⟨S2048x5632, .f32⟩ : BufTy).Contents (Elt Ideal)) (x4 : (⟨S5632x2048, .f32⟩ : BufTy).Contents (Elt Ideal))

/-- The call whose numbers are the reference's arguments. -/
def parR : Par where
  x r k := x0 (ix2 r k)
  gain k := x1 (ix2 0 k)
  wg k f := x2 (ix2 k f)
  wu k f := x3 (ix2 k f)
  wd f d := x4 (ix2 f d)

theorem v11_at (r : Fin 8192) (k : Fin 2048) : val_main_v11 (F := Ideal) x0 x1 (ix2 r k) = (parR x0 x1 x2 x3 x4).h r k := by
  pointwise [val_main_v0, val_main_cst, val_main_v1, val_main_v2, val_main_cst_0, val_main_v3, val_main_v4, val_main_cst_1, val_main_v5, val_main_v6, val_main_v7, val_main_v8, val_main_v9, val_main_v10, val_main_v11]
  rfl

theorem v12_at (r : Fin 8192) (f : Fin 5632) : val_main_v12 (F := Ideal) x0 x1 x2 (ix2 r f) = (parR x0 x1 x2 x3 x4).gate r f := by
  pointwise [val_main_v12]
  simp only [v11_at x0 x1 x2 x3 x4, Par.gate]
  rfl

theorem v14_at (r : Fin 8192) (f : Fin 5632) : val_main_v14 (F := Ideal) x0 x1 x3 (ix2 r f) = (parR x0 x1 x2 x3 x4).up r f := by
  pointwise [val_main_v14]
  simp only [v11_at x0 x1 x2 x3 x4, Par.up]
  rfl

theorem one_lit : Ideal.ofBits .f32 0x3F800000#32 = 1 := by
  have h : Ideal.ofBits .f32 0x3F800000#32 = ((1 : ℝ) : EReal) := by simp [Ideal.ofBits, Ideal.ieee, -EReal.coe_mul]; try norm_num
  exact h.trans EReal.coe_one

theorem v13_at (r : Fin 8192) (f : Fin 5632) : val_main_v13 (F := Ideal) x0 x1 x2 (ix2 r f)
    = (parR x0 x1 x2 x3 x4).gate r f * Ideal.logistic ((parR x0 x1 x2 x3 x4).gate r f) := by
  pointwise [val_main_call0_v0, val_main_call0_v1, val_main_call0_cst, val_main_call0_v2, val_main_call0_v3, val_main_call0_cst_0, val_main_call0_v4, val_main_call0_v5, val_main_v13]
  simp only [v12_at x0 x1 x2 x3 x4, one_lit]
  rfl

theorem v19_at (r : Fin 8192) (d : Fin 2048) : val_main_v19 (F := Ideal) x0 x1 x2 x3 x4 (ix2 r d) = (parR x0 x1 x2 x3 x4).out r d := by
  pointwise [val_main_v15, val_main_v16, val_main_cst_2, val_main_v17, val_main_v18, val_main_v19]
  simp only [v13_at x0 x1 x2 x3 x4, v14_at x0 x1 x2 x3 x4]
  rw [half_sum]
  rfl

end Cert.Reference2Ideal.Read
end
-- ==== Proof.CastBase.lean ====
module

public import proofs.«01_k».proof.Proof.Gen.Kernel3Ideal.Frame
public import proofs.«01_k».proof.Proof.Gen.Kernel3Ideal.Skeleton
public import Idealize.ShloMosaic.Lib.Batch
public import Idealize.ShloMosaic.Lib.VecWindow

@[expose] public section

set_option maxRecDepth 16384
set_option backward.isDefEq.respectTransparency.types false

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

/-- The counters' place in the user algebra. -/
abbrev EC : UEmb Counters 𝕄 := countersEmb (U := Pipeline.UD sig nD τ)

/-- The tile buffer the copies fill, and the input rows left in HBM. -/
abbrev mXb : Memref sig .tc .vmem S1024x2048 .f32 := Memref.whole cc0_scratch1
abbrev mX : Memref sig .tc .hbm S8192x2048 .f32 := Memref.whole main_arg0
abbrev mH : Memref sig .tc .vmem S1024x2048 .bf16 := Memref.whole cc0_scratch0

abbrev xbL (c : Dev nD) := mXb.view.loc (c : Thread nD τ)
abbrev xL (c : Dev nD) := mX.view.loc (c : Thread nD τ)

/-- The 128 rows a copy reads and fills. -/
abbrev srcM (off : Fin 2 → ℕ) (h : ∀ a, off a + S128x2048.size a ≤ S8192x2048.size a) : Memref sig .tc .hbm S128x2048 .f32 :=
  mX.slice (Rect.unit (s := S8192x2048) off S128x2048.size h) (fun _ => rfl)
abbrev dstM (off : Fin 2 → ℕ) (h : ∀ a, off a + S128x2048.size a ≤ S1024x2048.size a) : Memref sig .tc .vmem S128x2048 .f32 :=
  mXb.slice (Rect.unit (s := S1024x2048) off S128x2048.size h) (fun _ => rfl)

/-- The rows `lo … hi - 1` of the tile buffer. -/
def bandB (lo hi : ℕ) : Finset S1024x2048.Idx := Finset.univ.filter fun p => lo ≤ (p 0).val ∧ (p 0).val < hi
/-- The rows `lo … hi - 1` of the input. -/
def bandX (lo hi : ℕ) : Finset S8192x2048.Idx := Finset.univ.filter fun p => lo ≤ (p 0).val ∧ (p 0).val < hi
/-- Every row of the input but `lo … hi - 1`. -/
def outX (lo hi : ℕ) : Finset S8192x2048.Idx := Finset.univ.filter fun p => ¬ (lo ≤ (p 0).val ∧ (p 0).val < hi)

theorem memB (lo hi : ℕ) (p : S1024x2048.Idx) : p ∈ bandB lo hi ↔ lo ≤ (p 0).val ∧ (p 0).val < hi := by
  unfold bandB; rw [Finset.mem_filter]; exact ⟨fun h => h.2, fun h => ⟨Finset.mem_univ _, h⟩⟩
theorem memX (lo hi : ℕ) (p : S8192x2048.Idx) : p ∈ bandX lo hi ↔ lo ≤ (p 0).val ∧ (p 0).val < hi := by
  unfold bandX; rw [Finset.mem_filter]; exact ⟨fun h => h.2, fun h => ⟨Finset.mem_univ _, h⟩⟩
theorem memO (lo hi : ℕ) (p : S8192x2048.Idx) : p ∈ outX lo hi ↔ ¬ (lo ≤ (p 0).val ∧ (p 0).val < hi) := by
  unfold outX; rw [Finset.mem_filter]; exact ⟨fun h => h.2, fun h => ⟨Finset.mem_univ _, h⟩⟩

/-- Tile `i` of the input. -/
def xtile (X : S8192x2048.Idx → Elt F .f32) (i : ℕ) : S1024x2048.Idx → Elt F .f32 := fun p =>
  X (fun | 0 => ⟨(1024 * i + (p 0).val) % 8192, Nat.mod_lt _ (by decide)⟩ | 1 => p 1)

/-- What copy `r` of tile `i` hands back: its rows of the tile buffer, filled, and its rows of the input. -/
def deliv (c : Dev nD) (X : S8192x2048.Idx → Elt F .f32) (i : ℕ) (r : Fin 8) : sProp 𝕄 :=
  iprop((xbL c ↦[bandB (128 * r.val) (128 * r.val + 128)]{fullShare} xtile X i)
    ∗ (xL c ↦[bandX (1024 * i + 128 * r.val) (1024 * i + 128 * r.val + 128)]{fullShare} X))

instance deliv_storable (c : Dev nD) (X : S8192x2048.Idx → Elt F .f32) (i : ℕ) (r : Fin 8) :
    Storable (upEmb : UEmb _ 𝕄) (deliv c X i r) := by unfold deliv; infer_instance

/-- One copy's credit. -/
abbrev NB : ℕ := (mXb.slice (Rect.unit (s := S1024x2048) ![0, 0] S128x2048.size inb_S1024x2048_S128x2048_0_0) (fun _ => rfl)).view.amount (SemLoc.dma (sig := sig) cc0_scratch2.sem)

/-- The copies of tile `i`, `k` of them issued. -/
abbrev batch (c : Dev nD) (X : S8192x2048.Idx → Elt F .f32) (i k : ℕ) : sProp 𝕄 :=
  Transfers.Batch EC (c : Thread nD τ) (.dma cc0_scratch2.sem) () NB (deliv c X i) k 0

theorem setB (k : ℕ) (inb : ∀ a, (![128 * k, 0] : Fin 2 → ℕ) a + S128x2048.size a ≤ S1024x2048.size a) :
    ((dstM ![128 * k, 0] inb).view.set : Finset S1024x2048.Idx)
      = bandB (128 * k) (128 * k + 128) := by
  show (mXb.view.slice _).set = _
  rw [View.set_slice]
  ext p
  unfold bandB
  rw [Finset.mem_filter, Finset.mem_map]
  constructor
  · rintro ⟨q, hq, rfl⟩
    rw [Rect.mem_set_unit] at hq
    have h0 := hq 0
    exact ⟨Finset.mem_univ _, h0⟩
  · rintro ⟨-, h⟩
    refine ⟨p, ?_, rfl⟩
    rw [Rect.mem_set_unit]
    intro a
    fin_cases a
    · exact h
    · exact ⟨Nat.zero_le _, by have := (p 1).isLt; show (p 1).val < 0 + 2048; rw [Nat.zero_add]; exact this⟩

theorem setX (o : ℕ) (inb : ∀ a, (![o, 0] : Fin 2 → ℕ) a + S128x2048.size a ≤ S8192x2048.size a) :
    ((srcM ![o, 0] inb).view.set : Finset S8192x2048.Idx)
      = bandX o (o + 128) := by
  show (mX.view.slice _).set = _
  rw [View.set_slice]
  ext p
  unfold bandX
  rw [Finset.mem_filter, Finset.mem_map]
  constructor
  · rintro ⟨q, hq, rfl⟩
    rw [Rect.mem_set_unit] at hq
    have h0 := hq 0
    exact ⟨Finset.mem_univ _, h0⟩
  · rintro ⟨-, h⟩
    refine ⟨p, ?_, rfl⟩
    rw [Rect.mem_set_unit]
    intro a
    fin_cases a
    · exact h
    · exact ⟨Nat.zero_le _, by have := (p 1).isLt; show (p 1).val < 0 + 2048; rw [Nat.zero_add]; exact this⟩

/-- A copy of rows `1024 i + 128 k …` of the input fills its rows of the tile buffer with the tile. -/
theorem landed (X : S8192x2048.Idx → Elt F .f32) (i k : ℕ) (hi : i < 8) (hk : k < 8)
    (inb : ∀ a, (![128 * k, 0] : Fin 2 → ℕ) a + S128x2048.size a ≤ S1024x2048.size a)
    (inb' : ∀ a, (![1024 * i + 128 * k, 0] : Fin 2 → ℕ) a + S128x2048.size a ≤ S8192x2048.size a) (g : S1024x2048.Idx → Elt F .f32)
    (p : S1024x2048.Idx) (hp : p ∈ bandB (128 * k) (128 * k + 128)) :
    ((dstM ![128 * k, 0] inb).view.write (Elt F) g
      (ReadAs.same.apply ((srcM ![1024 * i + 128 * k, 0] inb').view.read (Elt F) X))
      Finset.univ : S1024x2048.Idx → Elt F .f32) p = xtile X i p := by
  have hs := setB k inb
  rw [← hs] at hp
  obtain ⟨x, -, hx⟩ := Finset.mem_map.mp hp
  subst hx
  refine (View.write_emb_of_mem _ _ (Finset.mem_univ x)).trans ?_
  show X _ = X _
  congr 1
  funext a
  have hx0 : (x 0).val < 128 := (x 0).isLt
  fin_cases a
  · apply Fin.ext
    show 1024 * i + 128 * k + 1 * (x 0).val = (1024 * i + (128 * k + 1 * (x 0).val)) % 8192
    rw [Nat.mod_eq_of_lt (by omega)]; omega
  · rfl

theorem splitB (c : Dev nD) (g : S1024x2048.Idx → Elt F .f32) (k : ℕ) (hk : k < 8) :
    (xbL c ↦[bandB (128 * k) 1024]{fullShare} g : sProp 𝕄)
      ⊣⊢ iprop((xbL c ↦[bandB (128 * k) (128 * k + 128)]{fullShare} g) ∗ xbL c ↦[bandB (128 * (k + 1)) 1024]{fullShare} g) := by
  have hu : bandB (128 * k) 1024 = bandB (128 * k) (128 * k + 128) ∪ bandB (128 * (k + 1)) 1024 := by
    ext p; simp only [bandB, Finset.mem_union, Finset.mem_filter, Finset.mem_univ, true_and]; omega
  have hd : Disjoint (bandB (128 * k) (128 * k + 128)) (bandB (128 * (k + 1)) 1024) := by
    rw [Finset.disjoint_left]; intro p h1 h2
    simp only [bandB, Finset.mem_filter, Finset.mem_univ, true_and] at h1 h2; omega
  rw [hu]
  exact pointsTo_union hd

theorem splitX (c : Dev nD) (X : S8192x2048.Idx → Elt F .f32) (o k : ℕ) :
    (xL c ↦[outX o (o + 128 * k)]{fullShare} X : sProp 𝕄)
      ⊣⊢ iprop((xL c ↦[bandX (o + 128 * k) (o + 128 * k + 128)]{fullShare} X) ∗ xL c ↦[outX o (o + 128 * (k + 1))]{fullShare} X) := by
  have hu : outX o (o + 128 * k) = bandX (o + 128 * k) (o + 128 * k + 128) ∪ outX o (o + 128 * (k + 1)) := by
    ext p; simp only [bandX, outX, Finset.mem_union, Finset.mem_filter, Finset.mem_univ, true_and]; omega
  have hd : Disjoint (bandX (o + 128 * k) (o + 128 * k + 128)) (outX o (o + 128 * (k + 1))) := by
    rw [Finset.disjoint_left]; intro p h1 h2
    simp only [bandX, outX, Finset.mem_filter, Finset.mem_univ, true_and] at h1 h2; omega
  rw [hu]
  exact pointsTo_union hd

/-- Copy `k` of tile `i` starts: its rows leave the two buffers for the batch. -/
theorem issue_wp (c : Dev nD) (X : S8192x2048.Idx → Elt F .f32) (i k : ℕ) (hi : i < 8) (hk : k < 8) (g : S1024x2048.Idx → Elt F .f32)
    (off : Fin 2 → ℕ) (off' : Fin 2 → ℕ) (ho : off = ![1024 * i + 128 * k, 0]) (ho' : off' = ![128 * k, 0]) (inb : ∀ a, off a + S128x2048.size a ≤ S8192x2048.size a)
    (inb' : ∀ a, off' a + S128x2048.size a ≤ S1024x2048.size a)
    {hsrc : (srcM off inb).view.WordExact}
    {hdst : (dstM off' inb').view.WordExact}
    {hsem}
    {α : Type} {kont : PUnit → Prog (TpuEff nD τ sig (Elt F) Λ₀ .tc) α} {Q : α → sProp 𝕄} :
    iprop((xbL c ↦[bandB (128 * k) 1024]{fullShare} g) ∗ (xL c ↦[outX (1024 * i) (1024 * i + 128 * k)]{fullShare} X) ∗ batch c X i k)
      ⊢ iprop((iprop((xbL c ↦[bandB (128 * (k + 1)) 1024]{fullShare} g) ∗ (xL c ↦[outX (1024 * i) (1024 * i + 128 * (k + 1))]{fullShare} X) ∗ batch c X i (k + 1))
          -∗ wp frame (wpE (defs₀ (F := F)) Variants.none (c : Thread nD τ) none) Set.univ (kont ⟨⟩) Q)
        -∗ wp frame (wpE (defs₀ (F := F)) Variants.none (c : Thread nD τ) none) Set.univ
            (.op (.enqueueDmaAs (srcM off inb)
              (.here (dstM off' inb')) .same (.dma cc0_scratch2.sem) hsrc hdst hsem) kont) Q) := by
  subst ho ho'
  iintro ⟨HB, HX, Hb⟩ Hk
  ihave HB2 := (splitB c g k hk).1 $$ HB
  icases HB2 with ⟨HB1, HB2⟩
  ihave HX2 := (splitX c X (1024 * i) k).1 $$ HX
  icases HX2 with ⟨HX1, HX2⟩
  iapply (Transfers.wp_dmaBatch EC Variants.none (c : Thread nD τ) none (q := fullShare) (src := srcM _ inb) (dst := dstM _ inb') (fs := X) (fd := g)
    (Sd := bandB (128 * k) (128 * k + 128)) (D := deliv c X i) (j := k) (u := 0) () NB rfl
    (le_of_eq (setB k inb')) hk (Nat.zero_le _) ?_) $$ [HB1 HX1 Hb]
  · unfold deliv
    have e1 : ((xbL c ↦[bandB (128 * k) (128 * k + 128)]{fullShare} ((dstM ![128 * k, 0] inb').view.write (Elt F) g
        (ReadAs.same.apply ((srcM ![1024 * i + 128 * k, 0] inb).view.read (Elt F) X)) Finset.univ)) : sProp 𝕄)
        = (xbL c ↦[bandB (128 * k) (128 * k + 128)]{fullShare} xtile X i) :=
      pointsTo_congr fun p hp => landed X i k hi hk inb' inb g p hp
    have e2 : ((xL c ↦[(srcM ![1024 * i + 128 * k, 0] inb).view.set]{fullShare} X) : sProp 𝕄)
        = (xL c ↦[bandX (1024 * i + 128 * k) (1024 * i + 128 * k + 128)]{fullShare} X) := by rw [setX]
    rw [← e1, ← e2]
  · isplitl [HX1]
    · have e2 : ((xL c ↦[(srcM ![1024 * i + 128 * k, 0] inb).view.set]{fullShare} X) : sProp 𝕄)
          = (xL c ↦[bandX (1024 * i + 128 * k) (1024 * i + 128 * k + 128)]{fullShare} X) := by rw [setX]
      iapply (Entails.of_eq e2.symm) $$ HX1
    isplitl [HB1]; · iexact HB1
    iexact Hb
  iintro Hb
  iapply Hk
  isplitl [HB2]; · iexact HB2
  isplitl [HX2]; · iexact HX2
  iexact Hb

/-- The eight deliveries together are the tile in the buffer and the input back whole. -/
theorem gather (c : Dev nD) (X : S8192x2048.Idx → Elt F .f32) (i : ℕ) (hi : i < 8) :
    iprop((xL c ↦[outX (1024 * i) (1024 * i + 1024)]{fullShare} X) ∗ bigSep Finset.univ (fun r => deliv c X i r))
      ⊢ (iprop((xbL c ↦{fullShare} xtile X i) ∗ (xL c ↦{fullShare} X)) : sProp 𝕄) := by
  have hB : (bigSep Finset.univ (fun r : Fin 8 => xbL c ↦[bandB (128 * r.val) (128 * r.val + 128)]{fullShare} xtile X i) : sProp 𝕄)
      = (xbL c ↦{fullShare} xtile X i) := by
    have hU : (Finset.univ.biUnion fun r : Fin 8 => bandB (128 * r.val) (128 * r.val + 128)) = Finset.univ := by
      refine Finset.eq_univ_iff_forall.mpr fun p => ?_
      have hp : (p 0).val < 1024 := (p 0).isLt
      refine Finset.mem_biUnion.mpr ⟨⟨(p 0).val / 128, by omega⟩, Finset.mem_univ _, (memB _ _ p).mpr ⟨?_, ?_⟩⟩
      · show 128 * ((p 0).val / 128) ≤ _; omega
      · show _ < 128 * ((p 0).val / 128) + 128; omega
    have h := pointsTo_biUnion (Ix := Unit) (Name := ℕ) (U := Pipeline.UD sig nD τ) (Lvl := ℕ) (ℓ := xbL c) (q := fullShare) (f := xtile X i)
      (Finset.univ : Finset (Fin 8)) (fun r => bandB (128 * r.val) (128 * r.val + 128)) (fun r _ r' _ hr => by
        refine Finset.disjoint_left.mpr fun p h1 h2 => ?_
        have h1 := (memB _ _ p).mp h1; have h2 := (memB _ _ p).mp h2
        exact hr (Fin.ext (by omega)))
    rw [← h]
    exact congrArg (fun S => (xbL c ↦[S]{fullShare} xtile X i : sProp 𝕄)) hU
  have hX : (bigSep Finset.univ (fun r : Fin 8 => xL c ↦[bandX (1024 * i + 128 * r.val) (1024 * i + 128 * r.val + 128)]{fullShare} X) : sProp 𝕄)
      = (xL c ↦[bandX (1024 * i) (1024 * i + 1024)]{fullShare} X) := by
    have hU : (Finset.univ.biUnion fun r : Fin 8 => bandX (1024 * i + 128 * r.val) (1024 * i + 128 * r.val + 128)) = bandX (1024 * i) (1024 * i + 1024) := by
      refine Finset.ext fun p => ?_
      rw [Finset.mem_biUnion, memX]
      constructor
      · rintro ⟨r, -, h⟩
        have h := (memX _ _ p).mp h
        have := r.isLt
        omega
      · rintro ⟨h1, h2⟩
        refine ⟨⟨((p 0).val - 1024 * i) / 128, by omega⟩, Finset.mem_univ _, (memX _ _ p).mpr ⟨?_, ?_⟩⟩
        · show 1024 * i + 128 * (((p 0).val - 1024 * i) / 128) ≤ _; omega
        · show _ < 1024 * i + 128 * (((p 0).val - 1024 * i) / 128) + 128; omega
    have h := pointsTo_biUnion (Ix := Unit) (Name := ℕ) (U := Pipeline.UD sig nD τ) (Lvl := ℕ) (ℓ := xL c) (q := fullShare) (f := X)
      (Finset.univ : Finset (Fin 8)) (fun r => bandX (1024 * i + 128 * r.val) (1024 * i + 128 * r.val + 128)) (fun r _ r' _ hr => by
        refine Finset.disjoint_left.mpr fun p h1 h2 => ?_
        have h1 := (memX _ _ p).mp h1; have h2 := (memX _ _ p).mp h2
        exact hr (Fin.ext (by omega)))
    rw [← h]
    exact congrArg (fun S => (xL c ↦[S]{fullShare} X : sProp 𝕄)) hU
  have hu : (Finset.univ : Finset S8192x2048.Idx) = bandX (1024 * i) (1024 * i + 1024) ∪ outX (1024 * i) (1024 * i + 1024) := by
    refine (Finset.eq_univ_iff_forall.mpr fun p => ?_).symm
    rw [Finset.mem_union, memX, memO]; exact em _
  have hd : Disjoint (bandX (1024 * i) (1024 * i + 1024)) (outX (1024 * i) (1024 * i + 1024)) :=
    Finset.disjoint_left.mpr fun p h1 h2 => (memO _ _ p).mp h2 ((memX _ _ p).mp h1)
  have hj : (xL c ↦[(Finset.univ : Finset S8192x2048.Idx)]{fullShare} X : sProp 𝕄) ⊣⊢ iprop((xL c ↦[bandX (1024 * i) (1024 * i + 1024)]{fullShare} X) ∗ xL c ↦[outX (1024 * i) (1024 * i + 1024)]{fullShare} X) := by
    rw [hu]; exact pointsTo_union hd
  have hs : (bigSep Finset.univ (fun r : Fin 8 => deliv c X i r) : sProp 𝕄)
      = iprop((xbL c ↦{fullShare} xtile X i) ∗ xL c ↦[bandX (1024 * i) (1024 * i + 1024)]{fullShare} X) := by
    rw [← hB, ← hX]; exact bigSep_sep _ _ _
  rw [hs]
  iintro ⟨HO, HB, HX⟩
  isplitl [HB]; · iexact HB
  iapply hj.2
  isplitl [HX]; · iexact HX
  iexact HO

/-- `gather` at the deliveries one by one. -/
theorem gather8 (c : Dev nD) (X : S8192x2048.Idx → Elt F .f32) (i : ℕ) (hi : i < 8) :
    iprop((xL c ↦[outX (1024 * i) (1024 * i + 128 * 8)]{fullShare} X) ∗ deliv c X i 0 ∗ deliv c X i 1 ∗ deliv c X i 2 ∗ deliv c X i 3
      ∗ deliv c X i 4 ∗ deliv c X i 5 ∗ deliv c X i 6 ∗ deliv c X i 7)
      ⊢ (iprop((xbL c ↦{fullShare} xtile X i) ∗ (xL c ↦{fullShare} X)) : sProp 𝕄) := by
  have h := gather c X i hi
  rw [bigSep_univ_eq_bigSepL [(0 : Fin 8), 1, 2, 3, 4, 5, 6, 7] (by decide) (by decide) (fun r => deliv c X i r)] at h
  exact h

/-- The eight copies of tile `i` in flight beside what they leave. -/
def flight (c : Dev nD) (X : S8192x2048.Idx → Elt F .f32) (i k : ℕ) : sProp 𝕄 :=
  iprop((∃ g : S1024x2048.Idx → Elt F .f32, xbL c ↦[bandB (128 * k) 1024]{fullShare} g)
    ∗ (xL c ↦[outX (1024 * i) (1024 * i + 128 * k)]{fullShare} X) ∗ batch c X i k)

/-- The buffers at rest: no copy in flight. -/
def rest (c : Dev nD) (X : S8192x2048.Idx → Elt F .f32) : sProp 𝕄 :=
  iprop((∃ g : S1024x2048.Idx → Elt F .f32, xbL c ↦{fullShare} g) ∗ (xL c ↦{fullShare} X) ∗ semVal ((c : Thread nD τ), SemLoc.dma cc0_scratch2.sem) 0)

theorem open_flight (c : Dev nD) (X : S8192x2048.Idx → Elt F .f32) (i : ℕ) :
    rest c X ⊢ |={Set.univ}=> flight c X i 0 := by
  unfold rest flight
  iintro ⟨⟨%g, HB⟩, HX, Hs⟩
  imod (Transfers.batch_alloc' (Lvl := ℕ) EC (c : Thread nD τ) () NB (deliv c X i) (sm := .dma cc0_scratch2.sem) (E := Set.univ)) $$ Hs with Hb
  imodintro
  have eB : bandB (128 * 0) 1024 = Finset.univ := by
    ext p; have := (p 0).isLt
    simp only [bandB, Finset.mem_filter, Finset.mem_univ, true_and, iff_true]
    exact ⟨by omega, this⟩
  have eX : outX (1024 * i) (1024 * i + 128 * 0) = Finset.univ := by
    ext p
    simp only [outX, Finset.mem_filter, Finset.mem_univ, true_and, iff_true]; omega
  rw [eB, eX]
  isplitl [HB]; · iexists g; iexact HB
  isplitl [HX]; · iexact HX
  iexact Hb

end Cert.Kernel3Ideal.Hand
end
-- ==== Proof.CastRunD.lean ====
module

public import proofs.«01_k».proof.Proof.Gen.Kernel3Ideal.Frame
public import proofs.«01_k».proof.Proof.Gen.Kernel3Ideal.Skeleton
public import proofs.«01_k».proof.Proof.CastBase

@[expose] public section

set_option maxRecDepth 16384
set_option backward.isDefEq.respectTransparency.types false

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

/-- The first condition of the body: the first point of all. -/
abbrev cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

theorem step_eq {h h' : Vec F S1024x2048 .bf16} {wg wg' wu wu' : Vec F S2048x512 .f32} {p p' : Vec F S1024x2048 .f32} {wd wd' : Vec F S512x2048 .f32}
    (e1 : h = h') (e2 : wg = wg') (e3 : wu = wu') (e4 : p = p') (e5 : wd = wd') :
    k0_pay1 h (k0_pay13 h wg) (k0_pay14 wu) p wd = k0_pay1 h' (k0_pay13 h' wg') (k0_pay14 wu') p' wd' := by
  subst e1 e2 e3 e4 e5; rfl

/-- A point that neither reads the tile nor starts a copy. -/
theorem run_D (c : Dev nD) (i : grid0.Coords) (arg3 : Memref sig .tc .vmem S1x2048 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S512x2048 .f32) (harg6 : arg6.IsWhole) (arg7 : Memref sig .tc .vmem S32x5632 .f32) (harg7 : arg7.IsWhole) (arg8 : Memref sig .tc .vmem S32x2048 .f32) (harg8 : arg8.IsWhole) (arg9 : Memref sig .tc .vmem S1024x2048 .f32) (harg9 : arg9.IsWhole) (arg10 : Memref sig .tc .vmem S32x5632 .bf16) (harg10 : arg10.IsWhole) (arg11 : Memref sig .tc .vmem S32x2048 .bf16) (harg11 : arg11.IsWhole)
    (G : Vec F S1x2048 .f32) (WG WU : Vec F S2048x512 .f32) (WD : Vec F S512x2048 .f32) (A : Vec F S32x5632 .f32) (B : Vec F S32x2048 .f32) (P : Vec F S1024x2048 .f32) (H : Vec F S1024x2048 .bf16)
    (h1 : ¬ cond1 i = 1#1) (h2 : ¬ k0_cond2 i = 1#1) (h3 : ¬ k0_cond3 i = 1#1) (W : Waits sig Unit) (K : PUnit → sProp 𝕄) :
    iprop(owns (c : Thread nD τ) arg7 fullShare A ∗ owns (c : Thread nD τ) arg8 fullShare B ∗ (∃ C, owns (c : Thread nD τ) arg10 fullShare C) ∗ (∃ D, owns (c : Thread nD τ) arg11 fullShare D) ∗ owns (c : Thread nD τ) arg3 fullShare G ∗ owns (c : Thread nD τ) arg4 fullShare WG ∗ owns (c : Thread nD τ) arg5 fullShare WU ∗ owns (c : Thread nD τ) arg6 fullShare WD ∗ owns (c : Thread nD τ) arg9 fullShare P ∗ owns (c : Thread nD τ) mH fullShare H
      ∗ (iprop(owns (c : Thread nD τ) arg7 fullShare A ∗ owns (c : Thread nD τ) arg8 fullShare B ∗ owns (c : Thread nD τ) arg10 fullShare (k0_pay11 A) ∗ owns (c : Thread nD τ) arg11 fullShare (k0_pay12 B) ∗ owns (c : Thread nD τ) arg3 fullShare G ∗ owns (c : Thread nD τ) arg4 fullShare WG ∗ owns (c : Thread nD τ) arg5 fullShare WU ∗ owns (c : Thread nD τ) arg6 fullShare WD ∗ owns (c : Thread nD τ) arg9 fullShare (k0_pay1 H (k0_pay13 H WG) (k0_pay14 WU) P WD) ∗ owns (c : Thread nD τ) mH fullShare H) -∗ K ⟨⟩))
    ⊢ wp frame (wpE (defs₀ (F := F)) Variants.none c none) Set.univ (cc0_ffn i mX (Memref.isWhole_whole _) arg3 harg3 arg4 harg4 arg5 harg5 arg6 harg6 arg7 harg7 arg8 harg8 arg9 harg9 arg10 harg10 arg11 harg11 mH (Memref.isWhole_whole _) mXb (Memref.isWhole_whole _) cc0_scratch2) K := by
  simp only [cc0_ffn_eq_skeleton]; unfold cc0_ffn_skel
  simp only [k0_part6_eq_skeleton]; unfold k0_part6_skel
  unfold owns
  iintro ⟨⟨%fa, %hfa, Ja⟩, ⟨%fb, %hfb, Jb⟩, ⟨%C, %fc, -, Jc⟩, ⟨%D, %fd, -, Jd⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg7.eq_unread hfa; obtain rfl := harg8.eq_unread hfb
  obtain rfl := harg3.eq_unread hf3; obtain rfl := harg4.eq_unread hf4; obtain rfl := harg5.eq_unread hf5
  obtain rfl := harg6.eq_unread hf6; obtain rfl := harg9.eq_unread hf7
  have hmH : mH.IsWhole := Memref.isWhole_whole _
  obtain rfl := hmH.eq_unread hf8
  sl_exec (disch := first | sl_exact h1 | sl_exact h2 | sl_exact h3)
  sl_step
  iapply Hk
  isplitl [Ja]; · iexists _; isplitr; · ipureintro; exact harg7.read_unread _
                  iexact Ja
  isplitl [Jb]; · iexists _; isplitr; · ipureintro; exact harg8.read_unread _
                  iexact Jb
  isplitl [Jc]
  · iexists _; isplitr
    swap; · iexact Jc
    ipureintro
    refine (View.read_writes_full _ _ _ _ _).trans ?_
    exact congrArg k0_pay11 ((View.readAt_full _ _ _).trans hfa)
  isplitl [Jd]
  · iexists _; isplitr
    swap; · iexact Jd
    ipureintro
    refine (View.read_writes_full _ _ _ _ _).trans ?_
    exact congrArg k0_pay12 ((View.readAt_full _ _ _).trans hfb)
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]
  · iexists _; isplitr
    swap; · iexact H7
    ipureintro
    refine (View.read_writes_full _ _ _ _ _).trans ?_
    exact step_eq ((View.readAt_full _ _ _).trans hf8) ((View.readAt_full _ _ _).trans hf4) ((View.readAt_full _ _ _).trans hf5)
      ((View.readAt_full _ _ _).trans hf7) ((View.readAt_full _ _ _).trans hf6)
  iexists _; isplitr; · ipureintro; exact hmH.read_unread _
  iexact H8

end Cert.Kernel3Ideal.Hand
end
-- ==== Proof.CastTiles.lean ====
module

public import proofs.«01_k».proof.Proof.Gen.Kernel3Ideal.Frame
public import proofs.«01_k».proof.Proof.Gen.Kernel3Ideal.Skeleton
public import proofs.«01_k».proof.Proof.CastRunD

@[expose] public section

set_option maxRecDepth 16384
set_option backward.isDefEq.respectTransparency.types false

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

/-- Rows `128 r … 128 r + 127` of tile `i`. -/
def chunk (X : S8192x2048.Idx → Elt F .f32) (i r : ℕ) : Vec F S128x2048 .f32 := fun x =>
  X (fun | 0 => ⟨(1024 * i + 128 * r + (x 0).val) % 8192, Nat.mod_lt _ (by decide)⟩ | 1 => x 1)

/-- The normed rows of tile `i`, chunk by chunk. -/
def hval (X : S8192x2048.Idx → Elt F .f32) (G : Vec F S1x2048 .f32) (i : ℕ) : Vec F S1024x2048 .bf16 := fun y =>
  k0_pay2 (chunk X i ((y 0).val / 128)) G (fun | 0 => ⟨(y 0).val % 128, Nat.mod_lt _ (by decide)⟩ | 1 => y 1)

/-- Eight stripes of 128 rows that agree with a plane read back as that plane. -/
theorem read_stripes {κ : Kind} {e : EltTy} (v : View sig κ .vmem S1024x2048 e) (f : v.ty.Contents (Elt F)) (P : S1024x2048.Idx → Elt F e)
    (L : List (View.Piece (Elt F) S1024x2048 e))
    (hc : ∀ y : S1024x2048.Idx, ∃ p ∈ L, y ∈ p.1.set)
    (hp : ∀ p ∈ L, ∀ x : p.1.shape.Idx, p.2 x = P (p.1.emb x)) : v.read (Elt F) (v.writes (Elt F) f L) = P :=
  funext fun y => View.read_writes_apply_of_pieces v f P L hp y (hc y)

/-- The eight stripes, named one by one. -/
theorem read_stripes8 {κ : Kind} {e : EltTy} (v : View sig κ .vmem S1024x2048 e) (f : v.ty.Contents (Elt F)) (P : S1024x2048.Idx → Elt F e)
    (w7 w6 w5 w4 w3 w2 w1 w0 : S128x2048.Idx → Elt F e)
    (h7 : ∀ x : S128x2048.Idx, w7 x = P ((Rect.unit (s := S1024x2048) ![896, 0] S128x2048.size inb_S1024x2048_S128x2048_896_0).emb x))
    (h6 : ∀ x : S128x2048.Idx, w6 x = P ((Rect.unit (s := S1024x2048) ![768, 0] S128x2048.size inb_S1024x2048_S128x2048_768_0).emb x))
    (h5 : ∀ x : S128x2048.Idx, w5 x = P ((Rect.unit (s := S1024x2048) ![640, 0] S128x2048.size inb_S1024x2048_S128x2048_640_0).emb x))
    (h4 : ∀ x : S128x2048.Idx, w4 x = P ((Rect.unit (s := S1024x2048) ![512, 0] S128x2048.size inb_S1024x2048_S128x2048_512_0).emb x))
    (h3 : ∀ x : S128x2048.Idx, w3 x = P ((Rect.unit (s := S1024x2048) ![384, 0] S128x2048.size inb_S1024x2048_S128x2048_384_0).emb x))
    (h2 : ∀ x : S128x2048.Idx, w2 x = P ((Rect.unit (s := S1024x2048) ![256, 0] S128x2048.size inb_S1024x2048_S128x2048_256_0).emb x))
    (h1 : ∀ x : S128x2048.Idx, w1 x = P ((Rect.unit (s := S1024x2048) ![128, 0] S128x2048.size inb_S1024x2048_S128x2048_128_0).emb x))
    (h0 : ∀ x : S128x2048.Idx, w0 x = P ((Rect.unit (s := S1024x2048) ![0, 0] S128x2048.size inb_S1024x2048_S128x2048_0_0).emb x)) :
    v.read (Elt F) (v.writes (Elt F) f [⟨Rect.unit (s := S1024x2048) ![896, 0] S128x2048.size inb_S1024x2048_S128x2048_896_0, w7⟩, ⟨Rect.unit (s := S1024x2048) ![768, 0] S128x2048.size inb_S1024x2048_S128x2048_768_0, w6⟩, ⟨Rect.unit (s := S1024x2048) ![640, 0] S128x2048.size inb_S1024x2048_S128x2048_640_0, w5⟩, ⟨Rect.unit (s := S1024x2048) ![512, 0] S128x2048.size inb_S1024x2048_S128x2048_512_0, w4⟩, ⟨Rect.unit (s := S1024x2048) ![384, 0] S128x2048.size inb_S1024x2048_S128x2048_384_0, w3⟩, ⟨Rect.unit (s := S1024x2048) ![256, 0] S128x2048.size inb_S1024x2048_S128x2048_256_0, w2⟩, ⟨Rect.unit (s := S1024x2048) ![128, 0] S128x2048.size inb_S1024x2048_S128x2048_128_0, w1⟩, ⟨Rect.unit (s := S1024x2048) ![0, 0] S128x2048.size inb_S1024x2048_S128x2048_0_0, w0⟩]) = P := by
  refine read_stripes v f P _ (View.cover_of_tiled _ ![128, 2048] (by rfl)) ?_
  simp only [List.forall_mem_cons]
  exact ⟨h7, h6, h5, h4, h3, h2, h1, h0, fun _ h => absurd h List.not_mem_nil⟩

/-- A stripe of the tile. -/
theorem stripe_x (X : S8192x2048.Idx → Elt F .f32) (i r : ℕ) (off : Fin 2 → ℕ) (ho : off = ![128 * r, 0]) (inb : ∀ a, off a + S128x2048.size a ≤ S1024x2048.size a)
    (x : S128x2048.Idx) :
    View.readAt (Elt F) mXb.view (Rect.unit (s := S1024x2048) off S128x2048.size inb).toLoadRect (xtile X i) x = xtile X i ((Rect.unit (s := S1024x2048) off S128x2048.size inb).emb x) := by
  rw [View.readAt_apply]; rfl

theorem stripe_eq (X : S8192x2048.Idx → Elt F .f32) (i r : ℕ) (off : Fin 2 → ℕ) (ho : off = ![128 * r, 0]) (inb : ∀ a, off a + S128x2048.size a ≤ S1024x2048.size a) :
    View.readAt (Elt F) mXb.view (Rect.unit (s := S1024x2048) off S128x2048.size inb).toLoadRect (xtile X i) = chunk X i r := by
  subst ho
  funext x
  rw [View.readAt_apply]
  show X _ = X _
  congr 1
  funext a
  match a with
  | 0 => exact Fin.ext (by show (1024 * i + (128 * r + 1 * (x 0).val)) % 8192 = (1024 * i + 128 * r + (x 0).val) % 8192; congr 1; omega)
  | 1 => exact Fin.ext (by show 0 + 1 * (x 1).val = (x 1).val; omega)

/-- A stripe of the normed rows. -/
theorem stripe_h (X : S8192x2048.Idx → Elt F .f32) (G : Vec F S1x2048 .f32) (i r : ℕ) (off : Fin 2 → ℕ) (ho : off = ![128 * r, 0]) (inb : ∀ a, off a + S128x2048.size a ≤ S1024x2048.size a)
    (A : Vec F S128x2048 .f32) (B : Vec F S1x2048 .f32) (hA : A = chunk X i r) (hB : B = G) (x : S128x2048.Idx) :
    k0_pay2 A B x = hval X G i ((Rect.unit (s := S1024x2048) off S128x2048.size inb).emb x) := by
  subst ho hA hB
  have h0 : (x 0).val < 128 := (x 0).isLt
  have e0 : (((Rect.unit (s := S1024x2048) ![128 * r, 0] S128x2048.size inb).emb x) 0).val = 128 * r + 1 * (x 0).val := rfl
  unfold hval
  have q : (((Rect.unit (s := S1024x2048) ![128 * r, 0] S128x2048.size inb).emb x) 0).val / 128 = r := by rw [e0]; omega
  rw [q]
  congr 1
  funext a
  match a with
  | 0 => exact Fin.ext (by show (x 0).val = (128 * r + 1 * (x 0).val) % 128; omega)
  | 1 => exact Fin.ext (by show (x 1).val = 0 + 1 * (x 1).val; omega)

theorem pay_row7 (A : Vec F S128x2048 .f32) (B : Vec F S1x2048 .f32) : k0_pay10 A B = k0_pay2 A B := rfl

theorem pay_row6 (A : Vec F S128x2048 .f32) (B : Vec F S1x2048 .f32) : k0_pay9 A B = k0_pay2 A B := rfl

theorem pay_row5 (A : Vec F S128x2048 .f32) (B : Vec F S1x2048 .f32) : k0_pay8 A B = k0_pay2 A B := rfl

theorem pay_row4 (A : Vec F S128x2048 .f32) (B : Vec F S1x2048 .f32) : k0_pay7 A B = k0_pay2 A B := rfl

theorem pay_row3 (A : Vec F S128x2048 .f32) (B : Vec F S1x2048 .f32) : k0_pay6 A B = k0_pay2 A B := rfl

theorem pay_row2 (A : Vec F S128x2048 .f32) (B : Vec F S1x2048 .f32) : k0_pay5 A B = k0_pay2 A B := rfl

theorem pay_row1 (A : Vec F S128x2048 .f32) (B : Vec F S1x2048 .f32) : k0_pay4 A B (k0_pay3 A) = k0_pay2 A B := rfl

/-- What the eight normed stripes leave. -/
theorem hread {κ : Kind} (v : View sig κ .vmem S1024x2048 .bf16) (f : v.ty.Contents (Elt F)) (X : S8192x2048.Idx → Elt F .f32) (G : Vec F S1x2048 .f32) (i : ℕ)
    (A7 A6 A5 A4 A3 A2 A1 A0 : Vec F S128x2048 .f32) (B7 B6 B5 B4 B3 B2 B1 B0 : Vec F S1x2048 .f32)
    (a7 : A7 = chunk X i 7) (a6 : A6 = chunk X i 6) (a5 : A5 = chunk X i 5) (a4 : A4 = chunk X i 4) (a3 : A3 = chunk X i 3) (a2 : A2 = chunk X i 2) (a1 : A1 = chunk X i 1) (a0 : A0 = chunk X i 0)
    (b7 : B7 = G) (b6 : B6 = G) (b5 : B5 = G) (b4 : B4 = G) (b3 : B3 = G) (b2 : B2 = G) (b1 : B1 = G) (b0 : B0 = G) :
    v.read (Elt F) (v.writes (Elt F) f [⟨Rect.unit (s := S1024x2048) ![896, 0] S128x2048.size inb_S1024x2048_S128x2048_896_0, k0_pay10 A7 B7⟩, ⟨Rect.unit (s := S1024x2048) ![768, 0] S128x2048.size inb_S1024x2048_S128x2048_768_0, k0_pay9 A6 B6⟩, ⟨Rect.unit (s := S1024x2048) ![640, 0] S128x2048.size inb_S1024x2048_S128x2048_640_0, k0_pay8 A5 B5⟩, ⟨Rect.unit (s := S1024x2048) ![512, 0] S128x2048.size inb_S1024x2048_S128x2048_512_0, k0_pay7 A4 B4⟩, ⟨Rect.unit (s := S1024x2048) ![384, 0] S128x2048.size inb_S1024x2048_S128x2048_384_0, k0_pay6 A3 B3⟩, ⟨Rect.unit (s := S1024x2048) ![256, 0] S128x2048.size inb_S1024x2048_S128x2048_256_0, k0_pay5 A2 B2⟩, ⟨Rect.unit (s := S1024x2048) ![128, 0] S128x2048.size inb_S1024x2048_S128x2048_128_0, k0_pay4 A1 B1 (k0_pay3 A1)⟩, ⟨Rect.unit (s := S1024x2048) ![0, 0] S128x2048.size inb_S1024x2048_S128x2048_0_0, k0_pay2 A0 B0⟩]) = hval X G i := by
  rw [pay_row7, pay_row6, pay_row5, pay_row4, pay_row3, pay_row2, pay_row1]
  exact read_stripes8 v f (hval X G i) _ _ _ _ _ _ _ _ (fun x => stripe_h X G i 7 ![896, 0] rfl inb_S1024x2048_S128x2048_896_0 A7 B7 a7 b7 x) (fun x => stripe_h X G i 6 ![768, 0] rfl inb_S1024x2048_S128x2048_768_0 A6 B6 a6 b6 x) (fun x => stripe_h X G i 5 ![640, 0] rfl inb_S1024x2048_S128x2048_640_0 A5 B5 a5 b5 x) (fun x => stripe_h X G i 4 ![512, 0] rfl inb_S1024x2048_S128x2048_512_0 A4 B4 a4 b4 x) (fun x => stripe_h X G i 3 ![384, 0] rfl inb_S1024x2048_S128x2048_384_0 A3 B3 a3 b3 x) (fun x => stripe_h X G i 2 ![256, 0] rfl inb_S1024x2048_S128x2048_256_0 A2 B2 a2 b2 x) (fun x => stripe_h X G i 1 ![128, 0] rfl inb_S1024x2048_S128x2048_128_0 A1 B1 a1 b1 x) (fun x => stripe_h X G i 0 ![0, 0] rfl inb_S1024x2048_S128x2048_0_0 A0 B0 a0 b0 x)

/-- A load of a whole plane after writes that cover it. -/
theorem cov_of {κ : Kind} {e : EltTy} (v : View sig κ .vmem S1024x2048 e) (L : List (View.Piece (Elt F) S1024x2048 e)) (P : S1024x2048.Idx → Elt F e)
    (h : ∀ f, v.read (Elt F) (v.writes (Elt F) f L) = P) :
    v.readCov L (Rect.unit (s := S1024x2048) ![0, 0] S1024x2048.size inb_S1024x2048_S1024x2048_0_0).toLoadRect = P :=
  (View.readAt_full v _ _).trans (h _)

end Cert.Kernel3Ideal.Hand
end
-- ==== Proof.CastRunA.lean ====
module

public import proofs.«01_k».proof.Proof.Gen.Kernel3Ideal.Frame
public import proofs.«01_k».proof.Proof.Gen.Kernel3Ideal.Skeleton
public import proofs.«01_k».proof.Proof.CastRunD
public import proofs.«01_k».proof.Proof.CastTiles

@[expose] public section

set_option maxRecDepth 16384
set_option backward.isDefEq.respectTransparency.types false

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

/-- The monad's bind is the program's. -/
theorem bind_eq_bind {E : Type → Type} {α β : Type} (p : Prog E α) (k : α → Prog E β) : p >>= k = p.bind k := rfl

set_option maxHeartbeats 1000000 in
/-- The first point: it starts the eight copies of tile 0 and takes them. -/
theorem run_A (c : Dev nD) (i : grid0.Coords) (arg3 : Memref sig .tc .vmem S1x2048 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S512x2048 .f32) (harg6 : arg6.IsWhole) (arg7 : Memref sig .tc .vmem S32x5632 .f32) (harg7 : arg7.IsWhole) (arg8 : Memref sig .tc .vmem S32x2048 .f32) (harg8 : arg8.IsWhole) (arg9 : Memref sig .tc .vmem S1024x2048 .f32) (harg9 : arg9.IsWhole) (arg10 : Memref sig .tc .vmem S32x5632 .bf16) (harg10 : arg10.IsWhole) (arg11 : Memref sig .tc .vmem S32x2048 .bf16) (harg11 : arg11.IsWhole)
    (G : Vec F S1x2048 .f32) (WG WU : Vec F S2048x512 .f32) (WD : Vec F S512x2048 .f32) (A : Vec F S32x5632 .f32) (B : Vec F S32x2048 .f32) (X : S8192x2048.Idx → Elt F .f32)
    (h1 : cond1 i = 1#1) (h2 : k0_cond2 i = 1#1) (h3 : ¬ k0_cond3 i = 1#1) (W : Waits sig Unit) (K : PUnit → sProp 𝕄) :
    iprop(owns (c : Thread nD τ) arg7 fullShare A ∗ owns (c : Thread nD τ) arg8 fullShare B ∗ (∃ C, owns (c : Thread nD τ) arg10 fullShare C) ∗ (∃ D, owns (c : Thread nD τ) arg11 fullShare D) ∗ owns (c : Thread nD τ) arg3 fullShare G ∗ owns (c : Thread nD τ) arg4 fullShare WG ∗ owns (c : Thread nD τ) arg5 fullShare WU ∗ owns (c : Thread nD τ) arg6 fullShare WD ∗ (∃ P, owns (c : Thread nD τ) arg9 fullShare P) ∗ (∃ H, owns (c : Thread nD τ) mH fullShare H)
      ∗ rest c X ∗ owes (c : Thread nD τ) 0 W
      ∗ (iprop(owns (c : Thread nD τ) arg7 fullShare A ∗ owns (c : Thread nD τ) arg8 fullShare B ∗ owns (c : Thread nD τ) arg10 fullShare (k0_pay11 A) ∗ owns (c : Thread nD τ) arg11 fullShare (k0_pay12 B) ∗ owns (c : Thread nD τ) arg3 fullShare G ∗ owns (c : Thread nD τ) arg4 fullShare WG ∗ owns (c : Thread nD τ) arg5 fullShare WU ∗ owns (c : Thread nD τ) arg6 fullShare WD ∗ owns (c : Thread nD τ) arg9 fullShare (k0_pay1 (hval X G 0) (k0_pay13 (hval X G 0) WG) (k0_pay14 WU) (xtile X 0) WD) ∗ owns (c : Thread nD τ) mH fullShare (hval X G 0)
        ∗ rest c X ∗ ∃ W, owes (c : Thread nD τ) 0 W) -∗ K ⟨⟩))
    ⊢ wp frame (wpE (defs₀ (F := F)) Variants.none c none) Set.univ (cc0_ffn i mX (Memref.isWhole_whole _) arg3 harg3 arg4 harg4 arg5 harg5 arg6 harg6 arg7 harg7 arg8 harg8 arg9 harg9 arg10 harg10 arg11 harg11 mH (Memref.isWhole_whole _) mXb (Memref.isWhole_whole _) cc0_scratch2) K := by
  simp only [cc0_ffn_eq_skeleton]; unfold cc0_ffn_skel
  simp only [k0_part6_eq_skeleton, k0_part1_eq_skeleton, k0_part2_eq_skeleton, k0_part3_eq_skeleton, k0_part4_eq_skeleton, k0_part5_eq_skeleton]; unfold k0_part6_skel
  unfold owns
  iintro ⟨⟨%fa, %hfa, Ja⟩, ⟨%fb, %hfb, Jb⟩, ⟨%C, %fc, -, Jc⟩, ⟨%D, %fd, -, Jd⟩, ⟨%f3, %hf3, H3⟩, ⟨%f4, %hf4, H4⟩, ⟨%f5, %hf5, H5⟩, ⟨%f6, %hf6, H6⟩, ⟨%P, %f7, -, H7⟩, ⟨%H, %f8, -, H8⟩, HR0, HO, Hk⟩
  obtain rfl := harg7.eq_unread hfa; obtain rfl := harg8.eq_unread hfb
  obtain rfl := harg3.eq_unread hf3; obtain rfl := harg4.eq_unread hf4; obtain rfl := harg5.eq_unread hf5
  obtain rfl := harg6.eq_unread hf6
  imod (open_flight c X 0) $$ HR0 with HF
  unfold flight
  icases HF with ⟨⟨%g, HG⟩, HX, HB⟩
  sl_exec (disch := first | sl_exact h1 | sl_exact h2 | sl_exact h3)
  iapply (issue_wp c X 0 0 (by decide) (by decide) g ![0, 0] ![0, 0] rfl rfl _ _) $$ [HG HX HB]
  · isplitl [HG]; · iexact HG
    isplitl [HX]; · iexact HX
    iexact HB
  iintro ⟨HG, HX, HB⟩
  iapply (issue_wp c X 0 1 (by decide) (by decide) g ![128, 0] ![128, 0] rfl rfl _ _) $$ [HG HX HB]
  · isplitl [HG]; · iexact HG
    isplitl [HX]; · iexact HX
    iexact HB
  iintro ⟨HG, HX, HB⟩
  iapply (issue_wp c X 0 2 (by decide) (by decide) g ![256, 0] ![256, 0] rfl rfl _ _) $$ [HG HX HB]
  · isplitl [HG]; · iexact HG
    isplitl [HX]; · iexact HX
    iexact HB
  iintro ⟨HG, HX, HB⟩
  iapply (issue_wp c X 0 3 (by decide) (by decide) g ![384, 0] ![384, 0] rfl rfl _ _) $$ [HG HX HB]
  · isplitl [HG]; · iexact HG
    isplitl [HX]; · iexact HX
    iexact HB
  iintro ⟨HG, HX, HB⟩
  iapply (issue_wp c X 0 4 (by decide) (by decide) g ![512, 0] ![512, 0] rfl rfl _ _) $$ [HG HX HB]
  · isplitl [HG]; · iexact HG
    isplitl [HX]; · iexact HX
    iexact HB
  iintro ⟨HG, HX, HB⟩
  iapply (issue_wp c X 0 5 (by decide) (by decide) g ![640, 0] ![640, 0] rfl rfl _ _) $$ [HG HX HB]
  · isplitl [HG]; · iexact HG
    isplitl [HX]; · iexact HX
    iexact HB
  iintro ⟨HG, HX, HB⟩
  iapply (issue_wp c X 0 6 (by decide) (by decide) g ![768, 0] ![768, 0] rfl rfl _ _) $$ [HG HX HB]
  · isplitl [HG]; · iexact HG
    isplitl [HX]; · iexact HX
    iexact HB
  iintro ⟨HG, HX, HB⟩
  iapply (issue_wp c X 0 7 (by decide) (by decide) g ![896, 0] ![896, 0] rfl rfl _ _) $$ [HG HX HB]
  · isplitl [HG]; · iexact HG
    isplitl [HX]; · iexact HX
    iexact HB
  iintro ⟨HG, HX, HB⟩
  simp only [Prog.bind]
  rw [dif_pos h2]
  simp only [← bind_eq_bind]
  sl_exec (disch := first | sl_exact h1 | sl_exact h2 | sl_exact h3)
  ihave HR := (gather8 c X 0 (by decide)) $$ [HX HB_dst0 HB_src0 HB_dst1 HB_src1 HB_dst2 HB_src2 HB_dst3 HB_src3 HB_dst4 HB_src4 HB_dst5 HB_src5 HB_dst6 HB_src6 HB_dst7 HB_src7]
  · isplitl [HX]; · iexact HX
    isplitl [HB_dst0 HB_src0]
    · unfold deliv
      isplitl [HB_dst0]; · iexact HB_dst0
      iexact HB_src0
    isplitl [HB_dst1 HB_src1]
    · unfold deliv
      isplitl [HB_dst1]; · iexact HB_dst1
      iexact HB_src1
    isplitl [HB_dst2 HB_src2]
    · unfold deliv
      isplitl [HB_dst2]; · iexact HB_dst2
      iexact HB_src2
    isplitl [HB_dst3 HB_src3]
    · unfold deliv
      isplitl [HB_dst3]; · iexact HB_dst3
      iexact HB_src3
    isplitl [HB_dst4 HB_src4]
    · unfold deliv
      isplitl [HB_dst4]; · iexact HB_dst4
      iexact HB_src4
    isplitl [HB_dst5 HB_src5]
    · unfold deliv
      isplitl [HB_dst5]; · iexact HB_dst5
      iexact HB_src5
    isplitl [HB_dst6 HB_src6]
    · unfold deliv
      isplitl [HB_dst6]; · iexact HB_dst6
      iexact HB_src6
    unfold deliv
    isplitl [HB_dst7]; · iexact HB_dst7
    iexact HB_src7
  icases HR with ⟨HXb', HX⟩
  ihave HXb := (show (xbL c ↦{fullShare} xtile X 0 : sProp 𝕄) ⊢ (mXb.view.loc (c : Thread nD τ) ↦{fullShare} xtile X 0) from .rfl) $$ HXb'
  ihave H9 := (show ((View.whole cc0_scratch0).loc (c : Thread nD τ) ↦[(View.whole cc0_scratch0).set]{fullShare} f8 : sProp 𝕄) ⊢ (mH.view.loc (c : Thread nD τ) ↦[mH.view.set]{fullShare} f8) from .rfl) $$ H8
  sl_exec (disch := first | sl_exact h1 | sl_exact h2 | sl_exact h3)
  sl_step
  iapply Hk
  have hg := (View.readAt_full arg3.view (harg3.unread G) inb_S1x2048_S1x2048_0_0).trans hf3
  have e8 : ∀ f, mH.view.read (Elt F) (mH.view.writes (Elt F) f (run_A.sl.H9_8 arg3 harg3 G X)) = hval X G 0 := fun f =>
    hread mH.view f X G 0 _ _ _ _ _ _ _ _ _ _ _ _ _ _ _ _
      (stripe_eq X _ 7 ![896, 0] rfl inb_S1024x2048_S128x2048_896_0) (stripe_eq X _ 6 ![768, 0] rfl inb_S1024x2048_S128x2048_768_0) (stripe_eq X _ 5 ![640, 0] rfl inb_S1024x2048_S128x2048_640_0) (stripe_eq X _ 4 ![512, 0] rfl inb_S1024x2048_S128x2048_512_0) (stripe_eq X _ 3 ![384, 0] rfl inb_S1024x2048_S128x2048_384_0) (stripe_eq X _ 2 ![256, 0] rfl inb_S1024x2048_S128x2048_256_0) (stripe_eq X _ 1 ![128, 0] rfl inb_S1024x2048_S128x2048_128_0) (stripe_eq X _ 0 ![0, 0] rfl inb_S1024x2048_S128x2048_0_0) hg hg hg hg hg hg hg hg
  have e7 : ∀ f, arg9.view.read (Elt F) (arg9.view.writes (Elt F) f (run_A.sl.H7_8 X)) = xtile X 0 := fun f =>
    read_stripes8 arg9.view f (xtile X 0) _ _ _ _ _ _ _ _ (stripe_x X 0 7 ![896, 0] rfl inb_S1024x2048_S128x2048_896_0) (stripe_x X 0 6 ![768, 0] rfl inb_S1024x2048_S128x2048_768_0) (stripe_x X 0 5 ![640, 0] rfl inb_S1024x2048_S128x2048_640_0) (stripe_x X 0 4 ![512, 0] rfl inb_S1024x2048_S128x2048_512_0) (stripe_x X 0 3 ![384, 0] rfl inb_S1024x2048_S128x2048_384_0) (stripe_x X 0 2 ![256, 0] rfl inb_S1024x2048_S128x2048_256_0) (stripe_x X 0 1 ![128, 0] rfl inb_S1024x2048_S128x2048_128_0) (stripe_x X 0 0 ![0, 0] rfl inb_S1024x2048_S128x2048_0_0)
  have q1 : run_A.sl.v22 arg3 harg3 G X = hval X G 0 := cov_of mH.view _ _ e8
  have q4 : run_A.sl.v35 arg9 X = xtile X 0 := cov_of arg9.view _ _ e7
  isplitl [Ja]; · iexists _; isplitr; · ipureintro; exact harg7.read_unread _
                  iexact Ja
  isplitl [Jb]; · iexists _; isplitr; · ipureintro; exact harg8.read_unread _
                  iexact Jb
  isplitl [Jc]
  · iexists _; isplitr
    swap; · iexact Jc
    ipureintro
    refine (View.read_writes_full _ _ _ _ _).trans ?_
    exact congrArg k0_pay11 ((View.readAt_full _ _ _).trans hfa)
  isplitl [Jd]
  · iexists _; isplitr
    swap; · iexact Jd
    ipureintro
    refine (View.read_writes_full _ _ _ _ _).trans ?_
    exact congrArg k0_pay12 ((View.readAt_full _ _ _).trans hfb)
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]
  · iexists _; isplitr
    swap; · iexact H7
    ipureintro
    refine (View.read_writes_full _ _ _ _ _).trans ?_
    dsimp only
    exact step_eq q1 ((View.readAt_full _ _ _).trans hf4) ((View.readAt_full _ _ _).trans hf5) q4 ((View.readAt_full _ _ _).trans hf6)
  isplitl [H9]
  · iexists _; isplitr
    swap; · iexact H9
    ipureintro
    exact e8 _
  isplitr [HO]
  · unfold rest
    isplitl [HXb]; · iexists _; iexact HXb
    isplitl [HX]; · iexact HX
    iexact HB
  iexists _; iexact HO

end Cert.Kernel3Ideal.Hand
end
-- ==== Proof.CastRunB.lean ====
module

public import proofs.«01_k».proof.Proof.Gen.Kernel3Ideal.Frame
public import proofs.«01_k».proof.Proof.Gen.Kernel3Ideal.Skeleton
public import proofs.«01_k».proof.Proof.CastRunD
public import proofs.«01_k».proof.Proof.CastTiles

@[expose] public section

set_option maxRecDepth 16384
set_option backward.isDefEq.respectTransparency.types false

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

/-- A point that takes the tile whose copies were started before. -/
theorem run_B (c : Dev nD) (i : grid0.Coords) (arg3 : Memref sig .tc .vmem S1x2048 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S512x2048 .f32) (harg6 : arg6.IsWhole) (arg7 : Memref sig .tc .vmem S32x5632 .f32) (harg7 : arg7.IsWhole) (arg8 : Memref sig .tc .vmem S32x2048 .f32) (harg8 : arg8.IsWhole) (arg9 : Memref sig .tc .vmem S1024x2048 .f32) (harg9 : arg9.IsWhole) (arg10 : Memref sig .tc .vmem S32x5632 .bf16) (harg10 : arg10.IsWhole) (arg11 : Memref sig .tc .vmem S32x2048 .bf16) (harg11 : arg11.IsWhole)
    (G : Vec F S1x2048 .f32) (WG WU : Vec F S2048x512 .f32) (WD : Vec F S512x2048 .f32) (A : Vec F S32x5632 .f32) (B : Vec F S32x2048 .f32) (X : S8192x2048.Idx → Elt F .f32)
    (h1 : ¬ cond1 i = 1#1) (h2 : k0_cond2 i = 1#1) (h3 : ¬ k0_cond3 i = 1#1) (hi : (i 0).val < 8) (W : Waits sig Unit) (K : PUnit → sProp 𝕄) :
    iprop(owns (c : Thread nD τ) arg7 fullShare A ∗ owns (c : Thread nD τ) arg8 fullShare B ∗ (∃ C, owns (c : Thread nD τ) arg10 fullShare C) ∗ (∃ D, owns (c : Thread nD τ) arg11 fullShare D) ∗ owns (c : Thread nD τ) arg3 fullShare G ∗ owns (c : Thread nD τ) arg4 fullShare WG ∗ owns (c : Thread nD τ) arg5 fullShare WU ∗ owns (c : Thread nD τ) arg6 fullShare WD ∗ (∃ P, owns (c : Thread nD τ) arg9 fullShare P) ∗ (∃ H, owns (c : Thread nD τ) mH fullShare H)
      ∗ flight c X (i 0).val 8 ∗ owes (c : Thread nD τ) 0 W
      ∗ (iprop(owns (c : Thread nD τ) arg7 fullShare A ∗ owns (c : Thread nD τ) arg8 fullShare B ∗ owns (c : Thread nD τ) arg10 fullShare (k0_pay11 A) ∗ owns (c : Thread nD τ) arg11 fullShare (k0_pay12 B) ∗ owns (c : Thread nD τ) arg3 fullShare G ∗ owns (c : Thread nD τ) arg4 fullShare WG ∗ owns (c : Thread nD τ) arg5 fullShare WU ∗ owns (c : Thread nD τ) arg6 fullShare WD ∗ owns (c : Thread nD τ) arg9 fullShare (k0_pay1 (hval X G (i 0).val) (k0_pay13 (hval X G (i 0).val) WG) (k0_pay14 WU) (xtile X (i 0).val) WD) ∗ owns (c : Thread nD τ) mH fullShare (hval X G (i 0).val)
        ∗ rest c X ∗ ∃ W, owes (c : Thread nD τ) 0 W) -∗ K ⟨⟩))
    ⊢ wp frame (wpE (defs₀ (F := F)) Variants.none c none) Set.univ (cc0_ffn i mX (Memref.isWhole_whole _) arg3 harg3 arg4 harg4 arg5 harg5 arg6 harg6 arg7 harg7 arg8 harg8 arg9 harg9 arg10 harg10 arg11 harg11 mH (Memref.isWhole_whole _) mXb (Memref.isWhole_whole _) cc0_scratch2) K := by
  simp only [cc0_ffn_eq_skeleton]; unfold cc0_ffn_skel
  simp only [k0_part6_eq_skeleton, k0_part1_eq_skeleton, k0_part2_eq_skeleton, k0_part3_eq_skeleton, k0_part4_eq_skeleton, k0_part5_eq_skeleton]; unfold k0_part6_skel
  unfold owns flight
  iintro ⟨⟨%fa, %hfa, Ja⟩, ⟨%fb, %hfb, Jb⟩, ⟨%C, %fc, -, Jc⟩, ⟨%D, %fd, -, Jd⟩, ⟨%f3, %hf3, H3⟩, ⟨%f4, %hf4, H4⟩, ⟨%f5, %hf5, H5⟩, ⟨%f6, %hf6, H6⟩, ⟨%P, %f7, -, H7⟩, ⟨%H, %f8, -, H8⟩, ⟨-, HX, HB⟩, HO, Hk⟩
  obtain rfl := harg7.eq_unread hfa; obtain rfl := harg8.eq_unread hfb
  obtain rfl := harg3.eq_unread hf3; obtain rfl := harg4.eq_unread hf4; obtain rfl := harg5.eq_unread hf5
  obtain rfl := harg6.eq_unread hf6
  sl_exec (disch := first | sl_exact h1 | sl_exact h2 | sl_exact h3)
  ihave HR := (gather8 c X (i 0).val hi) $$ [HX HB_dst0 HB_src0 HB_dst1 HB_src1 HB_dst2 HB_src2 HB_dst3 HB_src3 HB_dst4 HB_src4 HB_dst5 HB_src5 HB_dst6 HB_src6 HB_dst7 HB_src7]
  · isplitl [HX]; · iexact HX
    isplitl [HB_dst0 HB_src0]
    · unfold deliv
      isplitl [HB_dst0]; · iexact HB_dst0
      iexact HB_src0
    isplitl [HB_dst1 HB_src1]
    · unfold deliv
      isplitl [HB_dst1]; · iexact HB_dst1
      iexact HB_src1
    isplitl [HB_dst2 HB_src2]
    · unfold deliv
      isplitl [HB_dst2]; · iexact HB_dst2
      iexact HB_src2
    isplitl [HB_dst3 HB_src3]
    · unfold deliv
      isplitl [HB_dst3]; · iexact HB_dst3
      iexact HB_src3
    isplitl [HB_dst4 HB_src4]
    · unfold deliv
      isplitl [HB_dst4]; · iexact HB_dst4
      iexact HB_src4
    isplitl [HB_dst5 HB_src5]
    · unfold deliv
      isplitl [HB_dst5]; · iexact HB_dst5
      iexact HB_src5
    isplitl [HB_dst6 HB_src6]
    · unfold deliv
      isplitl [HB_dst6]; · iexact HB_dst6
      iexact HB_src6
    unfold deliv
    isplitl [HB_dst7]; · iexact HB_dst7
    iexact HB_src7
  icases HR with ⟨HXb', HX⟩
  ihave HXb := (show (xbL c ↦{fullShare} xtile X (i 0).val : sProp 𝕄) ⊢ (mXb.view.loc (c : Thread nD τ) ↦{fullShare} xtile X (i 0).val) from .rfl) $$ HXb'
  sl_exec (disch := first | sl_exact h1 | sl_exact h2 | sl_exact h3)
  sl_step
  iapply Hk
  have hg := (View.readAt_full arg3.view (harg3.unread G) inb_S1x2048_S1x2048_0_0).trans hf3
  have e8 : ∀ f, mH.view.read (Elt F) (mH.view.writes (Elt F) f (run_B.sl.H8_8 c i arg3 harg3 G X)) = hval X G (i 0).val := fun f =>
    hread mH.view f X G (i 0).val _ _ _ _ _ _ _ _ _ _ _ _ _ _ _ _
      (stripe_eq X _ 7 ![896, 0] rfl inb_S1024x2048_S128x2048_896_0) (stripe_eq X _ 6 ![768, 0] rfl inb_S1024x2048_S128x2048_768_0) (stripe_eq X _ 5 ![640, 0] rfl inb_S1024x2048_S128x2048_640_0) (stripe_eq X _ 4 ![512, 0] rfl inb_S1024x2048_S128x2048_512_0) (stripe_eq X _ 3 ![384, 0] rfl inb_S1024x2048_S128x2048_384_0) (stripe_eq X _ 2 ![256, 0] rfl inb_S1024x2048_S128x2048_256_0) (stripe_eq X _ 1 ![128, 0] rfl inb_S1024x2048_S128x2048_128_0) (stripe_eq X _ 0 ![0, 0] rfl inb_S1024x2048_S128x2048_0_0) hg hg hg hg hg hg hg hg
  have e7 : ∀ f, arg9.view.read (Elt F) (arg9.view.writes (Elt F) f (run_B.sl.H7_8 i X)) = xtile X (i 0).val := fun f =>
    read_stripes8 arg9.view f (xtile X (i 0).val) _ _ _ _ _ _ _ _ (stripe_x X (i 0).val 7 ![896, 0] rfl inb_S1024x2048_S128x2048_896_0) (stripe_x X (i 0).val 6 ![768, 0] rfl inb_S1024x2048_S128x2048_768_0) (stripe_x X (i 0).val 5 ![640, 0] rfl inb_S1024x2048_S128x2048_640_0) (stripe_x X (i 0).val 4 ![512, 0] rfl inb_S1024x2048_S128x2048_512_0) (stripe_x X (i 0).val 3 ![384, 0] rfl inb_S1024x2048_S128x2048_384_0) (stripe_x X (i 0).val 2 ![256, 0] rfl inb_S1024x2048_S128x2048_256_0) (stripe_x X (i 0).val 1 ![128, 0] rfl inb_S1024x2048_S128x2048_128_0) (stripe_x X (i 0).val 0 ![0, 0] rfl inb_S1024x2048_S128x2048_0_0)
  have q1 : run_B.sl.v22 c i arg3 harg3 G X = hval X G (i 0).val := cov_of mH.view _ _ e8
  have q4 : run_B.sl.v35 c i arg9 X = xtile X (i 0).val := cov_of arg9.view _ _ e7
  isplitl [Ja]; · iexists _; isplitr; · ipureintro; exact harg7.read_unread _
                  iexact Ja
  isplitl [Jb]; · iexists _; isplitr; · ipureintro; exact harg8.read_unread _
                  iexact Jb
  isplitl [Jc]
  · iexists _; isplitr
    swap; · iexact Jc
    ipureintro
    refine (View.read_writes_full _ _ _ _ _).trans ?_
    exact congrArg k0_pay11 ((View.readAt_full _ _ _).trans hfa)
  isplitl [Jd]
  · iexists _; isplitr
    swap; · iexact Jd
    ipureintro
    refine (View.read_writes_full _ _ _ _ _).trans ?_
    exact congrArg k0_pay12 ((View.readAt_full _ _ _).trans hfb)
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]
  · iexists _; isplitr
    swap; · iexact H7
    ipureintro
    refine (View.read_writes_full _ _ _ _ _).trans ?_
    dsimp only
    exact step_eq q1 ((View.readAt_full _ _ _).trans hf4) ((View.readAt_full _ _ _).trans hf5) q4 ((View.readAt_full _ _ _).trans hf6)
  isplitl [H8]
  · iexists _; isplitr
    swap; · iexact H8
    ipureintro
    exact e8 _
  isplitr [HO]
  · unfold rest
    isplitl [HXb]; · iexists _; iexact HXb
    isplitl [HX]; · iexact HX
    iexact HB
  iexists _; iexact HO

end Cert.Kernel3Ideal.Hand
end
-- ==== Proof.CastRunC.lean ====
module

public import proofs.«01_k».proof.Proof.Gen.Kernel3Ideal.Frame
public import proofs.«01_k».proof.Proof.Gen.Kernel3Ideal.Skeleton
public import proofs.«01_k».proof.Proof.CastRunD
public import proofs.«01_k».proof.Proof.CastTiles

@[expose] public section

set_option maxRecDepth 16384
set_option backward.isDefEq.respectTransparency.types false

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

/-- Where the copy of a later tile goes in the tile buffer. -/
theorem off2_eq : ∀ i : grid0.Coords, k0_cond3 i = 1#1 → k0_off2 i = ![128 * ((i 1).val - 2), 0] := by decide +kernel

theorem cond3_bounds : ∀ i : grid0.Coords, k0_cond3 i = 1#1 → 2 ≤ (i 1).val ∧ (i 1).val < 10 ∧ (i 0).val < 7 := by decide +kernel

/-- A point that starts one copy of the next tile. -/
theorem run_C (c : Dev nD) (i : grid0.Coords) (arg3 : Memref sig .tc .vmem S1x2048 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S512x2048 .f32) (harg6 : arg6.IsWhole) (arg7 : Memref sig .tc .vmem S32x5632 .f32) (harg7 : arg7.IsWhole) (arg8 : Memref sig .tc .vmem S32x2048 .f32) (harg8 : arg8.IsWhole) (arg9 : Memref sig .tc .vmem S1024x2048 .f32) (harg9 : arg9.IsWhole) (arg10 : Memref sig .tc .vmem S32x5632 .bf16) (harg10 : arg10.IsWhole) (arg11 : Memref sig .tc .vmem S32x2048 .bf16) (harg11 : arg11.IsWhole)
    (G : Vec F S1x2048 .f32) (WG WU : Vec F S2048x512 .f32) (WD : Vec F S512x2048 .f32) (A : Vec F S32x5632 .f32) (B : Vec F S32x2048 .f32) (P : Vec F S1024x2048 .f32) (H : Vec F S1024x2048 .bf16)
    (h1 : ¬ cond1 i = 1#1) (h2 : ¬ k0_cond2 i = 1#1) (h3 : k0_cond3 i = 1#1) (X : S8192x2048.Idx → Elt F .f32) (W : Waits sig Unit) (K : PUnit → sProp 𝕄) :
    iprop(owns (c : Thread nD τ) arg7 fullShare A ∗ owns (c : Thread nD τ) arg8 fullShare B ∗ (∃ C, owns (c : Thread nD τ) arg10 fullShare C) ∗ (∃ D, owns (c : Thread nD τ) arg11 fullShare D) ∗ owns (c : Thread nD τ) arg3 fullShare G ∗ owns (c : Thread nD τ) arg4 fullShare WG ∗ owns (c : Thread nD τ) arg5 fullShare WU ∗ owns (c : Thread nD τ) arg6 fullShare WD ∗ owns (c : Thread nD τ) arg9 fullShare P ∗ owns (c : Thread nD τ) mH fullShare H
      ∗ flight c X ((i 0).val + 1) ((i 1).val - 2)
      ∗ (iprop(owns (c : Thread nD τ) arg7 fullShare A ∗ owns (c : Thread nD τ) arg8 fullShare B ∗ owns (c : Thread nD τ) arg10 fullShare (k0_pay11 A) ∗ owns (c : Thread nD τ) arg11 fullShare (k0_pay12 B) ∗ owns (c : Thread nD τ) arg3 fullShare G ∗ owns (c : Thread nD τ) arg4 fullShare WG ∗ owns (c : Thread nD τ) arg5 fullShare WU ∗ owns (c : Thread nD τ) arg6 fullShare WD ∗ owns (c : Thread nD τ) arg9 fullShare (k0_pay1 H (k0_pay13 H WG) (k0_pay14 WU) P WD) ∗ owns (c : Thread nD τ) mH fullShare H
        ∗ flight c X ((i 0).val + 1) ((i 1).val - 2 + 1)) -∗ K ⟨⟩))
    ⊢ wp frame (wpE (defs₀ (F := F)) Variants.none c none) Set.univ (cc0_ffn i mX (Memref.isWhole_whole _) arg3 harg3 arg4 harg4 arg5 harg5 arg6 harg6 arg7 harg7 arg8 harg8 arg9 harg9 arg10 harg10 arg11 harg11 mH (Memref.isWhole_whole _) mXb (Memref.isWhole_whole _) cc0_scratch2) K := by
  simp only [cc0_ffn_eq_skeleton]; unfold cc0_ffn_skel
  simp only [k0_part6_eq_skeleton]; unfold k0_part6_skel
  unfold owns flight
  iintro ⟨⟨%fa, %hfa, Ja⟩, ⟨%fb, %hfb, Jb⟩, ⟨%C, %fc, -, Jc⟩, ⟨%D, %fd, -, Jd⟩, ⟨%f3, %hf3, H3⟩, ⟨%f4, %hf4, H4⟩, ⟨%f5, %hf5, H5⟩, ⟨%f6, %hf6, H6⟩, ⟨%f7, %hf7, H7⟩, ⟨%f8, %hf8, H8⟩, ⟨⟨%g, HG⟩, HX, HB⟩, Hk⟩
  obtain rfl := harg7.eq_unread hfa; obtain rfl := harg8.eq_unread hfb
  obtain rfl := harg3.eq_unread hf3; obtain rfl := harg4.eq_unread hf4; obtain rfl := harg5.eq_unread hf5
  obtain rfl := harg6.eq_unread hf6; obtain rfl := harg9.eq_unread hf7
  have hmH : mH.IsWhole := Memref.isWhole_whole _
  obtain rfl := hmH.eq_unread hf8
  obtain ⟨j2, j10, i7⟩ := cond3_bounds i h3
  sl_exec (disch := first | sl_exact h1 | sl_exact h2 | sl_exact h3)
  iapply (issue_wp c X ((i 0).val + 1) ((i 1).val - 2) (by omega) (by omega) g (k0_off3 i) (k0_off2 i) ((k0_off3_eq i).trans (by congr 1; omega)) (off2_eq i h3) _ _) $$ [HG HX HB]
  · isplitl [HG]; · iexact HG
    isplitl [HX]; · iexact HX
    iexact HB
  iintro ⟨HG, HX, HB⟩
  sl_exec (disch := first | sl_exact h1 | sl_exact h2 | sl_exact h3)
  sl_step
  iapply Hk
  isplitl [Ja]; · iexists _; isplitr; · ipureintro; exact harg7.read_unread _
                  iexact Ja
  isplitl [Jb]; · iexists _; isplitr; · ipureintro; exact harg8.read_unread _
                  iexact Jb
  isplitl [Jc]
  · iexists _; isplitr
    swap; · iexact Jc
    ipureintro
    refine (View.read_writes_full _ _ _ _ _).trans ?_
    exact congrArg k0_pay11 ((View.readAt_full _ _ _).trans hfa)
  isplitl [Jd]
  · iexists _; isplitr
    swap; · iexact Jd
    ipureintro
    refine (View.read_writes_full _ _ _ _ _).trans ?_
    exact congrArg k0_pay12 ((View.readAt_full _ _ _).trans hfb)
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]
  · iexists _; isplitr
    swap; · iexact H7
    ipureintro
    refine (View.read_writes_full _ _ _ _ _).trans ?_
    exact step_eq ((View.readAt_full _ _ _).trans hf8) ((View.readAt_full _ _ _).trans hf4) ((View.readAt_full _ _ _).trans hf5)
      ((View.readAt_full _ _ _).trans hf7) ((View.readAt_full _ _ _).trans hf6)
  isplitl [H8]
  · iexists _; isplitr; · ipureintro; exact hmH.read_unread _
    iexact H8
  isplitl [HG]; · iexists g; iexact HG
  isplitl [HX]; · iexact HX
  iexact HB

end Cert.Kernel3Ideal.Hand
end
-- ==== Proof.CastInv.lean ====
module

public import proofs.«01_k».proof.Proof.Gen.Kernel3Ideal.Frame
public import proofs.«01_k».proof.Proof.Gen.Kernel3Ideal.Skeleton
public import proofs.«01_k».proof.Proof.CastRunA
public import proofs.«01_k».proof.Proof.CastRunB
public import proofs.«01_k».proof.Proof.CastRunC
public import proofs.«01_k».proof.Proof.CastRunD

@[expose] public section

set_option maxRecDepth 16384
set_option backward.isDefEq.respectTransparency.types false

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

variable (m : (ℓ : Loc nD τ sig) → Buf (Elt F) ℓ) (ρ : Dev nD → PrngReg)

theorem hmainU (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem beforeU_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem beforeU_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem beforeU_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem beforeU_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem beforeU_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem beforeU_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The kernel's own semaphore. -/
def osem0 : Fin 1 → SemLoc sig := fun _ => .dma 17
theorem ownSemFacts0 : Pipeline.OwnSemFacts spec0 osem0 := by decide
def H0 : Finset (Ref sig .tc) := {main_arg0}
theorem H0_sub : H0 ⊆ Pipeline.restRefs sig spec0 := by decide

/-! ## What the buffers hold between points -/

/-- The input rows. -/
abbrev xin (c : Dev nD) : S8192x2048.Idx → Elt F .f32 := V m c main_arg0

/-- The grid point of a number. -/
def pt (n : ℕ) : Fin cfg0.N := ⟨n % 88, lt_of_lt_of_eq (Nat.mod_lt _ (by decide)) N_0.symm⟩
theorem pt_val (t : Fin cfg0.N) : pt t.val = t := Fin.ext (Nat.mod_eq_of_lt (lt_of_lt_of_eq t.isLt N_0))

/-- One point's sum. -/
def stepAt (c : Dev nD) (n : ℕ) (P : Vec F S1024x2048 .f32) : Vec F S1024x2048 .f32 :=
  k0_pay1 (hval (xin m c) (iblk m c 0 (pt 0)) (n / 11)) (k0_pay13 (hval (xin m c) (iblk m c 0 (pt 0)) (n / 11)) (iblk m c 1 (pt n))) (k0_pay14 (iblk m c 2 (pt n))) P (iblk m c 3 (pt n))

/-- The result tile after point `n`. -/
def acc (c : Dev nD) : ℕ → Vec F S1024x2048 .f32
  | 0 => stepAt m c 0 (xtile (xin m c) 0)
  | n + 1 => stepAt m c (n + 1) (if (n + 1) % 11 = 0 then xtile (xin m c) ((n + 1) / 11) else acc c n)

theorem acc_first (c : Dev nD) (n : ℕ) (h : n % 11 = 0) : acc m c n = stepAt m c n (xtile (xin m c) (n / 11)) := by
  cases n with
  | zero => rfl
  | succ n => unfold acc; rw [if_pos h]
theorem acc_next (c : Dev nD) (n : ℕ) (h : ¬ n % 11 = 0) : acc m c n = stepAt m c n (acc m c (n - 1)) := by
  cases n with
  | zero => exact absurd rfl h
  | succ n => conv_lhs => unfold acc
              rw [if_neg h]; rfl

/-- The normed tile before point `n`. -/
def hSt (c : Dev nD) (n : ℕ) : sProp 𝕄 :=
  if n % 11 = 0 then iprop(∃ H, owns (c : Thread nD τ) mH fullShare H)
  else owns (c : Thread nD τ) mH fullShare (hval (xin m c) (iblk m c 0 (pt 0)) (n / 11))

/-- The copies before point `n`. -/
def cSt (c : Dev nD) (n : ℕ) : sProp 𝕄 :=
  if n % 11 = 0 then (if n = 0 ∨ 88 ≤ n then rest c (xin m c) else flight c (xin m c) (n / 11) 8)
  else if 3 ≤ n % 11 ∧ n / 11 < 7 then flight c (xin m c) (n / 11 + 1) (n % 11 - 2) else rest c (xin m c)

/-- The invariant before point `n`. -/
def inv (c : Dev nD) (n : ℕ) : sProp 𝕄 := iprop((∃ r, prngReg c r) ∗ hSt m c n ∗ cSt m c n)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => acc m c t.val
    | ⟨7, _⟩ => k0_pay11 (iblk m c 4 t)
    | ⟨8, _⟩ => k0_pay12 (iblk m c 5 t)
  Φ t := inv m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = acc m c t.val := by dsimp only [dats]
theorem after_7 (c : Dev nD) (t : Fin cfg0.N) : (dats m 0 c).after 7 t = k0_pay11 (iblk m c 4 t) := by dsimp only [dats]
theorem after_8 (c : Dev nD) (t : Fin cfg0.N) : (dats m 0 c).after 8 t = k0_pay12 (iblk m c 5 t) := by dsimp only [dats]
theorem before_0 (c : Dev nD) (t : Fin cfg0.N) (d) : (dats m 0 c).before 0 t d = iblk m c 0 t := beforeU_0 m _ (A_eq m c 0) (after_0 m c) t d
theorem before_1 (c : Dev nD) (t : Fin cfg0.N) (d) : (dats m 0 c).before 1 t d = iblk m c 1 t := beforeU_1 m _ (A_eq m c 1) (after_1 m c) t d
theorem before_2 (c : Dev nD) (t : Fin cfg0.N) (d) : (dats m 0 c).before 2 t d = iblk m c 2 t := beforeU_2 m _ (A_eq m c 2) (after_2 m c) t d
theorem before_3 (c : Dev nD) (t : Fin cfg0.N) (d) : (dats m 0 c).before 3 t d = iblk m c 3 t := beforeU_3 m _ (A_eq m c 3) (after_3 m c) t d
theorem before_4 (c : Dev nD) (t : Fin cfg0.N) (d) : (dats m 0 c).before 4 t d = iblk m c 4 t := beforeU_4 m _ (A_eq m c 4) (after_4 m c) t d
theorem before_5 (c : Dev nD) (t : Fin cfg0.N) (d) : (dats m 0 c).before 5 t d = iblk m c 5 t := beforeU_5 m _ (A_eq m c 5) (after_5 m c) t d
theorem before_6 (c : Dev nD) (t : Fin cfg0.N) (h : ¬ t.val % 11 = 0) (d) : (dats m 0 c).before 6 t d = acc m c (t.val - 1) := by
  have h0 : t.val ≠ 0 := fun e => h (by rw [e])
  refine ((dats m 0 c).before_out_kept 6 rfl t h0 ?_ (fun _ => rfl) (fun _ _ => rfl) d).trans (after_6 m c _)
  rw [Bool.eq_false_iff]
  intro hf
  have := (flush0_6 _).mp hf
  dsimp only at this
  omega

/-! ## The conditions at a point -/

theorem coord0 : ∀ t : Fin cfg0.N, ((grid0.coords t) 0).val = t.val / 11 := by decide +kernel
theorem coord1 : ∀ t : Fin cfg0.N, ((grid0.coords t) 1).val = t.val % 11 := by decide +kernel
theorem c1_iff : ∀ t : Fin cfg0.N, cond1 (grid0.coords t) = 1#1 ↔ t.val = 0 := by decide +kernel
theorem c2_iff : ∀ t : Fin cfg0.N, k0_cond2 (grid0.coords t) = 1#1 ↔ t.val % 11 = 0 := by decide +kernel
theorem c3_iff : ∀ t : Fin cfg0.N, k0_cond3 (grid0.coords t) = 1#1 ↔ (2 ≤ t.val % 11 ∧ t.val % 11 < 10 ∧ t.val / 11 < 7) := by decide +kernel

theorem gain_eq (c : Dev nD) (t : Fin cfg0.N) : iblk m c 0 t = iblk m c 0 (pt 0) := rfl

end Cert.Kernel3Ideal.Hand
end
-- ==== Proof.CastFrame.lean ====
module

public import proofs.«01_k».proof.Proof.Gen.Kernel3Ideal.Frame
public import proofs.«01_k».proof.Proof.Gen.Kernel3Ideal.Skeleton
public import proofs.«01_k».proof.Proof.CastInv
public import proofs.«01_k».proof.Proof.CastRunA
public import proofs.«01_k».proof.Proof.CastRunB
public import proofs.«01_k».proof.Proof.CastRunC
public import proofs.«01_k».proof.Proof.CastRunD

@[expose] public section

set_option maxRecDepth 16384
set_option backward.isDefEq.respectTransparency.types false

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline's beside the counters of the copies. -/
local notation "𝕄" => MT nD τ sig Unit (Elt F) ℕ (Pipeline.UD sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

/-- A first point of a tile. -/
theorem acc_tile (c : Dev nD) (t : Fin cfg0.N) (h : t.val % 11 = 0) : acc m c t.val
    = k0_pay1 (hval (xin m c) (iblk m c 0 (pt 0)) (t.val / 11)) (k0_pay13 (hval (xin m c) (iblk m c 0 (pt 0)) (t.val / 11)) (iblk m c 1 t)) (k0_pay14 (iblk m c 2 t)) (xtile (xin m c) (t.val / 11)) (iblk m c 3 t) := by
  rw [acc_first m c t.val h]; unfold stepAt; rw [pt_val]
theorem acc_step (c : Dev nD) (t : Fin cfg0.N) (h : ¬ t.val % 11 = 0) : acc m c t.val
    = k0_pay1 (hval (xin m c) (iblk m c 0 (pt 0)) (t.val / 11)) (k0_pay13 (hval (xin m c) (iblk m c 0 (pt 0)) (t.val / 11)) (iblk m c 1 t)) (k0_pay14 (iblk m c 2 t)) (acc m c (t.val - 1)) (iblk m c 3 t) := by
  rw [acc_next m c t.val h]; unfold stepAt; rw [pt_val]

/-- The state lemmas. -/
theorem hSt_0 (c : Dev nD) (n : ℕ) (h : n % 11 = 0) : hSt m c n = iprop(∃ H, owns (c : Thread nD τ) mH fullShare H) := by unfold hSt; rw [if_pos h]
theorem hSt_1 (c : Dev nD) (n i : ℕ) (h : ¬ n % 11 = 0) (hi : n / 11 = i) : hSt m c n = owns (c : Thread nD τ) mH fullShare (hval (xin m c) (iblk m c 0 (pt 0)) i) := by
  unfold hSt; rw [if_neg h, hi]
theorem cSt_rest (c : Dev nD) (n : ℕ) (h' : n % 11 = 0 → n = 0 ∨ 88 ≤ n) (h'' : ¬ (¬ n % 11 = 0 ∧ 3 ≤ n % 11 ∧ n / 11 < 7)) :
    cSt m c n = rest c (xin m c) := by
  unfold cSt
  by_cases h0 : n % 11 = 0
  · rw [if_pos h0, if_pos (h' h0)]
  · rw [if_neg h0, if_neg (fun h => h'' ⟨h0, h⟩)]
theorem cSt_flight (c : Dev nD) (n i k : ℕ) (h : (n % 11 = 0 ∧ ¬ (n = 0 ∨ 88 ≤ n) ∧ i = n / 11 ∧ k = 8) ∨ (¬ n % 11 = 0 ∧ (3 ≤ n % 11 ∧ n / 11 < 7) ∧ i = n / 11 + 1 ∧ k = n % 11 - 2)) :
    cSt m c n = flight c (xin m c) i k := by
  unfold cSt
  rcases h with ⟨h0, h1, rfl, rfl⟩ | ⟨h0, h1, rfl, rfl⟩
  · rw [if_pos h0, if_neg h1]
  · rw [if_neg h0, if_pos h1]

theorem sound_A (c : Dev nD) (t : Fin cfg0.N) (h : t.val = 0) :
    bodyPre m c t ⊢ wp frame (wpE (defs₀ (F := F)) Variants.none c none) Set.univ (bodyAt0 t) (fun _ => bodyPost m c t) := by
  have hN : t.val < 88 := lt_of_lt_of_eq t.isLt N_0
  unfold bodyPre bodyPost bodyAt0
  rw [after_0, after_1, after_2, after_3, after_4, after_5, after_6, after_7, after_8]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  rw [hSt_0 m c t.val (by omega), hSt_1 m c (t.val + 1) 0 (by omega) (by omega), cSt_rest m c t.val (by omega) (by omega), cSt_rest m c (t.val + 1) (by omega) (by omega)]
  rw [acc_tile m c t (by omega), show t.val / 11 = 0 by omega]
  simp only [before_0, before_1, before_2, before_3, before_4, before_5]
  iintro ⟨⟨Hg, HH, HC⟩, ⟨%W, -, HW⟩, ⟨%d0, H0⟩, ⟨%d1, H1⟩, ⟨%d2, H2⟩, ⟨%d3, H3⟩, ⟨%d4, J4⟩, ⟨%d5, J5⟩, ⟨%d6, H4⟩, ⟨%d7, J7⟩, ⟨%d8, J8⟩⟩
  iapply (run_A c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 (pt 0)) (iblk m c 1 t) (iblk m c 2 t) (iblk m c 3 t) (iblk m c 4 t) (iblk m c 5 t) (xin m c) ((c1_iff t).mpr h) ((c2_iff t).mpr (by omega)) (fun h => by have := (c3_iff t).mp h; omega) W _)
  isplitl [J4]; · iexact J4
  isplitl [J5]; · iexact J5
  isplitl [J7]; · iexists _; iexact J7
  isplitl [J8]; · iexists _; iexact J8
  isplitl [H0]; · iexact H0
  isplitl [H1]; · iexact H1
  isplitl [H2]; · iexact H2
  isplitl [H3]; · iexact H3
  isplitl [H4]; · iexists _; iexact H4
  isplitl [HH]; · iexact HH
  isplitl [HC]; · iexact HC
  isplitl [HW]; · iexact HW
  iintro ⟨J4, J5, J7, J8, H0, H1, H2, H3, H4, HH, HC, ⟨%W', HW⟩⟩
  isplitl [Hg HH HC]
  · isplitl [Hg]; · iexact Hg
    isplitl [HH]; · iexact HH
    iexact HC
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [J4]; · iexact J4
  isplitl [J5]; · iexact J5
  isplitl [H4]; · iexact H4
  isplitl [J7]; · iexact J7
  iexact J8

theorem sound_B (c : Dev nD) (t : Fin cfg0.N) (h : t.val % 11 = 0) (h' : ¬ t.val = 0) :
    bodyPre m c t ⊢ wp frame (wpE (defs₀ (F := F)) Variants.none c none) Set.univ (bodyAt0 t) (fun _ => bodyPost m c t) := by
  have hN : t.val < 88 := lt_of_lt_of_eq t.isLt N_0
  unfold bodyPre bodyPost bodyAt0
  rw [after_0, after_1, after_2, after_3, after_4, after_5, after_6, after_7, after_8]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  have e0 : t.val / 11 = ((grid0.coords t) 0).val := (coord0 t).symm
  have e1 : (t.val + 1) / 11 = ((grid0.coords t) 0).val := by rw [← e0]; omega
  rw [hSt_0 m c t.val h, hSt_1 m c (t.val + 1) _ (by omega) e1, cSt_flight m c t.val ((grid0.coords t) 0).val 8 (Or.inl ⟨h, by omega, e0.symm, rfl⟩), cSt_rest m c (t.val + 1) (by omega) (by omega)]
  rw [acc_tile m c t h, e0]
  simp only [before_0, before_1, before_2, before_3, before_4, before_5]
  iintro ⟨⟨Hg, HH, HC⟩, ⟨%W, -, HW⟩, ⟨%d0, H0⟩, ⟨%d1, H1⟩, ⟨%d2, H2⟩, ⟨%d3, H3⟩, ⟨%d4, J4⟩, ⟨%d5, J5⟩, ⟨%d6, H4⟩, ⟨%d7, J7⟩, ⟨%d8, J8⟩⟩
  iapply (run_B c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 (pt 0)) (iblk m c 1 t) (iblk m c 2 t) (iblk m c 3 t) (iblk m c 4 t) (iblk m c 5 t) (xin m c) (fun h => by have := (c1_iff t).mp h; omega) ((c2_iff t).mpr h) (fun h => by have := (c3_iff t).mp h; omega) (by rw [← e0]; omega) W _)
  isplitl [J4]; · iexact J4
  isplitl [J5]; · iexact J5
  isplitl [J7]; · iexists _; iexact J7
  isplitl [J8]; · iexists _; iexact J8
  isplitl [H0]; · iexact H0
  isplitl [H1]; · iexact H1
  isplitl [H2]; · iexact H2
  isplitl [H3]; · iexact H3
  isplitl [H4]; · iexists _; iexact H4
  isplitl [HH]; · iexact HH
  isplitl [HC]; · iexact HC
  isplitl [HW]; · iexact HW
  iintro ⟨J4, J5, J7, J8, H0, H1, H2, H3, H4, HH, HC, ⟨%W', HW⟩⟩
  isplitl [Hg HH HC]
  · isplitl [Hg]; · iexact Hg
    isplitl [HH]; · iexact HH
    iexact HC
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [J4]; · iexact J4
  isplitl [J5]; · iexact J5
  isplitl [H4]; · iexact H4
  isplitl [J7]; · iexact J7
  iexact J8

theorem sound_C (c : Dev nD) (t : Fin cfg0.N) (h : 2 ≤ t.val % 11 ∧ t.val % 11 < 10 ∧ t.val / 11 < 7) :
    bodyPre m c t ⊢ wp frame (wpE (defs₀ (F := F)) Variants.none c none) Set.univ (bodyAt0 t) (fun _ => bodyPost m c t) := by
  have hN : t.val < 88 := lt_of_lt_of_eq t.isLt N_0
  unfold bodyPre bodyPost bodyAt0
  rw [after_0, after_1, after_2, after_3, after_4, after_5, after_6, after_7, after_8]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  have h0 : ¬ t.val % 11 = 0 := by omega
  have e0 : ((grid0.coords t) 0).val = t.val / 11 := coord0 t
  have e1 : ((grid0.coords t) 1).val = t.val % 11 := coord1 t
  rw [hSt_1 m c t.val _ h0 rfl, acc_step m c t h0]
  simp only [before_6 m c t h0]
  rw [hSt_1 m c (t.val + 1) (t.val / 11) (by omega) (by omega), cSt_flight m c (t.val + 1) (((grid0.coords t) 0).val + 1) (((grid0.coords t) 1).val - 2 + 1) (Or.inr ⟨by omega, by omega, by omega, by omega⟩)]
  simp only [before_0, before_1, before_2, before_3, before_4, before_5]
  iintro ⟨⟨Hg, HH, HC⟩, ⟨%W, -, HW⟩, ⟨%d0, H0⟩, ⟨%d1, H1⟩, ⟨%d2, H2⟩, ⟨%d3, H3⟩, ⟨%d4, J4⟩, ⟨%d5, J5⟩, ⟨%d6, H4⟩, ⟨%d7, J7⟩, ⟨%d8, J8⟩⟩
  have hop : cSt m c t.val ⊢ |={Set.univ}=> flight c (xin m c) (((grid0.coords t) 0).val + 1) (((grid0.coords t) 1).val - 2) := by
    by_cases h3 : 3 ≤ t.val % 11
    · rw [cSt_flight m c t.val (((grid0.coords t) 0).val + 1) (((grid0.coords t) 1).val - 2) (Or.inr ⟨h0, by omega, by omega, by omega⟩)]
      iintro H; imodintro; iexact H
    · rw [cSt_rest m c t.val (by omega) (by omega), show ((grid0.coords t) 1).val - 2 = 0 by omega]
      exact open_flight c (xin m c) _
  imod hop $$ HC with HC
  iapply (run_C c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 (pt 0)) (iblk m c 1 t) (iblk m c 2 t) (iblk m c 3 t) (iblk m c 4 t) (iblk m c 5 t) (acc m c (t.val - 1)) (hval (xin m c) (iblk m c 0 (pt 0)) (t.val / 11)) (fun h => by have := (c1_iff t).mp h; omega) (fun h => by have := (c2_iff t).mp h; omega) ((c3_iff t).mpr h) (xin m c) W _)
  isplitl [J4]; · iexact J4
  isplitl [J5]; · iexact J5
  isplitl [J7]; · iexists _; iexact J7
  isplitl [J8]; · iexists _; iexact J8
  isplitl [H0]; · iexact H0
  isplitl [H1]; · iexact H1
  isplitl [H2]; · iexact H2
  isplitl [H3]; · iexact H3
  isplitl [H4]; · iexact H4
  isplitl [HH]; · iexact HH
  isplitl [HC]; · iexact HC
  iintro ⟨J4, J5, J7, J8, H0, H1, H2, H3, H4, HH, HC⟩
  isplitl [Hg HH HC]
  · isplitl [Hg]; · iexact Hg
    isplitl [HH]; · iexact HH
    iexact HC
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [J4]; · iexact J4
  isplitl [J5]; · iexact J5
  isplitl [H4]; · iexact H4
  isplitl [J7]; · iexact J7
  iexact J8

theorem sound_D1 (c : Dev nD) (t : Fin cfg0.N) (h : t.val % 11 = 1 ∨ (¬ t.val % 11 = 0 ∧ t.val % 11 < 10 ∧ ¬ t.val / 11 < 7)) :
    bodyPre m c t ⊢ wp frame (wpE (defs₀ (F := F)) Variants.none c none) Set.univ (bodyAt0 t) (fun _ => bodyPost m c t) := by
  have hN : t.val < 88 := lt_of_lt_of_eq t.isLt N_0
  unfold bodyPre bodyPost bodyAt0
  rw [after_0, after_1, after_2, after_3, after_4, after_5, after_6, after_7, after_8]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  have h0 : ¬ t.val % 11 = 0 := by omega
  rw [hSt_1 m c t.val _ h0 rfl, acc_step m c t h0]
  simp only [before_6 m c t h0]
  rw [hSt_1 m c (t.val + 1) (t.val / 11) (by omega) (by omega)]
  rw [cSt_rest m c t.val (by omega) (by omega), cSt_rest m c (t.val + 1) (by omega) (by omega)]
  simp only [before_0, before_1, before_2, before_3, before_4, before_5]
  iintro ⟨⟨Hg, HH, HC⟩, ⟨%W, -, HW⟩, ⟨%d0, H0⟩, ⟨%d1, H1⟩, ⟨%d2, H2⟩, ⟨%d3, H3⟩, ⟨%d4, J4⟩, ⟨%d5, J5⟩, ⟨%d6, H4⟩, ⟨%d7, J7⟩, ⟨%d8, J8⟩⟩
  iapply (run_D c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 (pt 0)) (iblk m c 1 t) (iblk m c 2 t) (iblk m c 3 t) (iblk m c 4 t) (iblk m c 5 t) (acc m c (t.val - 1)) (hval (xin m c) (iblk m c 0 (pt 0)) (t.val / 11)) (fun h => by have := (c1_iff t).mp h; omega) (fun h => by have := (c2_iff t).mp h; omega) (fun h => by have := (c3_iff t).mp h; omega) W _)
  isplitl [J4]; · iexact J4
  isplitl [J5]; · iexact J5
  isplitl [J7]; · iexists _; iexact J7
  isplitl [J8]; · iexists _; iexact J8
  isplitl [H0]; · iexact H0
  isplitl [H1]; · iexact H1
  isplitl [H2]; · iexact H2
  isplitl [H3]; · iexact H3
  isplitl [H4]; · iexact H4
  isplitl [HH]; · iexact HH
  iintro ⟨J4, J5, J7, J8, H0, H1, H2, H3, H4, HH⟩
  isplitl [Hg HH HC]
  · isplitl [Hg]; · iexact Hg
    isplitl [HH]; · iexact HH
    iexact HC
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [J4]; · iexact J4
  isplitl [J5]; · iexact J5
  isplitl [H4]; · iexact H4
  isplitl [J7]; · iexact J7
  iexact J8

theorem sound_D2 (c : Dev nD) (t : Fin cfg0.N) (h : t.val % 11 = 10) :
    bodyPre m c t ⊢ wp frame (wpE (defs₀ (F := F)) Variants.none c none) Set.univ (bodyAt0 t) (fun _ => bodyPost m c t) := by
  have hN : t.val < 88 := lt_of_lt_of_eq t.isLt N_0
  unfold bodyPre bodyPost bodyAt0
  rw [after_0, after_1, after_2, after_3, after_4, after_5, after_6, after_7, after_8]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  have h0 : ¬ t.val % 11 = 0 := by omega
  rw [hSt_1 m c t.val _ h0 rfl, acc_step m c t h0]
  simp only [before_6 m c t h0]
  rw [hSt_0 m c (t.val + 1) (by omega)]
  have ec : cSt m c t.val = cSt m c (t.val + 1) := by
    by_cases h7 : t.val / 11 < 7
    · rw [cSt_flight m c t.val (t.val / 11 + 1) 8 (Or.inr ⟨h0, by omega, rfl, by omega⟩), cSt_flight m c (t.val + 1) (t.val / 11 + 1) 8 (Or.inl ⟨by omega, by omega, by omega, rfl⟩)]
    · rw [cSt_rest m c t.val (by omega) (by omega), cSt_rest m c (t.val + 1) (by omega) (by omega)]
  rw [ec]
  simp only [before_0, before_1, before_2, before_3, before_4, before_5]
  iintro ⟨⟨Hg, HH, HC⟩, ⟨%W, -, HW⟩, ⟨%d0, H0⟩, ⟨%d1, H1⟩, ⟨%d2, H2⟩, ⟨%d3, H3⟩, ⟨%d4, J4⟩, ⟨%d5, J5⟩, ⟨%d6, H4⟩, ⟨%d7, J7⟩, ⟨%d8, J8⟩⟩
  iapply (run_D c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 (pt 0)) (iblk m c 1 t) (iblk m c 2 t) (iblk m c 3 t) (iblk m c 4 t) (iblk m c 5 t) (acc m c (t.val - 1)) (hval (xin m c) (iblk m c 0 (pt 0)) (t.val / 11)) (fun h => by have := (c1_iff t).mp h; omega) (fun h => by have := (c2_iff t).mp h; omega) (fun h => by have := (c3_iff t).mp h; omega) W _)
  isplitl [J4]; · iexact J4
  isplitl [J5]; · iexact J5
  isplitl [J7]; · iexists _; iexact J7
  isplitl [J8]; · iexists _; iexact J8
  isplitl [H0]; · iexact H0
  isplitl [H1]; · iexact H1
  isplitl [H2]; · iexact H2
  isplitl [H3]; · iexact H3
  isplitl [H4]; · iexact H4
  isplitl [HH]; · iexact HH
  iintro ⟨J4, J5, J7, J8, H0, H1, H2, H3, H4, HH⟩
  isplitl [Hg HH HC]
  · isplitl [Hg]; · iexact Hg
    isplitl [HH]; · iexists _; iexact HH
    iexact HC
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [J4]; · iexact J4
  isplitl [J5]; · iexact J5
  isplitl [H4]; · iexact H4
  isplitl [J7]; · iexact J7
  iexact J8

theorem sound_body (c : Dev nD) (t : Fin cfg0.N) :
    bodyPre m c t ⊢ wp frame (wpE (defs₀ (F := F)) Variants.none c none) Set.univ (bodyAt0 t) (fun _ => bodyPost m c t) := by
  have hN : t.val < 88 := lt_of_lt_of_eq t.isLt N_0
  by_cases hz : t.val = 0
  · exact sound_A m c t hz
  by_cases hj : t.val % 11 = 0
  · exact sound_B m c t hj hz
  by_cases hC : 2 ≤ t.val % 11 ∧ t.val % 11 < 10 ∧ t.val / 11 < 7
  · exact sound_C m c t hC
  by_cases hD : t.val % 11 = 10
  · exact sound_D2 m c t hD
  · exact sound_D1 m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem ownSems_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 17) 0 := by
  rw [Pipeline.ownSems0_eq_of_list c osem0 [0] (by decide) (by decide)]; rfl
theorem hbmPts_eq (c : Dev nD) :
    (bigSep H0 (fun b => ((c : Thread nD τ).loc b) ↦{fullShare} V m c b) : sProp 𝕄) = (xL c ↦{fullShare} xin m c) := by
  rw [BI.bigSep_eq_bigSepL_of_eq [main_arg0] (by decide) (by decide)]; rfl

theorem inv_in (c : Dev nD) (n : ℕ) (hn : n = 0 ∨ n = 88) : (Pipeline.ΦD osem0 spec0 H0 (V m) c : sProp 𝕄) ⊢ inv m c n := by
  rw [Pipeline.ΦD_eq, scopedRest0_eq, ownSems_eq, hbmPts_eq]
  unfold inv
  rw [hSt_0 m c n (by omega), cSt_rest m c n (by omega) (by omega)]
  simp only [mH, owns_whole]
  unfold rest
  iintro ⟨⟨⟨%f, Hh⟩, ⟨%g, Hb⟩⟩, Hg, Hs, Hx⟩
  isplitl [Hg]; · iexact Hg
  isplitl [Hh]; · iexists f; iexact Hh
  isplitl [Hb]; · iexists g; iexact Hb
  isplitl [Hx]; · iexact Hx
  iexact Hs
theorem inv_out (c : Dev nD) (n : ℕ) (hn : n = 0 ∨ n = 88) : inv m c n ⊢ (Pipeline.ΦD osem0 spec0 H0 (V m) c : sProp 𝕄) := by
  rw [Pipeline.ΦD_eq, scopedRest0_eq, ownSems_eq, hbmPts_eq]
  unfold inv
  rw [hSt_0 m c n (by omega), cSt_rest m c n (by omega) (by omega)]
  simp only [mH, owns_whole]
  unfold rest
  iintro ⟨Hg, ⟨%f, Hh⟩, ⟨%g, Hb⟩, Hx, Hs⟩
  isplitl [Hh Hb]
  · isplitl [Hh]; · iexists f; iexact Hh
    iexists g; iexact Hb
  isplitl [Hg]; · iexact Hg
  isplitl [Hs]; · iexact Hs
  iexact Hx

theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainU m Variants.none) (hA := A_eq m)
    (hin := fun c => inv_in m c 0 (Or.inl rfl)) (hout := fun c => inv_out m c 88 (Or.inr rfl))

/-- The run ends, leaves the arguments as they were and every counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 0).trans (((dats m 0 c).arrAt_in 0 rfl _).trans ((A_eq m c 0).trans (V_main_arg1 m c))),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c))),
      ((h.1 c).1 3).trans (((dats m 0 c).arrAt_in 3 rfl _).trans ((A_eq m c 3).trans (V_main_arg4 m c))),
      ((h.1 c).1 4).trans (((dats m 0 c).arrAt_in 4 rfl _).trans ((A_eq m c 4).trans (V_main_arg5 m c))),
      ((h.1 c).1 5).trans (((dats m 0 c).arrAt_in 5 rfl _).trans ((A_eq m c 5).trans (V_main_arg6 m c)))⟩, h.2⟩) (run_main m ρ)

end Cert.Kernel3Ideal.Hand
end
-- ==== Proof.CastVal.lean ====
module

public import proofs.«01_k».proof.Proof.CastFrame
public import proofs.«01_k».proof.Proof.FfnModel
public import Idealize.ShloMosaic.Lib.Pipeline.Value
public import Idealize.ShloMosaic.Lib.Pipeline.ValueKit

/-! What the kernel leaves in its result. -/

@[expose] public section

noncomputable section

namespace Cert.Kernel3Ideal.Hand

set_option maxRecDepth 16384
set_option maxHeartbeats 2000000
set_option pp.proofs false

open Idealize Idealize.ShloMosaic Idealize.ShloMosaic.TcCoe Idealize.SL.Sem Cert.Ffn Cert.Kernel3Ideal Cert.Kernel3Ideal.Gen
open scoped BigOperators

/-- Row `n` of tile `i`. -/
def row (i : Fin 8) (n : Fin 1024) : Fin 8192 := ⟨i.val * 1024 + n.val, by omega⟩

theorem pay2_at (A : Vec Ideal S128x2048 .f32) (G : Vec Ideal S1x2048 .f32) (n : Fin 128) (k : Fin 2048) :
    k0_pay2 (F := Ideal) A G (ix2 n k) = A (ix2 n k) * Ideal.rsqrt (Ideal.div (∑ l, A (ix2 n l) * A (ix2 n l)) (Ideal.ofBits .f32 0x45000000#32) + Ideal.ofBits .f32 0x358637BD#32) * G (ix2 0 k) := by
  pointwise [k0_pay2]

theorem pay13_at (H : Vec Ideal S1024x2048 .bf16) (W : Vec Ideal S2048x512 .f32) (n : Fin 1024) (t : Fin 512) :
    k0_pay13 (F := Ideal) H W (ix2 n t) = ∑ k, H (ix2 n k) * W (ix2 k t) := by
  pointwise [k0_pay13]

theorem pay1_at (H : Vec Ideal S1024x2048 .bf16) (G : FVec Ideal S1024x512 .f32) (U : Vec Ideal S2048x512 .f32) (X : Vec Ideal S1024x2048 .f32) (W : Vec Ideal S512x2048 .f32) (n : Fin 1024) (d : Fin 2048) :
    k0_pay1 (F := Ideal) H G (k0_pay14 (F := Ideal) U) X W (ix2 n d) = X (ix2 n d) + ∑ t, (Ideal.ofBits .f32 0x3F000000#32 * (G (ix2 n t) * Ideal.logistic (G (ix2 n t))) * ∑ k, H (ix2 n k) * U (ix2 k t)) * W (ix2 t d) := by
  pointwise [k0_pay1, k0_pay14]

variable (m : (ℓ : Loc nD τ sig) → Buf (Elt Ideal) ℓ)

/-- The call whose numbers are the kernel's arguments. -/
def parOf (c : Dev nD) : Par where
  x r k := m ((c.tc : Thread nD τ).loc main_arg0) (ix2 r k)
  gain k := m ((c.tc : Thread nD τ).loc main_arg1) (ix2 0 k)
  wg k f := m ((c.tc : Thread nD τ).loc main_arg2) (ix2 k f)
  wu k f := m ((c.tc : Thread nD τ).loc main_arg3) (ix2 k f)
  wd f d := m ((c.tc : Thread nD τ).loc main_arg4) (ix2 f d)

theorem chunk_at (c : Dev nD) (i : Fin 8) (r : Fin 8) (a : Fin 128) (k : Fin 2048) :
    chunk (xin m c) i.val r.val (ix2 a k) = (parOf m c).x (row i ⟨r.val * 128 + a.val, by omega⟩) k := by
  unfold chunk parOf
  refine congrArg (xin m c) (funext fun b => ?_)
  match b with
  | 0 => exact Fin.ext (by show (1024 * i.val + 128 * r.val + a.val) % 8192 = i.val * 1024 + (r.val * 128 + a.val); omega)
  | 1 => rfl

theorem xtile_at (c : Dev nD) (i : Fin 8) (n : Fin 1024) (k : Fin 2048) :
    xtile (xin m c) i.val (ix2 n k) = (parOf m c).x (row i n) k := by
  unfold xtile parOf
  refine congrArg (xin m c) (funext fun b => ?_)
  match b with
  | 0 => exact Fin.ext (by show (1024 * i.val + n.val) % 8192 = i.val * 1024 + n.val; omega)
  | 1 => rfl

theorem idx0 : ∀ t : Fin cfg0.N, win0_0.index t = ![0, 0] := (by decide +kernel : ∀ t : Fin grid0.N, win0_0.index t = ![0, 0])
theorem idx1 : ∀ t : Fin cfg0.N, win0_1.index t = ![0, t.val % 11] := (by decide +kernel : ∀ t : Fin grid0.N, win0_1.index t = ![0, t.val % 11])
theorem idx2 : ∀ t : Fin cfg0.N, win0_2.index t = ![0, t.val % 11] := (by decide +kernel : ∀ t : Fin grid0.N, win0_2.index t = ![0, t.val % 11])
theorem idx3 : ∀ t : Fin cfg0.N, win0_3.index t = ![t.val % 11, 0] := (by decide +kernel : ∀ t : Fin grid0.N, win0_3.index t = ![t.val % 11, 0])
theorem idx6 : ∀ t : Fin cfg0.N, win0_6.index t = ![t.val / 11, 0] := (by decide +kernel : ∀ t : Fin grid0.N, win0_6.index t = ![t.val / 11, 0])

theorem blk0 (c : Dev nD) (t : Fin cfg0.N) (k : Fin 2048) : iblk m c 0 t (ix2 0 k) = (parOf m c).gain k := by
  show _ = V m c main_arg1 (ix2 0 k)
  unfold iblk
  blk_ext [idx0]
theorem blk1 (c : Dev nD) (t : Fin cfg0.N) (j : Fin 11) (hj : t.val % 11 = j.val) (k : Fin 2048) (l : Fin 512) : iblk m c 1 t (ix2 k l) = (parOf m c).wg k ⟨j.val * 512 + l.val, by omega⟩ := by
  show _ = V m c main_arg2 (ix2 k ⟨j.val * 512 + l.val, by omega⟩)
  unfold iblk
  blk_ext [idx1, hj]
theorem blk2 (c : Dev nD) (t : Fin cfg0.N) (j : Fin 11) (hj : t.val % 11 = j.val) (k : Fin 2048) (l : Fin 512) : iblk m c 2 t (ix2 k l) = (parOf m c).wu k ⟨j.val * 512 + l.val, by omega⟩ := by
  show _ = V m c main_arg3 (ix2 k ⟨j.val * 512 + l.val, by omega⟩)
  unfold iblk
  blk_ext [idx2, hj]
theorem blk3 (c : Dev nD) (t : Fin cfg0.N) (j : Fin 11) (hj : t.val % 11 = j.val) (l : Fin 512) (d : Fin 2048) : iblk m c 3 t (ix2 l d) = (parOf m c).wd ⟨j.val * 512 + l.val, by omega⟩ d := by
  show _ = V m c main_arg4 (ix2 ⟨j.val * 512 + l.val, by omega⟩ d)
  unfold iblk
  blk_ext [idx3, hj]

theorem hval_at (c : Dev nD) (t : Fin cfg0.N) (i : Fin 8) (n : Fin 1024) (k : Fin 2048) :
    hval (xin m c) (iblk m c 0 t) i.val (ix2 n k) = (parOf m c).h (row i n) k := by
  have e : hval (xin m c) (iblk m c 0 t) i.val (ix2 n k) = k0_pay2 (F := Ideal) (chunk (xin m c) i.val (n.val / 128)) (iblk m c 0 t) (ix2 ⟨n.val % 128, by omega⟩ k) := by
    unfold hval
    refine congrArg (k0_pay2 (F := Ideal) (chunk (xin m c) i.val (n.val / 128)) (iblk m c 0 t)) (funext fun b => ?_)
    match b with
    | 0 => rfl
    | 1 => rfl
  rw [e, pay2_at, blk0]
  have q : ∀ l, chunk (xin m c) i.val (n.val / 128) (ix2 ⟨n.val % 128, by omega⟩ l) = (parOf m c).x (row i n) l := fun l => by
    rw [chunk_at m c i ⟨n.val / 128, by omega⟩]
    congr 2
    exact Fin.ext (by show n.val / 128 * 128 + n.val % 128 = n.val; omega)
  simp only [q]
  rfl

/-- One point adds one part. -/
theorem step_at (c : Dev nD) (p : ℕ) (i : Fin 8) (j : Fin 11) (hp : p = i.val * 11 + j.val) (X : Vec Ideal S1024x2048 .f32) (n : Fin 1024) (d : Fin 2048) :
    stepAt m c p X (ix2 n d) = X (ix2 n d) + (parOf m c).part (row i n) d j.val := by
  have hv : (pt p).val = p := by show p % 88 = p; omega
  have e1 : p / 11 = i.val := by omega
  have e2 : (pt p).val % 11 = j.val := by rw [hv]; omega
  unfold stepAt
  rw [e1, pay1_at, Par.part, dif_pos j.isLt]
  refine congrArg (_ + ·) (Finset.sum_congr rfl fun l _ => ?_)
  rw [pay13_at, blk3 m c (pt p) j e2]
  simp only [hval_at, blk1 m c (pt p) j e2, blk2 m c (pt p) j e2]
  rfl

theorem acc_at (c : Dev nD) (i : Fin 8) (j : ℕ) (hj : j < 11) (n : Fin 1024) (d : Fin 2048) :
    acc m c (i.val * 11 + j) (ix2 n d) = (parOf m c).x (row i n) d + ∑ s ∈ Finset.range (j + 1), (parOf m c).part (row i n) d s := by
  induction j with
  | zero =>
    rw [acc_first m c _ (by omega), step_at m c _ i ⟨0, hj⟩ rfl, show (i.val * 11 + 0) / 11 = i.val by omega, xtile_at, Finset.sum_range_one]
  | succ j ih =>
    rw [acc_next m c _ (by omega), step_at m c _ i ⟨j + 1, hj⟩ rfl, show i.val * 11 + (j + 1) - 1 = i.val * 11 + j by omega, ih (by omega), Finset.sum_range_succ _ (j + 1), add_assoc]

theorem out_eq {P : Par} {r r' : Fin 8192} {d d' : Fin 2048} (hr : r.val = r'.val) (hd : d.val = d'.val) : P.out r d = P.out r' d' := by
  rw [Fin.ext hr, Fin.ext hd]

/-- The array that the kernel leaves. -/
theorem kernel_array (c : Dev nD) : (dats m 0 c).arrAt 6 cfg0.N = fun y => (parOf m c).out (y 0) (y 1) := by
  refine (dats m 0 c).arrAt_eq_of_covers 6 (fun y => (parOf m c).out (y 0) (y 1)) (by decide +kernel) fun t hfl y => ?_
  blk_simp
  rw [after_6]
  have hN : t.val < 88 := lt_of_lt_of_eq t.isLt N_0
  have hj : t.val % 11 = 10 := (flush0_6 t).mp hfl
  have e : y = (ix2 (show Fin 1024 from y 0) (show Fin 2048 from y 1) : S1024x2048.Idx) := funext fun a => by fin_cases a <;> rfl
  have k := acc_at m c ⟨t.val / 11, by omega⟩ 10 (by omega) (show Fin 1024 from y 0) (show Fin 2048 from y 1)
  rw [← Par.out_eq_parts, show (⟨t.val / 11, by omega⟩ : Fin 8).val * 11 + 10 = t.val by show t.val / 11 * 11 + 10 = t.val; omega] at k
  refine ((congrArg (acc m c t.val) e).trans k).trans ?_
  refine out_eq ?_ ?_
  · blk_simp [idx6]
    rfl
  · blk_simp [idx6]

theorem idx4 : ∀ t : Fin cfg0.N, win0_4.index t = ![min t.val 63, 0] := (by decide +kernel : ∀ t : Fin grid0.N, win0_4.index t = ![min t.val 63, 0])
theorem idx5 : ∀ t : Fin cfg0.N, win0_5.index t = ![min t.val 63, 0] := (by decide +kernel : ∀ t : Fin grid0.N, win0_5.index t = ![min t.val 63, 0])
theorem idx7 : ∀ t : Fin cfg0.N, win0_7.index t = ![min t.val 63, 0] := (by decide +kernel : ∀ t : Fin grid0.N, win0_7.index t = ![min t.val 63, 0])
theorem idx8 : ∀ t : Fin cfg0.N, win0_8.index t = ![min t.val 63, 0] := (by decide +kernel : ∀ t : Fin grid0.N, win0_8.index t = ![min t.val 63, 0])

theorem blk4 (c : Dev nD) (t : Fin cfg0.N) (n : Fin 32) (k : Fin 5632) : iblk m c 4 t (ix2 n k) = m ((c.tc : Thread nD τ).loc main_arg5) (ix2 ⟨min t.val 63 * 32 + n.val, by omega⟩ k) := by
  show _ = V m c main_arg5 (ix2 ⟨min t.val 63 * 32 + n.val, by omega⟩ k)
  unfold iblk
  blk_ext [idx4]
theorem blk5 (c : Dev nD) (t : Fin cfg0.N) (n : Fin 32) (k : Fin 2048) : iblk m c 5 t (ix2 n k) = m ((c.tc : Thread nD τ).loc main_arg6) (ix2 ⟨min t.val 63 * 32 + n.val, by omega⟩ k) := by
  show _ = V m c main_arg6 (ix2 ⟨min t.val 63 * 32 + n.val, by omega⟩ k)
  unfold iblk
  blk_ext [idx5]

/-- The first cast's array: the numbers of the array that was cast. -/
theorem cast_array_in (c : Dev nD) : (dats m 0 c).arrAt 7 cfg0.N = fun y => m ((c.tc : Thread nD τ).loc main_arg5) y := by
  refine (dats m 0 c).arrAt_eq_of_covers 7 (fun y => m ((c.tc : Thread nD τ).loc main_arg5) y) (by decide +kernel) fun t hfl y => ?_
  blk_simp
  rw [after_7]
  have e : y = (ix2 (show Fin 32 from y 0) (show Fin 5632 from y 1) : S32x5632.Idx) := funext fun a => by fin_cases a <;> rfl
  refine ((congrArg (k0_pay11 (F := Ideal) (iblk m c 4 t)) e).trans (blk4 m c t (show Fin 32 from y 0) (show Fin 5632 from y 1))).trans ?_
  refine congrArg (m ((c.tc : Thread nD τ).loc main_arg5)) (funext fun a => ?_)
  match a with
  | 0 => refine Fin.ext ?_; blk_simp [idx7]
  | 1 => refine Fin.ext ?_; blk_simp [idx7]

/-- The second cast's array. -/
theorem cast_array_out (c : Dev nD) : (dats m 0 c).arrAt 8 cfg0.N = fun y => m ((c.tc : Thread nD τ).loc main_arg6) y := by
  refine (dats m 0 c).arrAt_eq_of_covers 8 (fun y => m ((c.tc : Thread nD τ).loc main_arg6) y) (by decide +kernel) fun t hfl y => ?_
  blk_simp
  rw [after_8]
  have e : y = (ix2 (show Fin 32 from y 0) (show Fin 2048 from y 1) : S32x2048.Idx) := funext fun a => by fin_cases a <;> rfl
  refine ((congrArg (k0_pay12 (F := Ideal) (iblk m c 5 t)) e).trans (blk5 m c t (show Fin 32 from y 0) (show Fin 2048 from y 1))).trans ?_
  refine congrArg (m ((c.tc : Thread nD τ).loc main_arg6)) (funext fun a => ?_)
  match a with
  | 0 => refine Fin.ext ?_; blk_simp [idx8]
  | 1 => refine Fin.ext ?_; blk_simp [idx8]

/-- The run's result, with the arguments unchanged. -/
theorem value_run (ρ : Dev nD → PrngReg) :
    θ_run defs (onTc (τ := τ) (main (F := Ideal))) ⟨m, fun _ => 0, ρ⟩ (fun r => ∀ c : Dev nD,
      r.2.mem ((c.tc : Thread nD τ).loc main_v0_0) = (fun y => (parOf m c).out (y 0) (y 1))
      ∧ r.2.mem ((c.tc : Thread nD τ).loc main_v0_1) = (fun y => m ((c.tc : Thread nD τ).loc main_arg5) y)
      ∧ r.2.mem ((c.tc : Thread nD τ).loc main_v0_2) = (fun y => m ((c.tc : Thread nD τ).loc main_arg6) y)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 6).trans (kernel_array m c),
      ((h.1 c).1 7).trans (cast_array_in m c),
      ((h.1 c).1 8).trans (cast_array_out m c),
      ((h.1 c).2 main_arg0 (Pipeline.mem_restRefs_of main_arg0 (by decide) (by decide))).trans (V_main_arg0 m c),
      ((h.1 c).1 0).trans (((dats m 0 c).arrAt_in 0 rfl _).trans ((A_eq m c 0).trans (V_main_arg1 m c))),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c))),
      ((h.1 c).1 3).trans (((dats m 0 c).arrAt_in 3 rfl _).trans ((A_eq m c 3).trans (V_main_arg4 m c))),
      ((h.1 c).1 4).trans (((dats m 0 c).arrAt_in 4 rfl _).trans ((A_eq m c 4).trans (V_main_arg5 m c))),
      ((h.1 c).1 5).trans (((dats m 0 c).arrAt_in 5 rfl _).trans ((A_eq m c 5).trans (V_main_arg6 m c)))⟩) (run_main m ρ)

end Cert.Kernel3Ideal.Hand
end
-- ==== Proof.CastRef.lean ====
module

public import proofs.«01_k».proof.Proof.Gen.Reference3Ideal.Read
public import proofs.«01_k».proof.Proof.FfnModel

/-! The reference's result at an index. -/

@[expose] public section

noncomputable section

namespace Cert.Reference3Ideal.Read

set_option maxRecDepth 16384
set_option maxHeartbeats 2000000
set_option pp.proofs false

open Idealize Idealize.ShloMosaic Cert.Ffn
open scoped BigOperators

variable (x0 : (⟨S8192x2048, .f32⟩ : BufTy).Contents (Elt Ideal)) (x1 : (⟨S1x2048, .f32⟩ : BufTy).Contents (Elt Ideal)) (x2 : (⟨S2048x5632, .f32⟩ : BufTy).Contents (Elt Ideal)) (x3 : (⟨S2048x5632, .f32⟩ : BufTy).Contents (Elt Ideal)) (x4 : (⟨S5632x2048, .f32⟩ : BufTy).Contents (Elt Ideal))

/-- The call whose numbers are the reference's arguments. -/
def parR : Par where
  x r k := x0 (ix2 r k)
  gain k := x1 (ix2 0 k)
  wg k f := x2 (ix2 k f)
  wu k f := x3 (ix2 k f)
  wd f d := x4 (ix2 f d)

theorem v11_at (r : Fin 8192) (k : Fin 2048) : val_main_v11 (F := Ideal) x0 x1 (ix2 r k) = (parR x0 x1 x2 x3 x4).h r k := by
  pointwise [val_main_v0, val_main_cst, val_main_v1, val_main_v2, val_main_cst_0, val_main_v3, val_main_v4, val_main_cst_1, val_main_v5, val_main_v6, val_main_v7, val_main_v8, val_main_v9, val_main_v10, val_main_v11]
  rfl

theorem v12_at (r : Fin 8192) (f : Fin 5632) : val_main_v12 (F := Ideal) x0 x1 x2 (ix2 r f) = (parR x0 x1 x2 x3 x4).gate r f := by
  pointwise [val_main_v12]
  simp only [v11_at x0 x1 x2 x3 x4, Par.gate]
  rfl

theorem v14_at (r : Fin 8192) (f : Fin 5632) : val_main_v14 (F := Ideal) x0 x1 x3 (ix2 r f) = (parR x0 x1 x2 x3 x4).up r f := by
  pointwise [val_main_v14]
  simp only [v11_at x0 x1 x2 x3 x4, Par.up]
  rfl

theorem one_lit : Ideal.ofBits .f32 0x3F800000#32 = 1 := by
  have h : Ideal.ofBits .f32 0x3F800000#32 = ((1 : ℝ) : EReal) := by simp [Ideal.ofBits, Ideal.ieee, -EReal.coe_mul]; try norm_num
  exact h.trans EReal.coe_one

theorem v13_at (r : Fin 8192) (f : Fin 5632) : val_main_v13 (F := Ideal) x0 x1 x2 (ix2 r f)
    = (parR x0 x1 x2 x3 x4).gate r f * Ideal.logistic ((parR x0 x1 x2 x3 x4).gate r f) := by
  pointwise [val_main_call0_v0, val_main_call0_v1, val_main_call0_cst, val_main_call0_v2, val_main_call0_v3, val_main_call0_cst_0, val_main_call0_v4, val_main_call0_v5, val_main_v13]
  simp only [v12_at x0 x1 x2 x3 x4, one_lit]
  rfl

theorem v19_at (r : Fin 8192) (d : Fin 2048) : val_main_v19 (F := Ideal) x0 x1 x2 x3 x4 (ix2 r d) = (parR x0 x1 x2 x3 x4).out r d := by
  pointwise [val_main_v15, val_main_v16, val_main_cst_2, val_main_v17, val_main_v18, val_main_v19]
  simp only [v13_at x0 x1 x2 x3 x4, v14_at x0 x1 x2 x3 x4]
  rw [half_sum]
  rfl

end Cert.Reference3Ideal.Read
end
-- ==== Proof.lean ====
/- The layer's mixing call and its reference end with equal results, and so do the two feed-forward calls and theirs.

   The value that both end with is `Cert.Mix.Par.out` (Proof/Model.lean): the layer written over chunks of 128 rows, in extended
   reals. Proof/Feed.lean shows that the kernel's array is it, Proof/RefE.lean that the reference's result is it where the
   attention's sinks and the two norms' gains are real numbers, which is what the precondition says (Proof/Finite.lean).

   For the feed-forward call the value is `Cert.Ffn.Par.out` (Proof/FfnModel.lean). Proof/FfnVal.lean shows that the kernel's array
   is it, Proof/FfnRef.lean that the reference's result is it, for all arguments. Proof/CastVal.lean and Proof/CastRef.lean show the
   same for the feed-forward call that also casts two arrays, and that the casts keep their numbers. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Run
public import proofs.«01_k».proof.Proof.Gen.Reference3Ideal.Read
public import proofs.«01_k».proof.Proof.Feed
public import proofs.«01_k».proof.Proof.RefE
public import proofs.«01_k».proof.Proof.Finite
public import proofs.«01_k».proof.Proof.BitsFrame
public import proofs.«01_k».proof.Proof.FfnVal
public import proofs.«01_k».proof.Proof.FfnRef
public import proofs.«01_k».proof.Proof.CBitsFrame
public import proofs.«01_k».proof.Proof.CastVal
public import proofs.«01_k».proof.Proof.CastRef
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem Cert.Mix

/-- The reference runs, and its arguments and counters end as they began. -/
theorem frame_reference : Cert.quiescent_ReferenceIdeal := fun m ρ _ =>
  (θ_run Cert.ReferenceIdeal.defs _ _).mono (fun r h => And.intro (fun c => (h c).2) (sem_eq_zero_of_no_sems (by decide) r.2))
    (Cert.ReferenceIdeal.Value.run (F := Ideal) m ρ)

/-- The layer's result as an array, of the kernel's arguments. -/
def outOf (m : (ℓ : Loc Cert.KernelIdeal.nD Cert.KernelIdeal.τ Cert.KernelIdeal.sig) → Buf (Elt Ideal) ℓ) (c : Dev Cert.KernelIdeal.nD) :
    (⟨Cert.ReferenceIdeal.S8192x2048, .f32⟩ : BufTy).Contents (Elt Ideal) := fun y => (Cert.KernelIdeal.Tile.parOf m c).out (y 0) (y 1)

/-- Under the precondition the reference's result is the layer's, of arguments that it shares with the kernel. -/
theorem reference_value (hP : Cert.Pre_finite_head_parameters.Facts)
    (m : (ℓ : Loc Cert.KernelIdeal.nD Cert.KernelIdeal.τ Cert.KernelIdeal.sig) → Buf (Elt Ideal) ℓ) (hm : Cert.Pre_KernelIdeal_finite_head_parameters m) (c : Dev Cert.KernelIdeal.nD) :
    Cert.ReferenceIdeal.Read.val_main_v310 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = outOf m c := by
  obtain ⟨hs, hq, hk⟩ := Cert.Pre_finite_head_parameters.real _ _ _ _ _ _ _ (hm c)
  funext y
  have e : y = ix2 (y 0) (y 1) := funext fun a => by fin_cases a <;> rfl
  exact (congrArg (Cert.ReferenceIdeal.Read.val_main_v310 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) e).trans
    (Cert.ReferenceIdeal.Read.v310_at _ _ _ _ _ _ _ (fun h => hs (ix1 h)) (fun d => hq (ix2 0 d)) (fun d => hk (ix2 0 d)) (y 0) (y 1))

theorem equal_results (hP : Cert.Pre_finite_head_parameters.Facts) : Cert.algebraic_KernelIdeal_ReferenceIdeal_pre_finite_head_parameters := by
  intro m ρ m' ρ' hm ha
  refine ⟨fun c => outOf m c, ?_, ?_⟩
  · exact (θ_run Cert.KernelIdeal.defs _ _).mono (fun r h c => ⟨(h c).1.trans (Cert.KernelIdeal.Tile.kernel_array c), (h c).2⟩)
      (Cert.KernelIdeal.Value.run_blocks m ρ)
  · refine (θ_run Cert.ReferenceIdeal.defs _ _).mono (fun r h c => ⟨((h c).1.trans (Cert.ReferenceIdeal.Read.val_main_v310_eq (launchContents m' c))).trans ?_, (h c).2⟩)
      (Cert.ReferenceIdeal.Value.run (F := Ideal) m' ρ')
    obtain ⟨a0, a1, a2, a3, a4, a5, a6⟩ := ha c
    have k := reference_value hP m hm c
    rw [← a0, ← a1, ← a2, ← a3, ← a4, ← a5, ← a6] at k
    exact k

/-- The feed-forward reference runs, and its arguments and counters end as they began. -/
theorem frame_reference2 : Cert.quiescent_Reference2Ideal := fun m ρ _ =>
  (θ_run Cert.Reference2Ideal.defs _ _).mono (fun r h => And.intro (fun c => (h c).2) (sem_eq_zero_of_no_sems (by decide) r.2))
    (Cert.Reference2Ideal.Value.run (F := Ideal) m ρ)

/-- The feed-forward result as an array, of the kernel's arguments. -/
def outOf2 (m : (ℓ : Loc Cert.Kernel2Ideal.nD Cert.Kernel2Ideal.τ Cert.Kernel2Ideal.sig) → Buf (Elt Ideal) ℓ) (c : Dev Cert.Kernel2Ideal.nD) :
    (⟨Cert.Reference2Ideal.S8192x2048, .f32⟩ : BufTy).Contents (Elt Ideal) := fun y => (Cert.Kernel2Ideal.Hand.parOf m c).out (y 0) (y 1)

/-- The feed-forward reference's result is the call's, of arguments that it shares with the kernel. -/
theorem reference_value2 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v19 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = outOf2 m c := by
  funext y
  have e : y = ix2 (y 0) (y 1) := funext fun a => by fin_cases a <;> rfl
  exact (congrArg (Cert.Reference2Ideal.Read.val_main_v19 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) e).trans
    (Cert.Reference2Ideal.Read.v19_at _ _ _ _ _ (y 0) (y 1))

theorem equal_results2 : Cert.algebraic_Kernel2Ideal_Reference2Ideal := by
  intro m ρ m' ρ' _ ha
  refine ⟨fun c => outOf2 m c, Cert.Kernel2Ideal.Hand.value_run m ρ, ?_⟩
  refine (θ_run Cert.Reference2Ideal.defs _ _).mono (fun r h c => ⟨((h c).1.trans (Cert.Reference2Ideal.Read.val_main_v19_eq _ _ _ _ _)).trans ?_, (h c).2⟩)
    (Cert.Reference2Ideal.Value.run (F := Ideal) m' ρ')
  obtain ⟨a0, a1, a2, a3, a4⟩ := ha c
  have k := reference_value2 m c
  rw [← a0, ← a1, ← a2, ← a3, ← a4] at k
  exact k

/-- The casting feed-forward reference runs, and its arguments and counters end as they began. -/
theorem frame_reference3 : Cert.quiescent_Reference3Ideal := fun m ρ _ =>
  (θ_run Cert.Reference3Ideal.defs _ _).mono (fun r h => And.intro (fun c => (h c).2.2.2) (sem_eq_zero_of_no_sems (by decide) r.2))
    (Cert.Reference3Ideal.Value.run (F := Ideal) m ρ)

/-- The casting feed-forward result as an array, of the kernel's arguments. -/
def outOf3 (m : (ℓ : Loc Cert.Kernel3Ideal.nD Cert.Kernel3Ideal.τ Cert.Kernel3Ideal.sig) → Buf (Elt Ideal) ℓ) (c : Dev Cert.Kernel3Ideal.nD) :
    (⟨Cert.Reference3Ideal.S8192x2048, .f32⟩ : BufTy).Contents (Elt Ideal) := fun y => (Cert.Kernel3Ideal.Hand.parOf m c).out (y 0) (y 1)

/-- The casting feed-forward reference's result is the call's, of arguments that it shares with the kernel. -/
theorem reference_value3 (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v19 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))
      = outOf3 m c := by
  funext y
  have e : y = ix2 (y 0) (y 1) := funext fun a => by fin_cases a <;> rfl
  exact (congrArg (Cert.Reference3Ideal.Read.val_main_v19 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) e).trans
    (Cert.Reference3Ideal.Read.v19_at _ _ _ _ _ (y 0) (y 1))

theorem equal_results3 : Cert.algebraic_Kernel3Ideal_Reference3Ideal := by
  intro m ρ m' ρ' _ ha
  refine ⟨fun c => outOf3 m c, fun c y => m ((c.tc : Thread Cert.Kernel3Ideal.nD Cert.Kernel3Ideal.τ).loc Cert.Kernel3Ideal.main_arg5) y,
    fun c y => m ((c.tc : Thread Cert.Kernel3Ideal.nD Cert.Kernel3Ideal.τ).loc Cert.Kernel3Ideal.main_arg6) y, Cert.Kernel3Ideal.Hand.value_run m ρ, ?_⟩
  refine (θ_run Cert.Reference3Ideal.defs _ _).mono (fun r h c => ⟨((h c).1.trans (Cert.Reference3Ideal.Read.val_main_v19_eq _ _ _ _ _)).trans ?_,
      (h c).2.1.trans ?_, (h c).2.2.1.trans ?_, (h c).2.2.2⟩)
    (Cert.Reference3Ideal.Value.run (F := Ideal) m' ρ')
  · obtain ⟨a0, a1, a2, a3, a4, a5, a6⟩ := ha c
    have k := reference_value3 m c
    rw [← a0, ← a1, ← a2, ← a3, ← a4] at k
    exact k
  · obtain ⟨a0, a1, a2, a3, a4, a5, a6⟩ := ha c
    rw [a5]; rfl
  · obtain ⟨a0, a1, a2, a3, a4, a5, a6⟩ := ha c
    rw [a6]; rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite_head_parameters.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ True.intro,
    fun m ρ _ => Cert.Kernel2.Hand.frame_run m ρ, fun m ρ _ => Cert.Kernel2Ideal.Hand.frame_run m ρ, frame_reference2,
    fun m ρ _ => Cert.Kernel3.Hand.frame_run m ρ, fun m ρ _ => Cert.Kernel3Ideal.Hand.frame_run m ρ, frame_reference3,
    trivial, equal_results Cert.Pre_finite_head_parameters.facts, trivial, equal_results2, trivial, equal_results3⟩

end Cert.Proof

end
